-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Moe [hPre_plan : Cert.Pre_plan.Facts] (m : (ℓ : Loc Cert.Moe.nD Cert.Moe.τ Cert.Moe.sig) → Buf (Elt Bits) ℓ) : Prop :=
  ∀ c : Dev Cert.Moe.nD,
    (Cert.Pre_plan.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))) = (fun _ => 1#1)

def Pre_MoeIdeal [hPre_plan : Cert.Pre_plan.Facts] (m : (ℓ : Loc Cert.MoeIdeal.nD Cert.MoeIdeal.τ Cert.MoeIdeal.sig) → Buf (Elt Ideal) ℓ) : Prop :=
  ∀ c : Dev Cert.MoeIdeal.nD,
    (Cert.Pre_plan.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_plan [hPre_plan : Cert.Pre_plan.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_plan.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Moe [hMoe : Cert.Moe.Facts] [hPre_plan : Cert.Pre_plan.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] [hPre_plan : Cert.Pre_plan.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7))
      ∧ r.2.sem = fun _ => 0)

def quiescent_MoeReferenceIdeal_pre_plan [hMoeReferenceIdeal : Cert.MoeReferenceIdeal.Facts] [hPre_plan : Cert.Pre_plan.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_plan m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Moe_MoeIdeal : Prop :=
  True

def algebraic_MoeIdeal_MoeReferenceIdeal [hMoeIdeal : Cert.MoeIdeal.Facts] [hMoeReferenceIdeal : Cert.MoeReferenceIdeal.Facts] [hPre_plan : Cert.Pre_plan.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)
      ∧ m' ((c.tc : Thread Cert.MoeReferenceIdeal.nD Cert.MoeReferenceIdeal.τ).loc Cert.MoeReferenceIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v63) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v92_0)) (v1 : (c : Dev Cert.ProjIdeal.nD) → Buf (Elt Ideal) ((c.tc : Thread Cert.ProjIdeal.nD Cert.ProjIdeal.τ).loc Cert.ProjIdeal.main_v92_1)) (v2 : (c : Dev Cert.ProjIdeal.nD) → Buf (Elt Ideal) ((c.tc : Thread Cert.ProjIdeal.nD Cert.ProjIdeal.τ).loc Cert.ProjIdeal.main_v92_2)) (v3 : (c : Dev Cert.ProjIdeal.nD) → Buf (Elt Ideal) ((c.tc : Thread Cert.ProjIdeal.nD Cert.ProjIdeal.τ).loc Cert.ProjIdeal.main_v92_3)) (v4 : (c : Dev Cert.ProjIdeal.nD) → Buf (Elt Ideal) ((c.tc : Thread Cert.ProjIdeal.nD Cert.ProjIdeal.τ).loc Cert.ProjIdeal.main_v92_4)) (v5 : (c : Dev Cert.ProjIdeal.nD) → Buf (Elt Ideal) ((c.tc : Thread Cert.ProjIdeal.nD Cert.ProjIdeal.τ).loc Cert.ProjIdeal.main_v92_5)) (v6 : (c : Dev Cert.ProjIdeal.nD) → Buf (Elt Ideal) ((c.tc : Thread Cert.ProjIdeal.nD Cert.ProjIdeal.τ).loc Cert.ProjIdeal.main_v92_6)) (v7 : (c : Dev Cert.ProjIdeal.nD) → Buf (Elt Ideal) ((c.tc : Thread Cert.ProjIdeal.nD Cert.ProjIdeal.τ).loc Cert.ProjIdeal.main_v92_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v92_0) = v0 c
          ∧ r.2.mem ((c.tc : Thread Cert.ProjIdeal.nD Cert.ProjIdeal.τ).loc Cert.ProjIdeal.main_v92_1) = v1 c
          ∧ r.2.mem ((c.tc : Thread Cert.ProjIdeal.nD Cert.ProjIdeal.τ).loc Cert.ProjIdeal.main_v92_2) = v2 c
          ∧ r.2.mem ((c.tc : Thread Cert.ProjIdeal.nD Cert.ProjIdeal.τ).loc Cert.ProjIdeal.main_v92_3) = v3 c
          ∧ r.2.mem ((c.tc : Thread Cert.ProjIdeal.nD Cert.ProjIdeal.τ).loc Cert.ProjIdeal.main_v92_4) = v4 c
          ∧ r.2.mem ((c.tc : Thread Cert.ProjIdeal.nD Cert.ProjIdeal.τ).loc Cert.ProjIdeal.main_v92_5) = v5 c
          ∧ r.2.mem ((c.tc : Thread Cert.ProjIdeal.nD Cert.ProjIdeal.τ).loc Cert.ProjIdeal.main_v92_6) = v6 c
          ∧ r.2.mem ((c.tc : Thread Cert.ProjIdeal.nD Cert.ProjIdeal.τ).loc Cert.ProjIdeal.main_v92_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v149) = v0 c
          ∧ r.2.mem ((c.tc : Thread Cert.ProjReferenceIdeal.nD Cert.ProjReferenceIdeal.τ).loc Cert.ProjReferenceIdeal.main_v154) = v1 c
          ∧ r.2.mem ((c.tc : Thread Cert.ProjReferenceIdeal.nD Cert.ProjReferenceIdeal.τ).loc Cert.ProjReferenceIdeal.main_v158) = v2 c
          ∧ r.2.mem ((c.tc : Thread Cert.ProjReferenceIdeal.nD Cert.ProjReferenceIdeal.τ).loc Cert.ProjReferenceIdeal.main_v162) = v3 c
          ∧ r.2.mem ((c.tc : Thread Cert.ProjReferenceIdeal.nD Cert.ProjReferenceIdeal.τ).loc Cert.ProjReferenceIdeal.main_v244) = v4 c
          ∧ r.2.mem ((c.tc : Thread Cert.ProjReferenceIdeal.nD Cert.ProjReferenceIdeal.τ).loc Cert.ProjReferenceIdeal.main_v250) = v5 c
          ∧ r.2.mem ((c.tc : Thread Cert.ProjReferenceIdeal.nD Cert.ProjReferenceIdeal.τ).loc Cert.ProjReferenceIdeal.main_v254) = v6 c
          ∧ r.2.mem ((c.tc : Thread Cert.ProjReferenceIdeal.nD Cert.ProjReferenceIdeal.τ).loc Cert.ProjReferenceIdeal.main_v255) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeReferenceIdeal : Cert.MoeReferenceIdeal.Facts) (hProj : Cert.Proj.Facts) (hProjIdeal : Cert.ProjIdeal.Facts) (hProjReferenceIdeal : Cert.ProjReferenceIdeal.Facts) (hPre_finite : Cert.Pre_finite.Facts) (hPre_plan : Cert.Pre_plan.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Moe (hMoe := hMoe) (hPre_plan := hPre_plan)
    ∧ quiescent_MoeIdeal (hMoeIdeal := hMoeIdeal) (hPre_plan := hPre_plan)
    ∧ quiescent_MoeReferenceIdeal (hMoeReferenceIdeal := hMoeReferenceIdeal)
    ∧ quiescent_MoeReferenceIdeal_pre_plan (hMoeReferenceIdeal := hMoeReferenceIdeal) (hPre_plan := hPre_plan)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Moe_MoeIdeal
    ∧ algebraic_MoeIdeal_MoeReferenceIdeal (hMoeIdeal := hMoeIdeal) (hMoeReferenceIdeal := hMoeReferenceIdeal) (hPre_plan := hPre_plan)
    ∧ preserves_Proj_ProjIdeal
    ∧ algebraic_ProjIdeal_ProjReferenceIdeal (hProjIdeal := hProjIdeal) (hProjReferenceIdeal := hProjReferenceIdeal)
-- ==== Pre_finite.lean ====
abbrev S48x8x256x128 : Shape := ⟨4, ![48, 8, 256, 128]⟩
abbrev S48x8x256x64 : Shape := ⟨4, ![48, 8, 256, 64]⟩
abbrev S2x4x8x256x128 : Shape := ⟨5, ![2, 4, 8, 256, 128]⟩
abbrev S2x4x8x256x64 : Shape := ⟨5, ![2, 4, 8, 256, 64]⟩
abbrev S16x8x256x128 : Shape := ⟨4, ![16, 8, 256, 128]⟩
abbrev S_ : Shape := ⟨0, ![]⟩
abbrev S2x1x8x256x128 : Shape := ⟨5, ![2, 1, 8, 256, 128]⟩
abbrev S2x8x256x128 : Shape := ⟨4, ![2, 8, 256, 128]⟩

class Facts : Prop where
  slices_S48x8x256x128_S16x8x256x128_32_0_0_0 : S48x8x256x128.Slices ![32, 0, 0, 0] S16x8x256x128
  bitsLt_bf16_f32 : FTy.bits .bf16 < FTy.bits .f32
  bcast_S_S16x8x256x128 : S_.BroadcastsInDim S16x8x256x128 (![] : Fin 0 → Fin S16x8x256x128.rank)
  reducesTo_S16x8x256x128_S_d0_1_2_3 : S16x8x256x128.ReducesTo [0, 1, 2, 3] S_
  h_S_ : 0 < S_.numel
  slices_S2x4x8x256x128_S2x1x8x256x128_0_0_0_0_0 : S2x4x8x256x128.Slices ![0, 0, 0, 0, 0] S2x1x8x256x128
  shapeCasts_S2x1x8x256x128_S2x8x256x128 : S2x1x8x256x128.ShapeCasts S2x8x256x128
  bcast_S_S2x8x256x128 : S_.BroadcastsInDim S2x8x256x128 (![] : Fin 0 → Fin S2x8x256x128.rank)
  reducesTo_S2x8x256x128_S_d0_1_2_3 : S2x8x256x128.ReducesTo [0, 1, 2, 3] S_

variable [Facts]

def fn_part1 {F : FTy → Type} [FloatOps F] (main_v12 : IVec S_ 1) (main_v18 : IVec S2x8x256x128 1) : IVec S_ 1 :=
  let main_c_3 : IVec S_ 1 := constantI S_ 1 1#1
  let main_v19 : IVec S_ 1 := (fun x v => Host.reduce IntOp.andi x v reducesTo_S2x8x256x128_S_d0_1_2_3 h_S_) main_v18 main_c_3
  let main_v20 : IVec S_ 1 := andi main_v12 main_v19
  main_v20

def fn {F : FTy → Type} [FloatOps F] (main_arg0 : FVec F S48x8x256x128 .bf16) (main_arg1 : FVec F S48x8x256x128 .bf16) (main_arg2 : FVec F S48x8x256x64 .bf16) (main_arg3 : FVec F S2x4x8x256x128 .bf16) (main_arg4 : FVec F S2x4x8x256x64 .bf16) : IVec S_ 1 :=
  let main_v0 : FVec F S16x8x256x128 .bf16 := (extractStridedSlice S16x8x256x128 ![32, 0, 0, 0] · slices_S48x8x256x128_S16x8x256x128_32_0_0_0) main_arg0
  let main_v1 : FVec F S16x8x256x128 .f32 := (extf .f32 · bitsLt_bf16_f32) main_v0
  let main_v2 : FVec F S16x8x256x128 .f32 := Host.absf main_v1
  let main_cst : FVec F S_ .f32 := constant S_ .f32 0x7F800000#32
  let main_v3 : FVec F S16x8x256x128 .f32 := broadcastInDim S16x8x256x128 ![] bcast_S_S16x8x256x128 main_cst
  let main_v4 : IVec S16x8x256x128 1 := cmpf .olt main_v2 main_v3
  let main_c : IVec S_ 1 := constantI S_ 1 1#1
  let main_v5 : IVec S_ 1 := (fun x v => Host.reduce IntOp.andi x v reducesTo_S16x8x256x128_S_d0_1_2_3 h_S_) main_v4 main_c
  let main_v6 : FVec F S16x8x256x128 .bf16 := (extractStridedSlice S16x8x256x128 ![32, 0, 0, 0] · slices_S48x8x256x128_S16x8x256x128_32_0_0_0) main_arg1
  let main_v7 : FVec F S16x8x256x128 .f32 := (extf .f32 · bitsLt_bf16_f32) main_v6
  let main_v8 : FVec F S16x8x256x128 .f32 := Host.absf main_v7
  let main_cst_0 : FVec F S_ .f32 := constant S_ .f32 0x7F800000#32
  let main_v9 : FVec F S16x8x256x128 .f32 := broadcastInDim S16x8x256x128 ![] bcast_S_S16x8x256x128 main_cst_0
  let main_v10 : IVec S16x8x256x128 1 := cmpf .olt main_v8 main_v9
  let main_c_1 : IVec S_ 1 := constantI S_ 1 1#1
  let main_v11 : IVec S_ 1 := (fun x v => Host.reduce IntOp.andi x v reducesTo_S16x8x256x128_S_d0_1_2_3 h_S_) main_v10 main_c_1
  let main_v12 : IVec S_ 1 := andi main_v5 main_v11
  let main_v13 : FVec F S2x1x8x256x128 .bf16 := (extractStridedSlice S2x1x8x256x128 ![0, 0, 0, 0, 0] · slices_S2x4x8x256x128_S2x1x8x256x128_0_0_0_0_0) main_arg3
  let main_v14 : FVec F S2x8x256x128 .bf16 := shapeCast S2x8x256x128 main_v13 shapeCasts_S2x1x8x256x128_S2x8x256x128
  let main_v15 : FVec F S2x8x256x128 .f32 := (extf .f32 · bitsLt_bf16_f32) main_v14
  let main_v16 : FVec F S2x8x256x128 .f32 := Host.absf main_v15
  let main_cst_2 : FVec F S_ .f32 := constant S_ .f32 0x7F800000#32
  let main_v17 : FVec F S2x8x256x128 .f32 := broadcastInDim S2x8x256x128 ![] bcast_S_S2x8x256x128 main_cst_2
  let main_v18 : IVec S2x8x256x128 1 := cmpf .olt main_v16 main_v17
  fn_part1 (F := F) main_v12 main_v18
-- ==== Pre_plan.lean ====
abbrev S224 : Shape := ⟨1, ![224]⟩
abbrev S1 : Shape := ⟨1, ![1]⟩
abbrev S57344x1024 : Shape := ⟨2, ![57344, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩
abbrev S223 : Shape := ⟨1, ![223]⟩

class Facts : Prop where
  bcast_S_S1 : S_.BroadcastsInDim S1 (![] : Fin 0 → Fin S1.rank)
  slices_S224_S223_1 : S224.Slices ![1] S223
  slices_S224_S223_0 : S224.Slices ![0] S223
  concatenates_S1_S223_S224_d0 : Shape.Concatenates [S1, S223] S224 0
  bcast_S_S224 : S_.BroadcastsInDim S224 (![] : Fin 0 → Fin S224.rank)
  reducesTo_S224_S_d0 : S224.ReducesTo [0] S_
  h_S_ : 0 < S_.numel
  shapeCasts_S1_S_ : S1.ShapeCasts S_

variable [Facts]

def fn_part1 {F : FTy → Type} [FloatOps F] (main_v15 : IVec S_ 1) (main_v16 : IVec S_ 32) (main_c_5 : IVec S_ 32) : IVec S_ 1 :=
  let main_v17 : IVec S_ 1 := cmpi .sge main_v16 main_c_5
  let main_v18 : IVec S_ 1 := andi main_v15 main_v17
  main_v18

def fn {F : FTy → Type} [FloatOps F] (main_arg0 : IVec S224 32) (main_arg1 : IVec S224 32) (main_arg2 : IVec S1 32) (main_arg3 : FVec F S57344x1024 .f32) (main_arg4 : FVec F S32x1024x2048 .f32) (main_arg5 : FVec F S32x1x2048 .f32) (main_arg6 : FVec F S32x1024x1024 .f32) (main_arg7 : FVec F S32x1x1024 .f32) : IVec S_ 1 :=
  let main_c : IVec S_ 1 := constantI S_ 1 0#1
  let main_v0 : IVec S1 1 := broadcastInDim S1 ![] bcast_S_S1 main_c
  let main_v1 : IVec S223 32 := (extractStridedSlice S223 ![1] · slices_S224_S223_1) main_arg0
  let main_v2 : IVec S223 32 := (extractStridedSlice S223 ![0] · slices_S224_S223_0) main_arg0
  let main_v3 : IVec S223 1 := cmpi .eq main_v1 main_v2
  let main_v4 : IVec S224 1 := (fun a b => concatenate S224 0 [⟨S1, a⟩, ⟨S223, b⟩] concatenates_S1_S223_S224_d0) main_v0 main_v3
  let main_c_0 : IVec S_ 32 := constantI S_ 32 0#32
  let main_v5 : IVec S224 32 := broadcastInDim S224 ![] bcast_S_S224 main_c_0
  let main_v6 : IVec S224 1 := cmpi .sge main_arg0 main_v5
  let main_c_1 : IVec S_ 32 := constantI S_ 32 32#32
  let main_v7 : IVec S224 32 := broadcastInDim S224 ![] bcast_S_S224 main_c_1
  let main_v8 : IVec S224 1 := cmpi .slt main_arg0 main_v7
  let main_v9 : IVec S224 1 := andi main_v6 main_v8
  let main_c_2 : IVec S_ 1 := constantI S_ 1 1#1
  let main_v10 : IVec S_ 1 := (fun x v => Host.reduce IntOp.andi x v reducesTo_S224_S_d0 h_S_) main_v9 main_c_2
  let main_c_3 : IVec S_ 32 := constantI S_ 32 1#32
  let main_v11 : IVec S224 32 := broadcastInDim S224 ![] bcast_S_S224 main_c_3
  let main_v12 : IVec S224 1 := cmpi .eq main_arg1 main_v11
  let main_v13 : IVec S224 1 := ori main_v12 main_v4
  let main_c_4 : IVec S_ 1 := constantI S_ 1 1#1
  let main_v14 : IVec S_ 1 := (fun x v => Host.reduce IntOp.andi x v reducesTo_S224_S_d0 h_S_) main_v13 main_c_4
  let main_v15 : IVec S_ 1 := andi main_v10 main_v14
  let main_v16 : IVec S_ 32 := shapeCast S_ main_arg2 shapeCasts_S1_S_
  let main_c_5 : IVec S_ 32 := constantI S_ 32 1#32
  fn_part1 (F := F) main_v15 main_v16 main_c_5
-- ==== Kernel.lean ====
abbrev S48x8x256x128 : Shape := ⟨4, ![48, 8, 256, 128]⟩
abbrev S48x8x256x64 : Shape := ⟨4, ![48, 8, 256, 64]⟩
abbrev S2x4x8x256x128 : Shape := ⟨5, ![2, 4, 8, 256, 128]⟩
abbrev S2x4x8x256x64 : Shape := ⟨5, ![2, 4, 8, 256, 64]⟩
abbrev S16x8x256x128 : Shape := ⟨4, ![16, 8, 256, 128]⟩
abbrev S2x8x8x256x128 : Shape := ⟨5, ![2, 8, 8, 256, 128]⟩
abbrev S16x8x256x64 : Shape := ⟨4, ![16, 8, 256, 64]⟩
abbrev S2x8x8x256x64 : Shape := ⟨5, ![2, 8, 8, 256, 64]⟩
abbrev S4096x512 : Shape := ⟨2, ![4096, 512]⟩
abbrev S1x8x256x128 : Shape := ⟨4, ![1, 8, 256, 128]⟩
abbrev S1x8x8x256x128 : Shape := ⟨5, ![1, 8, 8, 256, 128]⟩
abbrev S1x8x8x256x64 : Shape := ⟨5, ![1, 8, 8, 256, 64]⟩
abbrev S1x1x8x256x128 : Shape := ⟨5, ![1, 1, 8, 256, 128]⟩
abbrev S1x1x8x256x64 : Shape := ⟨5, ![1, 1, 8, 256, 64]⟩
abbrev S256x512 : Shape := ⟨2, ![256, 512]⟩
abbrev S1x1x256x128 : Shape := ⟨4, ![1, 1, 256, 128]⟩
abbrev S256x128 : Shape := ⟨2, ![256, 128]⟩
abbrev S1x8x1x256x128 : Shape := ⟨5, ![1, 8, 1, 256, 128]⟩
abbrev S8x256x128 : Shape := ⟨3, ![8, 256, 128]⟩
abbrev S2048x128 : Shape := ⟨2, ![2048, 128]⟩
abbrev S1x8x1x256x64 : Shape := ⟨5, ![1, 8, 1, 256, 64]⟩
abbrev S8x256x64 : Shape := ⟨3, ![8, 256, 64]⟩
abbrev S2048x64 : Shape := ⟨2, ![2048, 64]⟩
abbrev S256x2048 : Shape := ⟨2, ![256, 2048]⟩
abbrev S1x1x1x256x128 : Shape := ⟨5, ![1, 1, 1, 256, 128]⟩
abbrev S256x256 : Shape := ⟨2, ![256, 256]⟩
abbrev S1x1x1x256x64 : Shape := ⟨5, ![1, 1, 1, 256, 64]⟩
abbrev S256x64 : Shape := ⟨2, ![256, 64]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S48x8x256x128, .bf16⟩
  | .hbm, ⟨1, _⟩ => ⟨S48x8x256x128, .bf16⟩
  | .hbm, ⟨2, _⟩ => ⟨S48x8x256x64, .bf16⟩
  | .hbm, ⟨3, _⟩ => ⟨S2x4x8x256x128, .bf16⟩
  | .hbm, ⟨4, _⟩ => ⟨S2x4x8x256x64, .bf16⟩
  | .hbm, ⟨5, _⟩ => ⟨S16x8x256x128, .bf16⟩
  | .hbm, ⟨6, _⟩ => ⟨S2x8x8x256x128, .bf16⟩
  | .hbm, ⟨7, _⟩ => ⟨S16x8x256x64, .bf16⟩
  | .hbm, ⟨8, _⟩ => ⟨S2x8x8x256x64, .bf16⟩
  | .hbm, ⟨9, _⟩ => ⟨S4096x512, .f32⟩
  | .local _ .vmem, ⟨0, _⟩ => ⟨S1x8x256x128, .bf16⟩
  | .local _ .vmem, ⟨1, _⟩ => ⟨S1x8x256x128, .bf16⟩
  | .local _ .vmem, ⟨2, _⟩ => ⟨S1x8x8x256x128, .bf16⟩
  | .local _ .vmem, ⟨3, _⟩ => ⟨S1x8x8x256x128, .bf16⟩
  | .local _ .vmem, ⟨4, _⟩ => ⟨S1x8x8x256x64, .bf16⟩
  | .local _ .vmem, ⟨5, _⟩ => ⟨S1x8x8x256x64, .bf16⟩
  | .local _ .vmem, ⟨6, _⟩ => ⟨S1x1x8x256x128, .bf16⟩
  | .local _ .vmem, ⟨7, _⟩ => ⟨S1x1x8x256x128, .bf16⟩
  | .local _ .vmem, ⟨8, _⟩ => ⟨S1x1x8x256x64, .bf16⟩
  | .local _ .vmem, ⟨9, _⟩ => ⟨S1x1x8x256x64, .bf16⟩
  | .local _ .vmem, ⟨10, _⟩ => ⟨S256x512, .f32⟩
  | .local _ .vmem, ⟨11, _⟩ => ⟨S256x512, .f32⟩
  | _, _ => ⟨S48x8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x8x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S48x8x256x128 : Shape := ⟨4, ![48, 8, 256, 128]⟩
abbrev S48x8x256x64 : Shape := ⟨4, ![48, 8, 256, 64]⟩
abbrev S2x4x8x256x128 : Shape := ⟨5, ![2, 4, 8, 256, 128]⟩
abbrev S2x4x8x256x64 : Shape := ⟨5, ![2, 4, 8, 256, 64]⟩
abbrev S16x8x256x128 : Shape := ⟨4, ![16, 8, 256, 128]⟩
abbrev S2x8x8x256x128 : Shape := ⟨5, ![2, 8, 8, 256, 128]⟩
abbrev S2x8x2048x128 : Shape := ⟨4, ![2, 8, 2048, 128]⟩
abbrev S2x1x8x256x128 : Shape := ⟨5, ![2, 1, 8, 256, 128]⟩
abbrev S2x8x256x128 : Shape := ⟨4, ![2, 8, 256, 128]⟩
abbrev S2x8x2304x128 : Shape := ⟨4, ![2, 8, 2304, 128]⟩
abbrev S16x8x256x64 : Shape := ⟨4, ![16, 8, 256, 64]⟩
abbrev S2x8x8x256x64 : Shape := ⟨5, ![2, 8, 8, 256, 64]⟩
abbrev S2x8x2048x64 : Shape := ⟨4, ![2, 8, 2048, 64]⟩
abbrev S2x1x8x256x64 : Shape := ⟨5, ![2, 1, 8, 256, 64]⟩
abbrev S2x8x256x64 : Shape := ⟨4, ![2, 8, 256, 64]⟩
abbrev S2x8x2304x64 : Shape := ⟨4, ![2, 8, 2304, 64]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x2048x8x64 : Shape := ⟨4, ![2, 2048, 8, 64]⟩
abbrev S4096x512 : Shape := ⟨2, ![4096, 512]⟩

abbrev nBuf : Space → Nat
  | .hbm => 49
  | .vmem => 0
  | .smem => 0
  | _ => 0

abbrev bufTy : (tb : Table) → Fin (tcTables nBuf tb) → BufTy
  | .hbm, ⟨0, _⟩ => ⟨S48x8x256x128, .bf16⟩
  | .hbm, ⟨1, _⟩ => ⟨S48x8x256x128, .bf16⟩
  | .hbm, ⟨2, _⟩ => ⟨S48x8x256x64, .bf16⟩
  | .hbm, ⟨3, _⟩ => ⟨S2x4x8x256x128, .bf16⟩
  | .hbm, ⟨4, _⟩ => ⟨S2x4x8x256x64, .bf16⟩
  | .hbm, ⟨5, _⟩ => ⟨S16x8x256x128, .bf16⟩
  | .hbm, ⟨6, _⟩ => ⟨S16x8x256x128, .f32⟩
  | .hbm, ⟨7, _⟩ => ⟨S2x8x8x256x128, .f32⟩
  | .hbm, ⟨8, _⟩ => ⟨S2x8x8x256x128, .f32⟩
  | .hbm, ⟨9, _⟩ => ⟨S2x8x2048x128, .f32⟩
  | .hbm, ⟨10, _⟩ => ⟨S16x8x256x128, .bf16⟩
  | .hbm, ⟨11, _⟩ => ⟨S16x8x256x128, .f32⟩
  | .hbm, ⟨12, _⟩ => ⟨S2x8x8x256x128, .f32⟩
  | .hbm, ⟨13, _⟩ => ⟨S2x8x8x256x128, .f32⟩
  | .hbm, ⟨14, _⟩ => ⟨S2x8x2048x128, .f32⟩
  | .hbm, ⟨15, _⟩ => ⟨S2x1x8x256x128, .bf16⟩
  | .hbm, ⟨16, _⟩ => ⟨S2x8x256x128, .bf16⟩
  | .hbm, ⟨17, _⟩ => ⟨S2x8x256x128, .f32⟩
  | .hbm, ⟨18, _⟩ => ⟨S2x8x2304x128, .f32⟩
  | .hbm, ⟨19, _⟩ => ⟨S16x8x256x64, .bf16⟩
  | .hbm, ⟨20, _⟩ => ⟨S16x8x256x64, .f32⟩
  | .hbm, ⟨21, _⟩ => ⟨S2x8x8x256x64, .f32⟩
  | .hbm, ⟨22, _⟩ => ⟨S2x8x8x256x64, .f32⟩
  | .hbm, ⟨23, _⟩ => ⟨S2x8x2048x64, .f32⟩
  | .hbm, ⟨24, _⟩ => ⟨S2x1x8x256x64, .bf16⟩
  | .hbm, ⟨25, _⟩ => ⟨S2x8x256x64, .bf16⟩
  | .hbm, ⟨26, _⟩ => ⟨S2x8x256x64, .f32⟩
  | .hbm, ⟨27, _⟩ => ⟨S2x8x2304x64, .f32⟩
  | .hbm, ⟨28, _⟩ => ⟨S2x8x2048x2304, .f32⟩
  | .hbm, ⟨29, _⟩ => ⟨S_, .f32⟩
  | .hbm, ⟨30, _⟩ => ⟨S2x8x2048x2304, .f32⟩
  | .hbm, ⟨31, _⟩ => ⟨S2x8x2048x2304, .f32⟩
  | .hbm, ⟨32, _⟩ => ⟨S_, .f32⟩
  | .hbm, ⟨33, _⟩ => ⟨S2x8x2048, .f32⟩
  | .hbm, ⟨34, _⟩ => ⟨S_, .f32⟩
  | .hbm, ⟨35, _⟩ => ⟨S2x8x2048, .f32⟩
  | .hbm, ⟨36, _⟩ => ⟨S2x8x2048, .f32⟩
  | .hbm, ⟨37, _⟩ => ⟨S2x8x2048x1, .f32⟩
  | .hbm, ⟨38, _⟩ => ⟨S2x8x2048x2304, .f32⟩
  | .hbm, ⟨39, _⟩ => ⟨S2x8x2048x2304, .f32⟩
  | .hbm, ⟨40, _⟩ => ⟨S2x8x2048x2304, .f32⟩
  | .hbm, ⟨41, _⟩ => ⟨S_, .f32⟩
  | .hbm, ⟨42, _⟩ => ⟨S2x8x2048, .f32⟩
  | .hbm, ⟨43, _⟩ => ⟨S2x8x2048x1, .f32⟩
  | .hbm, ⟨44, _⟩ => ⟨S2x8x2048x2304, .f32⟩
  | .hbm, ⟨45, _⟩ => ⟨S2x8x2048x2304, .f32⟩
  | .hbm, ⟨46, _⟩ => ⟨S2x8x2048x64, .f32⟩
  | .hbm, ⟨47, _⟩ => ⟨S2x2048x8x64, .f32⟩
  | .hbm, ⟨48, _⟩ => ⟨S4096x512, .f32⟩
  | _, _ => ⟨S48x8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Moe.lean ====
abbrev S224 : Shape := ⟨1, ![224]⟩
abbrev S1 : Shape := ⟨1, ![1]⟩
abbrev S57344x1024 : Shape := ⟨2, ![57344, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S57344x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S57344x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S224, .i32⟩
  | .local _ .smem, ⟨1, _⟩ => ⟨S224, .i32⟩
  | .local _ .smem, ⟨2, _⟩ => ⟨S1, .i32⟩
  | _, _ => ⟨S57344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![224], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v5 : BitVec 32) : BitVec 1 :=
  let arg0 : BitVec 32 := BitVec.ofNat 32 (i 0).val
  let v6 : BitVec 1 := Scalar.cmpi .slt arg0 v5
  let v7 : BitVec 32 := Scalar.extui v6
  let c0_i32_0 : BitVec 32 := 0#32
  let v8 : BitVec 1 := Scalar.cmpi .ne v7 c0_i32_0
  v8

def k0_cond3 (i : grid0.Coords) (v9 : BitVec 32) : BitVec 1 :=
  let arg0 : BitVec 32 := BitVec.ofNat 32 (i 0).val
  let v10 : BitVec 1 := Scalar.cmpi .sge arg0 v9
  let v11 : BitVec 32 := Scalar.extui v10
  let c0_i32_2 : BitVec 32 := 0#32
  let v12 : BitVec 1 := Scalar.cmpi .ne v11 c0_i32_2
  v12

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeReferenceIdeal.lean ====
abbrev S224 : Shape := ⟨1, ![224]⟩
abbrev S1 : Shape := ⟨1, ![1]⟩
abbrev S57344x1024 : Shape := ⟨2, ![57344, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S224x256x1024 : Shape := ⟨3, ![224, 256, 1024]⟩
abbrev S_ : Shape := ⟨0, ![]⟩
abbrev S224x1 : Shape := ⟨2, ![224, 1]⟩
abbrev S224x1024x2048 : Shape := ⟨3, ![224, 1024, 2048]⟩
abbrev S224x256x2048 : Shape := ⟨3, ![224, 256, 2048]⟩
abbrev S224x1x2048 : Shape := ⟨3, ![224, 1, 2048]⟩
abbrev S224x1024x1024 : Shape := ⟨3, ![224, 1024, 1024]⟩
abbrev S224x1x1024 : Shape := ⟨3, ![224, 1, 1024]⟩
abbrev S224x1x1 : Shape := ⟨3, ![224, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S224, .i32⟩
  | .hbm, ⟨1, _⟩ => ⟨S224, .i32⟩
  | .hbm, ⟨2, _⟩ => ⟨S1, .i32⟩
  | .hbm, ⟨3, _⟩ => ⟨S57344x1024, .f32⟩
  | .hbm, ⟨4, _⟩ => ⟨S32x1024x2048, .f32⟩
  | .hbm, ⟨5, _⟩ => ⟨S32x1x2048, .f32⟩
  | .hbm, ⟨6, _⟩ => ⟨S32x1024x1024, .f32⟩
  | .hbm, ⟨7, _⟩ => ⟨S32x1x1024, .f32⟩
  | .hbm, ⟨8, _⟩ => ⟨S224x256x1024, .f32⟩
  | .hbm, ⟨9, _⟩ => ⟨S_, .i32⟩
  | .hbm, ⟨10, _⟩ => ⟨S224, .i32⟩
  | .hbm, ⟨11, _⟩ => ⟨S224, .i1⟩
  | .hbm, ⟨12, _⟩ => ⟨S_, .i32⟩
  | .hbm, ⟨13, _⟩ => ⟨S224, .i32⟩
  | .hbm, ⟨14, _⟩ => ⟨S224, .i32⟩
  | .hbm, ⟨15, _⟩ => ⟨S224, .i32⟩
  | .hbm, ⟨16, _⟩ => ⟨S224x1, .i32⟩
  | .hbm, ⟨17, _⟩ => ⟨S224x1024x2048, .f32⟩
  | .hbm, ⟨18, _⟩ => ⟨S224x256x2048, .f32⟩
  | .hbm, ⟨19, _⟩ => ⟨S_, .i32⟩
  | .hbm, ⟨20, _⟩ => ⟨S224, .i32⟩
  | .hbm, ⟨21, _⟩ => ⟨S224, .i1⟩
  | .hbm, ⟨22, _⟩ => ⟨S_, .i32⟩
  | .hbm, ⟨23, _⟩ => ⟨S224, .i32⟩
  | .hbm, ⟨24, _⟩ => ⟨S224, .i32⟩
  | .hbm, ⟨25, _⟩ => ⟨S224, .i32⟩
  | .hbm, ⟨26, _⟩ => ⟨S224x1, .i32⟩
  | .hbm, ⟨27, _⟩ => ⟨S224x1x2048, .f32⟩
  | .hbm, ⟨28, _⟩ => ⟨S224x256x2048, .f32⟩
  | .hbm, ⟨29, _⟩ => ⟨S224x256x2048, .f32⟩
  | .hbm, ⟨30, _⟩ => ⟨S224x256x1024, .f32⟩
  | .hbm, ⟨31, _⟩ => ⟨S_, .f32⟩
  | .hbm, ⟨32, _⟩ => ⟨S224x256x1024, .f32⟩
  | .hbm, ⟨33, _⟩ => ⟨S224x256x1024, .f32⟩
  | .hbm, ⟨34, _⟩ => ⟨S224x256x1024, .f32⟩
  | .hbm, ⟨35, _⟩ => ⟨S_, .f32⟩
  | .hbm, ⟨36, _⟩ => ⟨S224x256x1024, .f32⟩
  | .hbm, ⟨37, _⟩ => ⟨S224x256x1024, .f32⟩
  | .hbm, ⟨38, _⟩ => ⟨S_, .f32⟩
  | .hbm, ⟨39, _⟩ => ⟨S224x256x1024, .f32⟩
  | .hbm, ⟨40, _⟩ => ⟨S224x256x1024, .f32⟩
  | .hbm, ⟨41, _⟩ => ⟨S_, .f32⟩
  | .hbm, ⟨42, _⟩ => ⟨S224x256x1024, .f32⟩
  | .hbm, ⟨43, _⟩ => ⟨S224x256x1024, .f32⟩
  | .hbm, ⟨44, _⟩ => ⟨S_, .f32⟩
  | .hbm, ⟨45, _⟩ => ⟨S224x256x1024, .f32⟩
  | .hbm, ⟨46, _⟩ => ⟨S224x256x1024, .f32⟩
  | .hbm, ⟨47, _⟩ => ⟨S224x256x1024, .f32⟩
  | .hbm, ⟨48, _⟩ => ⟨S224x256x1024, .f32⟩
  | .hbm, ⟨49, _⟩ => ⟨S_, .f32⟩
  | .hbm, ⟨50, _⟩ => ⟨S224x256x1024, .f32⟩
  | .hbm, ⟨51, _⟩ => ⟨S224x256x1024, .f32⟩
  | .hbm, ⟨52, _⟩ => ⟨S_, .f32⟩
  | .hbm, ⟨53, _⟩ => ⟨S224x256x1024, .f32⟩
  | .hbm, ⟨54, _⟩ => ⟨S224x256x1024, .f32⟩
  | .hbm, ⟨55, _⟩ => ⟨S224x256x1024, .f32⟩
  | .hbm, ⟨56, _⟩ => ⟨S224x256x1024, .f32⟩
  | .hbm, ⟨57, _⟩ => ⟨S_, .i32⟩
  | .hbm, ⟨58, _⟩ => ⟨S224, .i32⟩
  | .hbm, ⟨59, _⟩ => ⟨S224, .i1⟩
  | .hbm, ⟨60, _⟩ => ⟨S_, .i32⟩
  | .hbm, ⟨61, _⟩ => ⟨S224, .i32⟩
  | .hbm, ⟨62, _⟩ => ⟨S224, .i32⟩
  | .hbm, ⟨63, _⟩ => ⟨S224, .i32⟩
  | .hbm, ⟨64, _⟩ => ⟨S224x1, .i32⟩
  | .hbm, ⟨65, _⟩ => ⟨S224x1024x1024, .f32⟩
  | .hbm, ⟨66, _⟩ => ⟨S224x256x1024, .f32⟩
  | .hbm, ⟨67, _⟩ => ⟨S_, .i32⟩
  | .hbm, ⟨68, _⟩ => ⟨S224, .i32⟩
  | .hbm, ⟨69, _⟩ => ⟨S224, .i1⟩
  | .hbm, ⟨70, _⟩ => ⟨S_, .i32⟩
  | .hbm, ⟨71, _⟩ => ⟨S224, .i32⟩
  | .hbm, ⟨72, _⟩ => ⟨S224, .i32⟩
  | .hbm, ⟨73, _⟩ => ⟨S224, .i32⟩
  | .hbm, ⟨74, _⟩ => ⟨S224x1, .i32⟩
  | .hbm, ⟨75, _⟩ => ⟨S224x1x1024, .f32⟩
  | .hbm, ⟨76, _⟩ => ⟨S224x256x1024, .f32⟩
  | .hbm, ⟨77, _⟩ => ⟨S224x256x1024, .f32⟩
  | .hbm, ⟨78, _⟩ => ⟨S224, .i32⟩
  | .hbm, ⟨79, _⟩ => ⟨S224x1x1, .i32⟩
  | .hbm, ⟨80, _⟩ => ⟨S_, .i32⟩
  | .hbm, ⟨81, _⟩ => ⟨S224x1x1, .i32⟩
  | .hbm, ⟨82, _⟩ => ⟨S224x1x1, .i1⟩
  | .hbm, ⟨83, _⟩ => ⟨S224x256x1024, .i1⟩
  | .hbm, ⟨84, _⟩ => ⟨S_, .f32⟩
  | .hbm, ⟨85, _⟩ => ⟨S224x256x1024, .f32⟩
  | .hbm, ⟨86, _⟩ => ⟨S224x256x1024, .f32⟩
  | .hbm, ⟨87, _⟩ => ⟨S57344x1024, .f32⟩
  | _, _ => ⟨S224, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Proj.lean ====
abbrev S12288x1024 : Shape := ⟨2, ![12288, 1024]⟩
abbrev S8x6x1024 : Shape := ⟨3, ![8, 6, 1024]⟩
abbrev S1024 : Shape := ⟨1, ![1024]⟩
abbrev S1024x1440 : Shape := ⟨2, ![1024, 1440]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S32 : Shape := ⟨1, ![32]⟩
abbrev S2048 : Shape := ⟨1, ![2048]⟩
abbrev S_ : Shape := ⟨0, ![]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S2048x32 : Shape := ⟨2, ![2048, 32]⟩
abbrev S256x32 : Shape := ⟨2, ![256, 32]⟩
abbrev S2304x32 : Shape := ⟨2, ![2304, 32]⟩
abbrev S2304x64 : Shape := ⟨2, ![2304, 64]⟩
abbrev S2304x128 : Shape := ⟨2, ![2304, 128]⟩
abbrev S256x8x96 : Shape := ⟨3, ![256, 8, 96]⟩
abbrev S256x8x32 : Shape := ⟨3, ![256, 8, 32]⟩
abbrev S256x8x128 : Shape := ⟨3, ![256, 8, 128]⟩
abbrev S256x8x64 : Shape := ⟨3, ![256, 8, 64]⟩
abbrev S32x1 : Shape := ⟨2, ![32, 1]⟩
abbrev S256x1024 : Shape := ⟨2, ![256, 1024]⟩
abbrev S256x2048 : Shape := ⟨2, ![256, 2048]⟩
abbrev S128x8x128 : Shape := ⟨3, ![128, 8, 128]⟩
abbrev S128x8x64 : Shape := ⟨3, ![128, 8, 64]⟩
abbrev S32x64 : Shape := ⟨2, ![32, 64]⟩
abbrev S32x32 : Shape := ⟨2, ![32, 32]⟩
abbrev S32x128 : Shape := ⟨2, ![32, 128]⟩
abbrev S32x1x128 : Shape := ⟨3, ![32, 1, 128]⟩
abbrev S32x8x128 : Shape := ⟨3, ![32, 8, 128]⟩
abbrev S160x8x128 : Shape := ⟨3, ![160, 8, 128]⟩
abbrev S160x1024 : Shape := ⟨2, ![160, 1024]⟩
abbrev S128x512 : Shape := ⟨2, ![128, 512]⟩
abbrev S1024x32 : Shape := ⟨2, ![1024, 32]⟩
abbrev S1024x1472 : Shape := ⟨2, ![1024, 1472]⟩
abbrev S1x1024 : Shape := ⟨2, ![1, 1024]⟩
abbrev S1x256 : Shape := ⟨2, ![1, 256]⟩
abbrev S1x128 : Shape := ⟨2, ![1, 128]⟩
abbrev S12288x256 : Shape := ⟨2, ![12288, 256]⟩
abbrev S48x4x256x64 : Shape := ⟨4, ![48, 4, 256, 64]⟩
abbrev S48x8x256x128 : Shape := ⟨4, ![48, 8, 256, 128]⟩
abbrev S48x8x256x64 : Shape := ⟨4, ![48, 8, 256, 64]⟩
abbrev S12288x160 : Shape := ⟨2, ![12288, 160]⟩
abbrev S1x6x1024 : Shape := ⟨3, ![1, 6, 1024]⟩
abbrev S256x128 : Shape := ⟨2, ![256, 128]⟩
abbrev S256x256 : Shape := ⟨2, ![256, 256]⟩
abbrev S1x4x256x64 : Shape := ⟨4, ![1, 4, 256, 64]⟩
abbrev S1x8x256x128 : Shape := ⟨4, ![1, 8, 256, 128]⟩
abbrev S1x8x256x64 : Shape := ⟨4, ![1, 8, 256, 64]⟩
abbrev S256x160 : Shape := ⟨2, ![256, 160]⟩
abbrev S6x1024 : Shape := ⟨2, ![6, 1024]⟩
abbrev S256x1 : Shape := ⟨2, ![256, 1]⟩
abbrev S256x1472 : Shape := ⟨2, ![256, 1472]⟩
abbrev S256x64 : Shape := ⟨2, ![256, 64]⟩
abbrev S1x1x256x64 : Shape := ⟨4, ![1, 1, 256, 64]⟩
abbrev S1x1x256x128 : Shape := ⟨4, ![1, 1, 256, 128]⟩
abbrev S256x512 : Shape := ⟨2, ![256, 512]⟩

abbrev nBuf : Space → Nat
  | .hbm => 168
  | .vmem => 35
  | .smem => 0
  | _ => 0

abbrev hbmTy0_0 (i : Nat) : BufTy := match i % 128 with
  | 0 => ⟨S12288x1024, .f32⟩
  | 1 => ⟨S8x6x1024, .f32⟩
  | 2 => ⟨S1024, .f32⟩
  | 3 => ⟨S1024x1440, .f32⟩
  | 4 => ⟨S256, .f32⟩
  | 5 => ⟨S256x768, .f32⟩
  | 6 => ⟨S128, .f32⟩
  | 7 => ⟨S128x1024, .f32⟩
  | 8 => ⟨S32, .i32⟩
  | 9 => ⟨S32, .i1⟩
  | 10 => ⟨S32, .i32⟩
  | 11 => ⟨S32, .i1⟩
  | 12 => ⟨S2048, .i32⟩
  | 13 => ⟨S_, .i32⟩
  | 14 => ⟨S_, .i32⟩
  | 15 => ⟨S2048, .i32⟩
  | 16 => ⟨S2048, .i32⟩
  | 17 => ⟨S2048, .i32⟩
  | 18 => ⟨S_, .i32⟩
  | 19 => ⟨S2048, .i32⟩
  | 20 => ⟨S2048, .i1⟩
  | 21 => ⟨S2048, .i32⟩
  | 22 => ⟨S2048, .i32⟩
  | 23 => ⟨S_, .i32⟩
  | 24 => ⟨S2048, .i32⟩
  | 25 => ⟨S2048, .i1⟩
  | 26 => ⟨S2048, .i1⟩
  | 27 => ⟨S_, .i32⟩
  | 28 => ⟨S2048, .i32⟩
  | 29 => ⟨S2048, .i32⟩
  | 30 => ⟨S2048, .i32⟩
  | 31 => ⟨S2048, .f32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i1⟩
  | 43 => ⟨S_, .i32⟩
  | 44 => ⟨S2048, .i32⟩
  | 45 => ⟨S2048, .i1⟩
  | 46 => ⟨S_, .i32⟩
  | 47 => ⟨S_, .i1⟩
  | 48 => ⟨S2048, .i1⟩
  | 49 => ⟨S2048, .i1⟩
  | 50 => ⟨S2048, .i1⟩
  | 51 => ⟨S2048, .i32⟩
  | 52 => ⟨S2048, .i32⟩
  | 53 => ⟨S2048, .i32⟩
  | 54 => ⟨S2048, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S8, .f32⟩
  | 69 => ⟨S2048x1, .f32⟩
  | 70 => ⟨S1x8, .f32⟩
  | 71 => ⟨S2048x8, .f32⟩
  | 72 => ⟨S2048x8, .f32⟩
  | 73 => ⟨S2048x8, .f32⟩
  | 74 => ⟨S2048x8, .f32⟩
  | 75 => ⟨S2048x8, .f32⟩
  | 76 => ⟨S2048x16, .f32⟩
  | 77 => ⟨S2048x8, .f32⟩
  | 78 => ⟨S2048x16, .f32⟩
  | 79 => ⟨S2048x1, .f32⟩
  | 80 => ⟨S1x8, .f32⟩
  | 81 => ⟨S2048x8, .f32⟩
  | 82 => ⟨S2048x8, .f32⟩
  | 83 => ⟨S2048x8, .f32⟩
  | 84 => ⟨S2048x8, .f32⟩
  | 85 => ⟨S2048x8, .f32⟩
  | 86 => ⟨S2048x16, .f32⟩
  | 87 => ⟨S2048x8, .f32⟩
  | 88 => ⟨S2048x16, .f32⟩
  | 89 => ⟨S2048x32, .f32⟩
  | 90 => ⟨S2048x32, .f32⟩
  | 91 => ⟨S_, .f32⟩
  | 92 => ⟨S256x32, .f32⟩
  | 93 => ⟨S2304x32, .f32⟩
  | 94 => ⟨S_, .f32⟩
  | 95 => ⟨S256x32, .f32⟩
  | 96 => ⟨S2304x32, .f32⟩
  | 97 => ⟨S_, .f32⟩
  | 98 => ⟨S2304x64, .f32⟩
  | 99 => ⟨S_, .f32⟩
  | 100 => ⟨S2304x32, .f32⟩
  | 101 => ⟨S2304x128, .f32⟩
  | 102 => ⟨S_, .f32⟩
  | 103 => ⟨S2304x64, .f32⟩
  | 104 => ⟨S_, .f32⟩
  | 105 => ⟨S2304x32, .f32⟩
  | 106 => ⟨S2304x128, .f32⟩
  | 107 => ⟨S256x8x96, .f32⟩
  | 108 => ⟨S_, .f32⟩
  | 109 => ⟨S256x8x32, .f32⟩
  | 110 => ⟨S256x8x128, .f32⟩
  | 111 => ⟨S_, .f32⟩
  | 112 => ⟨S256x8x64, .f32⟩
  | 113 => ⟨S_, .i32⟩
  | 114 => ⟨S32, .i32⟩
  | 115 => ⟨S32, .i32⟩
  | 116 => ⟨S32, .i32⟩
  | 117 => ⟨S32x1, .i32⟩
  | 118 => ⟨S256x8x32, .f32⟩
  | 119 => ⟨S256x8x128, .f32⟩
  | 120 => ⟨S256x1024, .f32⟩
  | 121 => ⟨S256x1024, .f32⟩
  | 122 => ⟨S256x2048, .f32⟩
  | 123 => ⟨S256x2048, .bf16⟩
  | 124 => ⟨S128x8x128, .f32⟩
  | 125 => ⟨S128x8x64, .f32⟩
  | 126 => ⟨S_, .f32⟩
  | 127 => ⟨S128x8x64, .f32⟩
  | _ => ⟨S12288x1024, .f32⟩

abbrev hbmTy0_1 (i : Nat) : BufTy := match i % 128 with
  | 0 => ⟨S128x8x128, .f32⟩
  | 1 => ⟨S_, .f32⟩
  | 2 => ⟨S32x64, .f32⟩
  | 3 => ⟨S32x32, .i32⟩
  | 4 => ⟨S32x32, .i32⟩
  | 5 => ⟨S_, .i32⟩
  | 6 => ⟨S32x32, .i32⟩
  | 7 => ⟨S32x32, .i32⟩
  | 8 => ⟨S32x32, .i1⟩
  | 9 => ⟨S32x32, .f32⟩
  | 10 => ⟨S_, .f32⟩
  | 11 => ⟨S32x32, .f32⟩
  | 12 => ⟨S32x128, .f32⟩
  | 13 => ⟨S32x1x128, .f32⟩
  | 14 => ⟨S32x8x128, .f32⟩
  | 15 => ⟨S160x8x128, .f32⟩
  | 16 => ⟨S160x1024, .f32⟩
  | 17 => ⟨S160x1024, .bf16⟩
  | 18 => ⟨S128x8x64, .f32⟩
  | 19 => ⟨S128x512, .f32⟩
  | 20 => ⟨S128x512, .bf16⟩
  | 21 => ⟨S_, .i32⟩
  | 22 => ⟨S32, .i32⟩
  | 23 => ⟨S32, .i32⟩
  | 24 => ⟨S32, .i32⟩
  | 25 => ⟨S32x1, .i32⟩
  | 26 => ⟨S1024x32, .f32⟩
  | 27 => ⟨S1024x1472, .f32⟩
  | 28 => ⟨S1024x1472, .bf16⟩
  | 29 => ⟨S1x1024, .f32⟩
  | 30 => ⟨S1x256, .f32⟩
  | 31 => ⟨S1x128, .f32⟩
  | 32 => ⟨S12288x256, .f32⟩
  | 33 => ⟨S48x4x256x64, .bf16⟩
  | 34 => ⟨S48x4x256x64, .f32⟩
  | 35 => ⟨S48x4x256x64, .f32⟩
  | 36 => ⟨S48x8x256x128, .bf16⟩
  | 37 => ⟨S48x8x256x128, .bf16⟩
  | 38 => ⟨S48x8x256x64, .bf16⟩
  | 39 => ⟨S12288x160, .f32⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1472, .bf16⟩
  | .local _ .vmem, ⟨6, _⟩ => ⟨S1x256, .f32⟩
  | .local _ .vmem, ⟨7, _⟩ => ⟨S256x2048, .bf16⟩
  | .local _ .vmem, ⟨8, _⟩ => ⟨S1x128, .f32⟩
  | .local _ .vmem, ⟨9, _⟩ => ⟨S160x1024, .bf16⟩
  | .local _ .vmem, ⟨10, _⟩ => ⟨S128x512, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x32, .f32⟩
  | .local _ .vmem, ⟨16, _⟩ => ⟨S256x32, .f32⟩
  | .local _ .vmem, ⟨17, _⟩ => ⟨S256x32, .f32⟩
  | .local _ .vmem, ⟨18, _⟩ => ⟨S256x32, .f32⟩
  | .local _ .vmem, ⟨19, _⟩ => ⟨S256x256, .f32⟩
  | .local _ .vmem, ⟨20, _⟩ => ⟨S256x256, .f32⟩
  | .local _ .vmem, ⟨21, _⟩ => ⟨S1x4x256x64, .bf16⟩
  | .local _ .vmem, ⟨22, _⟩ => ⟨S1x4x256x64, .bf16⟩
  | .local _ .vmem, ⟨23, _⟩ => ⟨S1x4x256x64, .f32⟩
  | .local _ .vmem, ⟨24, _⟩ => ⟨S1x4x256x64, .f32⟩
  | .local _ .vmem, ⟨25, _⟩ => ⟨S1x4x256x64, .f32⟩
  | .local _ .vmem, ⟨26, _⟩ => ⟨S1x4x256x64, .f32⟩
  | .local _ .vmem, ⟨27, _⟩ => ⟨S1x8x256x128, .bf16⟩
  | .local _ .vmem, ⟨28, _⟩ => ⟨S1x8x256x128, .bf16⟩
  | .local _ .vmem, ⟨29, _⟩ => ⟨S1x8x256x128, .bf16⟩
  | .local _ .vmem, ⟨30, _⟩ => ⟨S1x8x256x128, .bf16⟩
  | .local _ .vmem, ⟨31, _⟩ => ⟨S1x8x256x64, .bf16⟩
  | .local _ .vmem, ⟨32, _⟩ => ⟨S1x8x256x64, .bf16⟩
  | .local _ .vmem, ⟨33, _⟩ => ⟨S256x160, .f32⟩
  | .local _ .vmem, ⟨34, _⟩ => ⟨S256x160, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_v0 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v1 : Ref sig .tc := ⟨.hbm, 30, rfl⟩
abbrev main_v2 : Ref sig .tc := ⟨.hbm, 31, rfl⟩
abbrev main_c_4 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_cst : Ref sig .tc := ⟨.hbm, 56, rfl⟩
abbrev main_v6 : Ref sig .tc := ⟨.hbm, 57, rfl⟩
abbrev main_v7 : Ref sig .tc := ⟨.hbm, 58, rfl⟩
abbrev main_cst_5 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_6 : Ref sig .tc := ⟨.hbm, 63, rfl⟩
abbrev main_v11 : Ref sig .tc := ⟨.hbm, 64, rfl⟩
abbrev main_v12 : Ref sig .tc := ⟨.hbm, 65, rfl⟩
abbrev main_cst_7 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_8 : Ref sig .tc := ⟨.hbm, 91, rfl⟩
abbrev main_v37 : Ref sig .tc := ⟨.hbm, 92, rfl⟩
abbrev main_v38 : Ref sig .tc := ⟨.hbm, 93, rfl⟩
abbrev main_cst_9 : Ref sig .tc := ⟨.hbm, 94, rfl⟩
abbrev main_v39 : Ref sig .tc := ⟨.hbm, 95, rfl⟩
abbrev main_v40 : Ref sig .tc := ⟨.hbm, 96, rfl⟩
abbrev main_cst_10 : Ref sig .tc := ⟨.hbm, 97, rfl⟩
abbrev main_v41 : Ref sig .tc := ⟨.hbm, 98, rfl⟩
abbrev main_cst_11 : Ref sig .tc := ⟨.hbm, 99, rfl⟩
abbrev main_v42 : Ref sig .tc := ⟨.hbm, 100, rfl⟩
abbrev main_v43 : Ref sig .tc := ⟨.hbm, 101, rfl⟩
abbrev main_cst_12 : Ref sig .tc := ⟨.hbm, 102, rfl⟩
abbrev main_v44 : Ref sig .tc := ⟨.hbm, 103, rfl⟩
abbrev main_cst_13 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_cst_14 : Ref sig .tc := ⟨.hbm, 108, rfl⟩
abbrev main_v48 : Ref sig .tc := ⟨.hbm, 109, rfl⟩
abbrev main_v49 : Ref sig .tc := ⟨.hbm, 110, rfl⟩
abbrev main_cst_15 : Ref sig .tc := ⟨.hbm, 111, rfl⟩
abbrev main_v50 : Ref sig .tc := ⟨.hbm, 112, rfl⟩
abbrev main_c_16 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_cst_17 : Ref sig .tc := ⟨.hbm, 126, rfl⟩
abbrev main_v63 : Ref sig .tc := ⟨.hbm, 127, rfl⟩
abbrev main_v64 : Ref sig .tc := ⟨.hbm, 128, rfl⟩
abbrev main_cst_18 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_c_19 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_cst_20 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_c_21 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92_0 : Ref sig .tc := ⟨.hbm, 160, rfl⟩
abbrev main_v92_1 : Ref sig .tc := ⟨.hbm, 161, rfl⟩
abbrev main_v92_2 : Ref sig .tc := ⟨.hbm, 162, rfl⟩
abbrev main_v92_3 : Ref sig .tc := ⟨.hbm, 163, rfl⟩
abbrev main_v92_4 : Ref sig .tc := ⟨.hbm, 164, rfl⟩
abbrev main_v92_5 : Ref sig .tc := ⟨.hbm, 165, rfl⟩
abbrev main_v92_6 : Ref sig .tc := ⟨.hbm, 166, rfl⟩
abbrev main_v92_7 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_10 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_11 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_12 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1472 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S160x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x256x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x256x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x256x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x256x64 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x160 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ProjReferenceIdeal.lean ====
abbrev S12288x1024 : Shape := ⟨2, ![12288, 1024]⟩
abbrev S8x6x1024 : Shape := ⟨3, ![8, 6, 1024]⟩
abbrev S1024 : Shape := ⟨1, ![1024]⟩
abbrev S1024x1440 : Shape := ⟨2, ![1024, 1440]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S_ : Shape := ⟨0, ![]⟩
abbrev S12288 : Shape := ⟨1, ![12288]⟩
abbrev S12288x1 : Shape := ⟨2, ![12288, 1]⟩
abbrev S1x1024 : Shape := ⟨2, ![1, 1024]⟩
abbrev S2x1x1024 : Shape := ⟨3, ![2, 1, 1024]⟩
abbrev S2x1024 : Shape := ⟨2, ![2, 1024]⟩
abbrev S2x2048x1024 : Shape := ⟨3, ![2, 2048, 1024]⟩
abbrev S4096x1024 : Shape := ⟨2, ![4096, 1024]⟩
abbrev S1x1x1024 : Shape := ⟨3, ![1, 1, 1024]⟩
abbrev S8192x1024 : Shape := ⟨2, ![8192, 1024]⟩
abbrev S12288x1440 : Shape := ⟨2, ![12288, 1440]⟩
abbrev S12288x768 : Shape := ⟨2, ![12288, 768]⟩
abbrev S12288x3x4x64 : Shape := ⟨4, ![12288, 3, 4, 64]⟩
abbrev S12288x256 : Shape := ⟨2, ![12288, 256]⟩
abbrev S1x256 : Shape := ⟨2, ![1, 256]⟩
abbrev S12288x8x96 : Shape := ⟨3, ![12288, 8, 96]⟩
abbrev S12288x160 : Shape := ⟨2, ![12288, 160]⟩
abbrev S12288x128 : Shape := ⟨2, ![12288, 128]⟩
abbrev S1x128 : Shape := ⟨2, ![1, 128]⟩
abbrev S12288x32 : Shape := ⟨2, ![12288, 32]⟩
abbrev S12288x8x128 : Shape := ⟨3, ![12288, 8, 128]⟩
abbrev S12288x1x32 : Shape := ⟨3, ![12288, 1, 32]⟩
abbrev S4096x1x32 : Shape := ⟨3, ![4096, 1, 32]⟩
abbrev S2x2048x1x32 : Shape := ⟨4, ![2, 2048, 1, 32]⟩
abbrev S2048 : Shape := ⟨1, ![2048]⟩
abbrev S8 : Shape := ⟨1, ![8]⟩
abbrev S2x2048x1x16 : Shape := ⟨4, ![2, 2048, 1, 16]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S2x2048x1x8 : Shape := ⟨4, ![2, 2048, 1, 8]⟩
abbrev S1x2048x1x8 : Shape := ⟨4, ![1, 2048, 1, 8]⟩
abbrev S8192x1x32 : Shape := ⟨3, ![8192, 1, 32]⟩
abbrev S12288x8x32 : Shape := ⟨3, ![12288, 8, 32]⟩
abbrev S12288x1x4x64 : Shape := ⟨4, ![12288, 1, 4, 64]⟩
abbrev S12288x4x64 : Shape := ⟨3, ![12288, 4, 64]⟩
abbrev S48x256x4x64 : Shape := ⟨4, ![48, 256, 4, 64]⟩
abbrev S48x4x256x64 : Shape := ⟨4, ![48, 4, 256, 64]⟩
abbrev S12288x8x64 : Shape := ⟨3, ![12288, 8, 64]⟩
abbrev S4096x8x32 : Shape := ⟨3, ![4096, 8, 32]⟩
abbrev S2x2048x8x32 : Shape := ⟨4, ![2, 2048, 8, 32]⟩
abbrev S2x2048x8x16 : Shape := ⟨4, ![2, 2048, 8, 16]⟩
abbrev S2x2048x8x8 : Shape := ⟨4, ![2, 2048, 8, 8]⟩
abbrev S8192x8x32 : Shape := ⟨3, ![8192, 8, 32]⟩
abbrev S48x256x8x128 : Shape := ⟨4, ![48, 256, 8, 128]⟩
abbrev S48x8x256x128 : Shape := ⟨4, ![48, 8, 256, 128]⟩
abbrev S48x256x8x64 : Shape := ⟨4, ![48, 256, 8, 64]⟩
abbrev S48x8x256x64 : Shape := ⟨4, ![48, 8, 256, 64]⟩

abbrev nBuf : Space → Nat
  | .hbm => 360
  | .vmem => 0
  | .smem => 0
  | _ => 0

abbrev hbmTy0_0 (i : Nat) : BufTy := match i % 128 with
  | 0 => ⟨S12288x1024, .f32⟩
  | 1 => ⟨S8x6x1024, .f32⟩
  | 2 => ⟨S1024, .f32⟩
  | 3 => ⟨S1024x1440, .f32⟩
  | 4 => ⟨S256, .f32⟩
  | 5 => ⟨S256x768, .f32⟩
  | 6 => ⟨S128, .f32⟩
  | 7 => ⟨S128x1024, .f32⟩
  | 8 => ⟨S12288x1024, .f32⟩
  | 9 => ⟨S_, .f32⟩
  | 10 => ⟨S12288, .f32⟩
  | 11 => ⟨S12288x1, .f32⟩
  | 12 => ⟨S_, .f32⟩
  | 13 => ⟨S12288x1, .f32⟩
  | 14 => ⟨S12288x1, .f32⟩
  | 15 => ⟨S_, .f32⟩
  | 16 => ⟨S12288x1, .f32⟩
  | 17 => ⟨S12288x1, .f32⟩
  | 18 => ⟨S12288x1, .f32⟩
  | 19 => ⟨S12288x1024, .f32⟩
  | 20 => ⟨S12288x1024, .f32⟩
  | 21 => ⟨S1x1024, .f32⟩
  | 22 => ⟨S12288x1024, .f32⟩
  | 23 => ⟨S12288x1024, .f32⟩
  | 24 => ⟨S2x1x1024, .f32⟩
  | 25 => ⟨S2x1024, .f32⟩
  | 26 => ⟨S2x1x1024, .f32⟩
  | 27 => ⟨S2x2048x1024, .f32⟩
  | 28 => ⟨S4096x1024, .f32⟩
  | 29 => ⟨S1x1x1024, .f32⟩
  | 30 => ⟨S1x1024, .f32⟩
  | 31 => ⟨S8192x1024, .f32⟩
  | 32 => ⟨S12288x1024, .f32⟩
  | 33 => ⟨S_, .f32⟩
  | 34 => ⟨S12288x1024, .f32⟩
  | 35 => ⟨S12288x1024, .f32⟩
  | 36 => ⟨S12288x1024, .f32⟩
  | 37 => ⟨S2x1x1024, .f32⟩
  | 38 => ⟨S2x1024, .f32⟩
  | 39 => ⟨S2x1x1024, .f32⟩
  | 40 => ⟨S2x2048x1024, .f32⟩
  | 41 => ⟨S4096x1024, .f32⟩
  | 42 => ⟨S1x1x1024, .f32⟩
  | 43 => ⟨S1x1024, .f32⟩
  | 44 => ⟨S8192x1024, .f32⟩
  | 45 => ⟨S12288x1024, .f32⟩
  | 46 => ⟨S12288x1024, .f32⟩
  | 47 => ⟨S12288x1440, .f32⟩
  | 48 => ⟨S12288x768, .f32⟩
  | 49 => ⟨S12288x3x4x64, .f32⟩
  | 50 => ⟨S12288x256, .f32⟩
  | 51 => ⟨S12288x256, .f32⟩
  | 52 => ⟨S_, .f32⟩
  | 53 => ⟨S12288, .f32⟩
  | 54 => ⟨S12288x1, .f32⟩
  | 55 => ⟨S_, .f32⟩
  | 56 => ⟨S12288x1, .f32⟩
  | 57 => ⟨S12288x1, .f32⟩
  | 58 => ⟨S_, .f32⟩
  | 59 => ⟨S12288x1, .f32⟩
  | 60 => ⟨S12288x1, .f32⟩
  | 61 => ⟨S12288x1, .f32⟩
  | 62 => ⟨S12288x256, .f32⟩
  | 63 => ⟨S12288x256, .f32⟩
  | 64 => ⟨S1x256, .f32⟩
  | 65 => ⟨S12288x256, .f32⟩
  | 66 => ⟨S12288x256, .f32⟩
  | 67 => ⟨S12288x768, .f32⟩
  | 68 => ⟨S12288x8x96, .f32⟩
  | 69 => ⟨S12288x160, .f32⟩
  | 70 => ⟨S12288x128, .f32⟩
  | 71 => ⟨S12288x128, .f32⟩
  | 72 => ⟨S_, .f32⟩
  | 73 => ⟨S12288, .f32⟩
  | 74 => ⟨S12288x1, .f32⟩
  | 75 => ⟨S_, .f32⟩
  | 76 => ⟨S12288x1, .f32⟩
  | 77 => ⟨S12288x1, .f32⟩
  | 78 => ⟨S_, .f32⟩
  | 79 => ⟨S12288x1, .f32⟩
  | 80 => ⟨S12288x1, .f32⟩
  | 81 => ⟨S12288x1, .f32⟩
  | 82 => ⟨S12288x128, .f32⟩
  | 83 => ⟨S12288x128, .f32⟩
  | 84 => ⟨S1x128, .f32⟩
  | 85 => ⟨S12288x128, .f32⟩
  | 86 => ⟨S12288x128, .f32⟩
  | 87 => ⟨S12288x32, .f32⟩
  | 88 => ⟨S12288x1024, .f32⟩
  | 89 => ⟨S12288x8x128, .f32⟩
  | 90 => ⟨S12288x1x32, .f32⟩
  | 91 => ⟨S4096x1x32, .f32⟩
  | 92 => ⟨S2x2048x1x32, .f32⟩
  | 93 => ⟨S2048, .i32⟩
  | 94 => ⟨S_, .i32⟩
  | 95 => ⟨S_, .i32⟩
  | 96 => ⟨S2048, .i32⟩
  | 97 => ⟨S2048, .i32⟩
  | 98 => ⟨S2048, .i32⟩
  | 99 => ⟨S_, .i32⟩
  | 100 => ⟨S2048, .i32⟩
  | 101 => ⟨S2048, .i1⟩
  | 102 => ⟨S2048, .i32⟩
  | 103 => ⟨S2048, .i32⟩
  | 104 => ⟨S_, .i32⟩
  | 105 => ⟨S2048, .i32⟩
  | 106 => ⟨S2048, .i1⟩
  | 107 => ⟨S2048, .i1⟩
  | 108 => ⟨S_, .i32⟩
  | 109 => ⟨S2048, .i32⟩
  | 110 => ⟨S2048, .i32⟩
  | 111 => ⟨S2048, .i32⟩
  | 112 => ⟨S2048, .f32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S2048, .i32⟩
  | 120 => ⟨S2048, .i32⟩
  | 121 => ⟨S_, .i32⟩
  | 122 => ⟨S2048, .i32⟩
  | 123 => ⟨S2048, .i1⟩
  | 124 => ⟨S_, .i32⟩
  | 125 => ⟨S2048, .i32⟩
  | 126 => ⟨S2048, .i1⟩
  | 127 => ⟨S_, .i32⟩
  | _ => ⟨S12288x1024, .f32⟩

abbrev hbmTy0_1 (i : Nat) : BufTy := match i % 128 with
  | 0 => ⟨S_, .i1⟩
  | 1 => ⟨S2048, .i1⟩
  | 2 => ⟨S2048, .i1⟩
  | 3 => ⟨S2048, .i1⟩
  | 4 => ⟨S2048, .i32⟩
  | 5 => ⟨S2048, .i32⟩
  | 6 => ⟨S2048, .i32⟩
  | 7 => ⟨S2048, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S2x2048x1x16, .f32⟩
  | 23 => ⟨S2048x1, .f32⟩
  | 24 => ⟨S1x8, .f32⟩
  | 25 => ⟨S2048x8, .f32⟩
  | 26 => ⟨S2048x8, .f32⟩
  | 27 => ⟨S2048x8, .f32⟩
  | 28 => ⟨S2048x8, .f32⟩
  | 29 => ⟨S2048x1x8, .f32⟩
  | 30 => ⟨S2048x8, .f32⟩
  | 31 => ⟨S2048x1x8, .f32⟩
  | 32 => ⟨S2x2048x1x8, .f32⟩
  | 33 => ⟨S2x2048x1x8, .f32⟩
  | 34 => ⟨S1x2048x1x8, .f32⟩
  | 35 => ⟨S2x2048x1x8, .f32⟩
  | 36 => ⟨S2x2048x1x8, .f32⟩
  | 37 => ⟨S1x2048x1x8, .f32⟩
  | 38 => ⟨S2x2048x1x8, .f32⟩
  | 39 => ⟨S2x2048x1x8, .f32⟩
  | 40 => ⟨S2x2048x1x8, .f32⟩
  | 41 => ⟨S1x2048x1x8, .f32⟩
  | 42 => ⟨S2x2048x1x8, .f32⟩
  | 43 => ⟨S2x2048x1x8, .f32⟩
  | 44 => ⟨S1x2048x1x8, .f32⟩
  | 45 => ⟨S2x2048x1x8, .f32⟩
  | 46 => ⟨S2x2048x1x8, .f32⟩
  | 47 => ⟨S2x2048x1x8, .f32⟩
  | 48 => ⟨S2x2048x1x16, .f32⟩
  | 49 => ⟨S2x2048x1x16, .f32⟩
  | 50 => ⟨S2048x1, .f32⟩
  | 51 => ⟨S1x8, .f32⟩
  | 52 => ⟨S2048x8, .f32⟩
  | 53 => ⟨S2048x8, .f32⟩
  | 54 => ⟨S2048x8, .f32⟩
  | 55 => ⟨S2048x8, .f32⟩
  | 56 => ⟨S2048x1x8, .f32⟩
  | 57 => ⟨S2048x8, .f32⟩
  | 58 => ⟨S2048x1x8, .f32⟩
  | 59 => ⟨S2x2048x1x8, .f32⟩
  | 60 => ⟨S2x2048x1x8, .f32⟩
  | 61 => ⟨S1x2048x1x8, .f32⟩
  | 62 => ⟨S2x2048x1x8, .f32⟩
  | 63 => ⟨S2x2048x1x8, .f32⟩
  | 64 => ⟨S1x2048x1x8, .f32⟩
  | 65 => ⟨S2x2048x1x8, .f32⟩
  | 66 => ⟨S2x2048x1x8, .f32⟩
  | 67 => ⟨S2x2048x1x8, .f32⟩
  | 68 => ⟨S1x2048x1x8, .f32⟩
  | 69 => ⟨S2x2048x1x8, .f32⟩
  | 70 => ⟨S2x2048x1x8, .f32⟩
  | 71 => ⟨S1x2048x1x8, .f32⟩
  | 72 => ⟨S2x2048x1x8, .f32⟩
  | 73 => ⟨S2x2048x1x8, .f32⟩
  | 74 => ⟨S2x2048x1x8, .f32⟩
  | 75 => ⟨S2x2048x1x16, .f32⟩
  | 76 => ⟨S2x2048x1x32, .f32⟩
  | 77 => ⟨S4096x1x32, .f32⟩
  | 78 => ⟨S8192x1x32, .f32⟩
  | 79 => ⟨S12288x1x32, .f32⟩
  | 80 => ⟨S12288x8x32, .f32⟩
  | 81 => ⟨S12288x256, .f32⟩
  | 82 => ⟨S12288x1x4x64, .f32⟩
  | 83 => ⟨S12288x4x64, .f32⟩
  | 84 => ⟨S48x256x4x64, .f32⟩
  | 85 => ⟨S48x4x256x64, .f32⟩
  | 86 => ⟨S48x4x256x64, .bf16⟩
  | 87 => ⟨S12288x1x4x64, .f32⟩
  | 88 => ⟨S12288x4x64, .f32⟩
  | 89 => ⟨S48x256x4x64, .f32⟩
  | 90 => ⟨S48x4x256x64, .f32⟩
  | 91 => ⟨S12288x1x4x64, .f32⟩
  | 92 => ⟨S12288x4x64, .f32⟩
  | 93 => ⟨S48x256x4x64, .f32⟩
  | 94 => ⟨S48x4x256x64, .f32⟩
  | 95 => ⟨S12288x8x64, .f32⟩
  | 96 => ⟨S12288x8x32, .f32⟩
  | 97 => ⟨S4096x8x32, .f32⟩
  | 98 => ⟨S2x2048x8x32, .f32⟩
  | 99 => ⟨S2048, .i32⟩
  | 100 => ⟨S_, .i32⟩
  | 101 => ⟨S_, .i32⟩
  | 102 => ⟨S2048, .i32⟩
  | 103 => ⟨S2048, .i32⟩
  | 104 => ⟨S2048, .i32⟩
  | 105 => ⟨S_, .i32⟩
  | 106 => ⟨S2048, .i32⟩
  | 107 => ⟨S2048, .i1⟩
  | 108 => ⟨S2048, .i32⟩
  | 109 => ⟨S2048, .i32⟩
  | 110 => ⟨S_, .i32⟩
  | 111 => ⟨S2048, .i32⟩
  | 112 => ⟨S2048, .i1⟩
  | 113 => ⟨S2048, .i1⟩
  | 114 => ⟨S_, .i32⟩
  | 115 => ⟨S2048, .i32⟩
  | 116 => ⟨S2048, .i32⟩
  | 117 => ⟨S2048, .i32⟩
  | 118 => ⟨S2048, .f32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S2048, .i32⟩
  | 126 => ⟨S2048, .i32⟩
  | 127 => ⟨S_, .i32⟩
  | _ => ⟨S12288x1024, .f32⟩

abbrev hbmTy0_2 (i : Nat) : BufTy := match i % 128 with
  | 0 => ⟨S2048, .i32⟩
  | 1 => ⟨S2048, .i1⟩
  | 2 => ⟨S_, .i32⟩
  | 3 => ⟨S2048, .i32⟩
  | 4 => ⟨S2048, .i1⟩
  | 5 => ⟨S_, .i32⟩
  | 6 => ⟨S_, .i1⟩
  | 7 => ⟨S2048, .i1⟩
  | 8 => ⟨S2048, .i1⟩
  | 9 => ⟨S2048, .i1⟩
  | 10 => ⟨S2048, .i32⟩
  | 11 => ⟨S2048, .i32⟩
  | 12 => ⟨S2048, .i32⟩
  | 13 => ⟨S2048, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S2x2048x8x16, .f32⟩
  | 29 => ⟨S2048x1, .f32⟩
  | 30 => ⟨S1x8, .f32⟩
  | 31 => ⟨S2048x8, .f32⟩
  | 32 => ⟨S2048x8, .f32⟩
  | 33 => ⟨S2048x8, .f32⟩
  | 34 => ⟨S2048x8, .f32⟩
  | 35 => ⟨S2048x1x8, .f32⟩
  | 36 => ⟨S2048x8, .f32⟩
  | 37 => ⟨S2048x1x8, .f32⟩
  | 38 => ⟨S2x2048x8x8, .f32⟩
  | 39 => ⟨S2x2048x8x8, .f32⟩
  | 40 => ⟨S1x2048x1x8, .f32⟩
  | 41 => ⟨S2x2048x8x8, .f32⟩
  | 42 => ⟨S2x2048x8x8, .f32⟩
  | 43 => ⟨S1x2048x1x8, .f32⟩
  | 44 => ⟨S2x2048x8x8, .f32⟩
  | 45 => ⟨S2x2048x8x8, .f32⟩
  | 46 => ⟨S2x2048x8x8, .f32⟩
  | 47 => ⟨S1x2048x1x8, .f32⟩
  | 48 => ⟨S2x2048x8x8, .f32⟩
  | 49 => ⟨S2x2048x8x8, .f32⟩
  | 50 => ⟨S1x2048x1x8, .f32⟩
  | 51 => ⟨S2x2048x8x8, .f32⟩
  | 52 => ⟨S2x2048x8x8, .f32⟩
  | 53 => ⟨S2x2048x8x8, .f32⟩
  | 54 => ⟨S2x2048x8x16, .f32⟩
  | 55 => ⟨S2x2048x8x16, .f32⟩
  | 56 => ⟨S2048x1, .f32⟩
  | 57 => ⟨S1x8, .f32⟩
  | 58 => ⟨S2048x8, .f32⟩
  | 59 => ⟨S2048x8, .f32⟩
  | 60 => ⟨S2048x8, .f32⟩
  | 61 => ⟨S2048x8, .f32⟩
  | 62 => ⟨S2048x1x8, .f32⟩
  | 63 => ⟨S2048x8, .f32⟩
  | 64 => ⟨S2048x1x8, .f32⟩
  | 65 => ⟨S2x2048x8x8, .f32⟩
  | 66 => ⟨S2x2048x8x8, .f32⟩
  | 67 => ⟨S1x2048x1x8, .f32⟩
  | 68 => ⟨S2x2048x8x8, .f32⟩
  | 69 => ⟨S2x2048x8x8, .f32⟩
  | 70 => ⟨S1x2048x1x8, .f32⟩
  | 71 => ⟨S2x2048x8x8, .f32⟩
  | 72 => ⟨S2x2048x8x8, .f32⟩
  | 73 => ⟨S2x2048x8x8, .f32⟩
  | 74 => ⟨S1x2048x1x8, .f32⟩
  | 75 => ⟨S2x2048x8x8, .f32⟩
  | 76 => ⟨S2x2048x8x8, .f32⟩
  | 77 => ⟨S1x2048x1x8, .f32⟩
  | 78 => ⟨S2x2048x8x8, .f32⟩
  | 79 => ⟨S2x2048x8x8, .f32⟩
  | 80 => ⟨S2x2048x8x8, .f32⟩
  | 81 => ⟨S2x2048x8x16, .f32⟩
  | 82 => ⟨S2x2048x8x32, .f32⟩
  | 83 => ⟨S4096x8x32, .f32⟩
  | 84 => ⟨S8192x8x32, .f32⟩
  | 85 => ⟨S12288x8x32, .f32⟩
  | 86 => ⟨S_, .f32⟩
  | 87 => ⟨S12288x8x32, .f32⟩
  | 88 => ⟨S12288x8x128, .f32⟩
  | 89 => ⟨S48x256x8x128, .f32⟩
  | 90 => ⟨S48x8x256x128, .f32⟩
  | 91 => ⟨S48x8x256x128, .bf16⟩
  | 92 => ⟨S12288x8x64, .f32⟩
  | 93 => ⟨S_, .f32⟩
  | 94 => ⟨S12288x8x32, .f32⟩
  | 95 => ⟨S12288x8x128, .f32⟩
  | 96 => ⟨S48x256x8x128, .f32⟩
  | 97 => ⟨S48x8x256x128, .f32⟩
  | 98 => ⟨S48x8x256x128, .bf16⟩
  | 99 => ⟨S12288x8x64, .f32⟩
  | 100 => ⟨S48x256x8x64, .f32⟩
  | 101 => ⟨S48x8x256x64, .f32⟩
  | 102 => ⟨S48x8x256x64, .bf16⟩
  | 103 => ⟨S12288x160, .f32⟩
  | _ => ⟨S12288x1024, .f32⟩

abbrev hbmTy (i : Nat) : BufTy := match i / 128 with
  | 0 => hbmTy0_0 i
  | 1 => hbmTy0_1 i
  | 2 => hbmTy0_2 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_v5 : Ref sig .tc := ⟨.hbm, 100, rfl⟩
abbrev main_call0_v6 : Ref sig .tc := ⟨.hbm, 101, rfl⟩
abbrev main_call0_v7 : Ref sig .tc := ⟨.hbm, 102, rfl⟩
abbrev main_call0_v8 : Ref sig .tc := ⟨.hbm, 103, rfl⟩
abbrev main_call0_c : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_call0_c_0 : Ref sig .tc := ⟨.hbm, 108, rfl⟩
abbrev main_call0_v12 : Ref sig .tc := ⟨.hbm, 109, rfl⟩
abbrev main_call0_v13 : Ref sig .tc := ⟨.hbm, 110, rfl⟩
abbrev main_v76 : Ref sig .tc := ⟨.hbm, 111, rfl⟩
abbrev main_v77 : Ref sig .tc := ⟨.hbm, 112, rfl⟩
abbrev main_c_9 : Ref sig .tc := ⟨.hbm, 113, rfl⟩
abbrev main_call1_v0 : Ref sig .tc := ⟨.hbm, 114, rfl⟩
abbrev main_call1_c : Ref sig .tc := ⟨.hbm, 115, rfl⟩
abbrev main_call1_v1 : Ref sig .tc := ⟨.hbm, 116, rfl⟩
abbrev main_call1_c_0 : Ref sig .tc := ⟨.hbm, 117, rfl⟩
abbrev main_call1_v2 : Ref sig .tc := ⟨.hbm, 118, rfl⟩
abbrev main_call1_v3 : Ref sig .tc := ⟨.hbm, 119, rfl⟩
abbrev main_call1_v4 : Ref sig .tc := ⟨.hbm, 120, rfl⟩
abbrev main_call1_c_1 : Ref sig .tc := ⟨.hbm, 121, rfl⟩
abbrev main_call1_v5 : Ref sig .tc := ⟨.hbm, 122, rfl⟩
abbrev main_call1_v6 : Ref sig .tc := ⟨.hbm, 123, rfl⟩
abbrev main_call1_c_2 : Ref sig .tc := ⟨.hbm, 124, rfl⟩
abbrev main_call1_v7 : Ref sig .tc := ⟨.hbm, 125, rfl⟩
abbrev main_call1_v8 : Ref sig .tc := ⟨.hbm, 126, rfl⟩
abbrev main_call1_c_3 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_v12 : Ref sig .tc := ⟨.hbm, 131, rfl⟩
abbrev main_call1_v13 : Ref sig .tc := ⟨.hbm, 132, rfl⟩
abbrev main_call1_v14 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_10 : Ref sig .tc := ⟨.hbm, 137, rfl⟩
abbrev main_v81 : Ref sig .tc := ⟨.hbm, 138, rfl⟩
abbrev main_v82 : Ref sig .tc := ⟨.hbm, 139, rfl⟩
abbrev main_cst_11 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_12 : Ref sig .tc := ⟨.hbm, 144, rfl⟩
abbrev main_v86 : Ref sig .tc := ⟨.hbm, 145, rfl⟩
abbrev main_v87 : Ref sig .tc := ⟨.hbm, 146, rfl⟩
abbrev main_cst_13 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_c_14 : Ref sig .tc := ⟨.hbm, 228, rfl⟩
abbrev main_call2_v0 : Ref sig .tc := ⟨.hbm, 229, rfl⟩
abbrev main_call2_v1 : Ref sig .tc := ⟨.hbm, 230, rfl⟩
abbrev main_call2_v2 : Ref sig .tc := ⟨.hbm, 231, rfl⟩
abbrev main_call2_v3 : Ref sig .tc := ⟨.hbm, 232, rfl⟩
abbrev main_call2_v4 : Ref sig .tc := ⟨.hbm, 233, rfl⟩
abbrev main_call2_v5 : Ref sig .tc := ⟨.hbm, 234, rfl⟩
abbrev main_call2_v6 : Ref sig .tc := ⟨.hbm, 235, rfl⟩
abbrev main_call2_v7 : Ref sig .tc := ⟨.hbm, 236, rfl⟩
abbrev main_call2_v8 : Ref sig .tc := ⟨.hbm, 237, rfl⟩
abbrev main_call2_c : Ref sig .tc := ⟨.hbm, 238, rfl⟩
abbrev main_call2_v9 : Ref sig .tc := ⟨.hbm, 239, rfl⟩
abbrev main_call2_v10 : Ref sig .tc := ⟨.hbm, 240, rfl⟩
abbrev main_call2_v11 : Ref sig .tc := ⟨.hbm, 241, rfl⟩
abbrev main_call2_c_0 : Ref sig .tc := ⟨.hbm, 242, rfl⟩
abbrev main_call2_v12 : Ref sig .tc := ⟨.hbm, 243, rfl⟩
abbrev main_call2_v13 : Ref sig .tc := ⟨.hbm, 244, rfl⟩
abbrev main_v168 : Ref sig .tc := ⟨.hbm, 245, rfl⟩
abbrev main_v169 : Ref sig .tc := ⟨.hbm, 246, rfl⟩
abbrev main_c_15 : Ref sig .tc := ⟨.hbm, 247, rfl⟩
abbrev main_call3_v0 : Ref sig .tc := ⟨.hbm, 248, rfl⟩
abbrev main_call3_c : Ref sig .tc := ⟨.hbm, 249, rfl⟩
abbrev main_call3_v1 : Ref sig .tc := ⟨.hbm, 250, rfl⟩
abbrev main_call3_c_0 : Ref sig .tc := ⟨.hbm, 251, rfl⟩
abbrev main_call3_v2 : Ref sig .tc := ⟨.hbm, 252, rfl⟩
abbrev main_call3_v3 : Ref sig .tc := ⟨.hbm, 253, rfl⟩
abbrev main_call3_v4 : Ref sig .tc := ⟨.hbm, 254, rfl⟩
abbrev main_call3_c_1 : Ref sig .tc := ⟨.hbm, 255, rfl⟩
abbrev main_call3_v5 : Ref sig .tc := ⟨.hbm, 256, rfl⟩
abbrev main_call3_v6 : Ref sig .tc := ⟨.hbm, 257, rfl⟩
abbrev main_call3_c_2 : Ref sig .tc := ⟨.hbm, 258, rfl⟩
abbrev main_call3_v7 : Ref sig .tc := ⟨.hbm, 259, rfl⟩
abbrev main_call3_v8 : Ref sig .tc := ⟨.hbm, 260, rfl⟩
abbrev main_call3_c_3 : Ref sig .tc := ⟨.hbm, 261, rfl⟩
abbrev main_call3_v9 : Ref sig .tc := ⟨.hbm, 262, rfl⟩
abbrev main_call3_v10 : Ref sig .tc := ⟨.hbm, 263, rfl⟩
abbrev main_call3_v11 : Ref sig .tc := ⟨.hbm, 264, rfl⟩
abbrev main_call3_v12 : Ref sig .tc := ⟨.hbm, 265, rfl⟩
abbrev main_call3_v13 : Ref sig .tc := ⟨.hbm, 266, rfl⟩
abbrev main_call3_v14 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_cst_16 : Ref sig .tc := ⟨.hbm, 271, rfl⟩
abbrev main_v173 : Ref sig .tc := ⟨.hbm, 272, rfl⟩
abbrev main_v174 : Ref sig .tc := ⟨.hbm, 273, rfl⟩
abbrev main_cst_17 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_cst_18 : Ref sig .tc := ⟨.hbm, 278, rfl⟩
abbrev main_v178 : Ref sig .tc := ⟨.hbm, 279, rfl⟩
abbrev main_v179 : Ref sig .tc := ⟨.hbm, 280, rfl⟩
abbrev main_cst_19 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_v238 : Ref sig .tc := ⟨.hbm, 340, rfl⟩
abbrev main_v239 : Ref sig .tc := ⟨.hbm, 341, rfl⟩
abbrev main_cst_20 : Ref sig .tc := ⟨.hbm, 342, rfl⟩
abbrev main_v240 : Ref sig .tc := ⟨.hbm, 343, rfl⟩
abbrev main_v241 : Ref sig .tc := ⟨.hbm, 344, rfl⟩
abbrev main_v242 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_cst_21 : Ref sig .tc := ⟨.hbm, 349, rfl⟩
abbrev main_v246 : Ref sig .tc := ⟨.hbm, 350, rfl⟩
abbrev main_v247 : Ref sig .tc := ⟨.hbm, 351, rfl⟩
abbrev main_v248 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩

abbrev nD : Nat := 1
abbrev τ : Topo := Topo.v7x

variable {F : FTy → Type} [FloatOps F]
-- ==== Proof.Softmax.lean ====
module

public import Idealize.ShloMosaic.PureOps.Ideal

/-! # The softmax of two runs of keys

A softmax over `n + k` keys can be computed in one pass over the `n` and one over the `k`, the maximum, the sum of
weights and the weighted sum of values each put together from the two parts and the division made once, last. -/

@[expose] public section

namespace Cert.Softmax
open Idealize.ShloMosaic

/-- A number that is neither of the two infinities. -/
def IsReal (x : EReal) : Prop := x ≠ ⊥ ∧ x ≠ ⊤

theorem IsReal.coe (r : ℝ) : IsReal (r : EReal) := ⟨EReal.coe_ne_bot r, EReal.coe_ne_top r⟩

theorem IsReal.exists_coe {x : EReal} (h : IsReal x) : ∃ r : ℝ, x = r := ⟨x.toReal, (EReal.coe_toReal h.2 h.1).symm⟩

theorem IsReal.mul {x y : EReal} (hx : IsReal x) (hy : IsReal y) : IsReal (x * y) := by
  obtain ⟨a, rfl⟩ := hx.exists_coe
  obtain ⟨b, rfl⟩ := hy.exists_coe
  rw [← EReal.coe_mul]
  exact IsReal.coe _

theorem IsReal.add {x y : EReal} (hx : IsReal x) (hy : IsReal y) : IsReal (x + y) := by
  obtain ⟨a, rfl⟩ := hx.exists_coe
  obtain ⟨b, rfl⟩ := hy.exists_coe
  rw [← EReal.coe_add]
  exact IsReal.coe _

theorem IsReal.sum {ι : Type} (s : Finset ι) (f : ι → EReal) (h : ∀ i, IsReal (f i)) : IsReal (∑ i ∈ s, f i) := by
  classical
  induction s using Finset.induction with
  | empty => simpa using IsReal.coe 0
  | insert a s ha ih => rw [Finset.sum_insert ha]; exact (h a).add ih

/-- The largest of finitely many (at least one) real numbers is real. -/
theorem IsReal.sup {ι : Type} [Fintype ι] [Nonempty ι] (f : ι → EReal) (h : ∀ i, IsReal (f i)) :
    IsReal (Finset.univ.sup f) := by
  obtain ⟨i, -, hi⟩ := Finset.exists_mem_eq_sup Finset.univ Finset.univ_nonempty f
  rw [hi]
  exact h i

/-- A nonnegative real factor goes inside a sum, whatever the terms. -/
theorem sum_mul_coe {ι : Type} (s : Finset ι) (f : ι → EReal) {c : ℝ} (hc : 0 ≤ c) :
    (∑ i ∈ s, f i) * (c : EReal) = ∑ i ∈ s, f i * c := by
  classical
  induction s using Finset.induction with
  | empty => simp
  | insert a s ha ih =>
    rw [Finset.sum_insert ha, Finset.sum_insert ha, ← ih, EReal.right_distrib_of_nonneg_of_ne_top
      (EReal.coe_nonneg.mpr hc) (EReal.coe_ne_top c)]

/-- A sum of reals, taken in the extended reals. -/
theorem coe_sum {ι : Type} (s : Finset ι) (f : ι → ℝ) : (∑ i ∈ s, (f i : EReal)) = ((∑ i ∈ s, f i : ℝ) : EReal) := by
  classical
  induction s using Finset.induction with
  | empty => simp
  | insert a s ha ih => rw [Finset.sum_insert ha, Finset.sum_insert ha, ih, EReal.coe_add]

/-- The maximum of a row of `n + k` scores, part by part. -/
theorem sup_split {n k : Nat} (s : Fin (n + k) → EReal) :
    Finset.univ.sup s
      = max (Finset.univ.sup fun j : Fin n => s (Fin.castAdd k j)) (Finset.univ.sup fun j : Fin k => s (Fin.natAdd n j)) := by
  apply le_antisymm
  · refine Finset.sup_le fun j _ => ?_
    induction j using Fin.addCases with
    | left j => exact le_max_of_le_left (Finset.le_sup (f := fun j : Fin n => s (Fin.castAdd k j)) (Finset.mem_univ j))
    | right j => exact le_max_of_le_right (Finset.le_sup (f := fun j : Fin k => s (Fin.natAdd n j)) (Finset.mem_univ j))
  · exact max_le (Finset.sup_le fun j _ => Finset.le_sup (Finset.mem_univ _))
      (Finset.sup_le fun j _ => Finset.le_sup (Finset.mem_univ _))

/-- The softmax-weighted sum of the values `v` under the scores `s`: each weight normalised before it meets its value. -/
noncomputable def attend {N : Nat} (s v : Fin N → EReal) : EReal :=
  ∑ j, Ideal.div (Ideal.exp (s j - Finset.univ.sup s)) (∑ i, Ideal.exp (s i - Finset.univ.sup s)) * v j

/-- The same, one division after the sum, the keys in two runs. -/
noncomputable def attend2 {n k : Nat} (s v : Fin n → EReal) (s' v' : Fin k → EReal) : EReal :=
  let m := max (Finset.univ.sup s) (Finset.univ.sup s')
  Ideal.div (∑ j, Ideal.exp (s j - m) * v j + ∑ j, Ideal.exp (s' j - m) * v' j)
    (∑ j, Ideal.exp (s j - m) + ∑ j, Ideal.exp (s' j - m))

/-- Under real scores the sum of the weights is a positive real, so the division after the sum is the division inside it. -/
theorem div_sum {N : Nat} [NeZero N] (s v : Fin N → EReal) (h : ∀ j, IsReal (s j)) :
    Ideal.div (∑ j, Ideal.exp (s j - Finset.univ.sup s) * v j) (∑ j, Ideal.exp (s j - Finset.univ.sup s)) = attend s v := by
  unfold attend
  obtain ⟨m, hm⟩ := (IsReal.sup s h).exists_coe
  rw [hm]
  choose r hr using fun j => (h j).exists_coe
  have he : ∀ j, Ideal.exp (s j - m) = ((_root_.Real.exp (r j - m) : ℝ) : EReal) := fun j => by
    rw [hr j, ← EReal.coe_sub]; rfl
  simp only [he]
  have hs : (∑ j, ((_root_.Real.exp (r j - m) : ℝ) : EReal)) = ((∑ j, _root_.Real.exp (r j - m) : ℝ) : EReal) :=
    coe_sum _ _
  rw [hs]
  have hpos : 0 < ∑ j, _root_.Real.exp (r j - m) := Finset.sum_pos (fun j _ => Real.exp_pos _) Finset.univ_nonempty
  have hne : ((∑ j, _root_.Real.exp (r j - m) : ℝ) : EReal) ≠ 0 := EReal.coe_ne_zero.mpr hpos.ne'
  simp only [Ideal.div, if_neg hne]
  rw [← EReal.coe_inv, sum_mul_coe _ _ (inv_nonneg.mpr hpos.le)]
  refine Finset.sum_congr rfl fun j _ => ?_
  rw [mul_assoc, mul_comm (v j), ← mul_assoc]

/-- Two runs of keys, one division at the end, and one softmax over all the keys are the same number when the scores
are real. The values are arbitrary. -/
theorem attend2_eq {n k : Nat} [NeZero (n + k)] (s v : Fin (n + k) → EReal) (h : ∀ j, IsReal (s j)) :
    attend2 (fun j : Fin n => s (Fin.castAdd k j)) (fun j => v (Fin.castAdd k j))
      (fun j : Fin k => s (Fin.natAdd n j)) (fun j => v (Fin.natAdd n j)) = attend s v := by
  rw [← div_sum s v h, Fin.sum_univ_add, Fin.sum_univ_add]
  simp only [attend2, ← sup_split]

end Cert.Softmax
-- ==== Proof.Block.lean ====
module

public import proofs.«01_k».proof.Proof.Softmax
public import proofs.«01_k».proof.Proof.Gen.KernelIdeal.Frame
public import Idealize.ShloMosaic.Lib.Pointwise
public import Idealize.ShloMosaic.Lib.Pipeline.Value

/-! # What one block of the latent attention holds

The body handles the eight heads one after another, each with the same arithmetic. `headOut` is that arithmetic, `head_apply`
what it is at an index, `out_apply` the whole 256 × 512 block: in row `r`, at lane `64 h + d`, head `h`'s attention of
the query in row `r`, at value lane `d`. -/

@[expose] public section
noncomputable section

namespace Cert.Mla
open Idealize.ShloMosaic Cert.KernelIdeal Cert.KernelIdeal.Gen Cert.Softmax

set_option maxRecDepth 16384

/-- The scale of the scores, as the constant both programs print. -/
abbrev scale : EReal := Ideal.ofBits .f32 0x3DD105EC#32

/-- The tile a latent position lies in, -/
def tile (j : Fin 2048) : Fin 8 := ⟨j.val / 256, by omega⟩
/-- and its row there. -/
def row (j : Fin 2048) : Fin 256 := ⟨j.val % 256, by omega⟩

theorem ofBits_neg_inf : Ideal.ofBits .f32 0xFF800000#32 = ⊥ := by
  simp [Ideal.ofBits, Ideal.ieee]

/-- A running maximum from −∞ is the supremum. -/
theorem fold_max {ι : Type} [Fintype ι] (f : ι → EReal) :
    Finset.univ.fold max (Ideal.ofBits .f32 0xFF800000#32) f = Finset.univ.sup f := by
  rw [ofBits_neg_inf]; rfl

/-! ## One head -/

/-- The scores against the latent keys. -/
theorem sLat_apply (q : Vec Ideal S1x1x256x128 .bf16) (k : Vec Ideal S1x8x1x256x128 .bf16) (r : Fin 256) (j : Fin 2048) :
    k0_pay50 q k (ix2 r j) = (∑ x : Fin 128, q (ix4 0 0 r x) * k (ix5 0 (tile j) 0 (row j) x)) * scale := by
  pointwise [k0_pay50, k0_pay48]
  rfl

/-- The scores against the context's keys. -/
theorem sCtx_apply (q : Vec Ideal S1x1x256x128 .bf16) (k : Vec Ideal S1x1x1x256x128 .bf16) (r : Fin 256) (j : Fin 256) :
    k0_pay51 q k (ix2 r j) = (∑ x : Fin 128, q (ix4 0 0 r x) * k (ix5 0 0 0 j x)) * scale := by
  pointwise [k0_pay51, k0_pay48]

/-- The latent values, the eight tiles end to end. -/
theorem vLat_apply (v : Vec Ideal S1x8x1x256x64 .bf16) (j : Fin 2048) (d : Fin 64) :
    k0_pay49 v (ix2 j d) = v (ix5 0 (tile j) 0 (row j) d) := by
  pointwise [k0_pay49]
  rfl

/-- Scores and values to the attention: the two runs of keys, one division. -/
theorem mix_apply (v : FVec Ideal S2048x64 .bf16) (s : FVec Ideal S256x2048 .f32) (s' : FVec Ideal S256x256 .f32)
    (v' : Vec Ideal S1x1x1x256x64 .bf16) (r : Fin 256) (d : Fin 64) :
    k0_pay1 v s s' v' (ix2 r d)
      = attend2 (fun j => s (ix2 r j)) (fun j => v (ix2 j d)) (fun j => s' (ix2 r j)) (fun j => v' (ix5 0 0 0 j d)) := by
  pointwise [k0_pay1]
  simp only [fold_max, attend2]

/-- One head's block from its queries, keys and values, the latent ones and the context's. -/
def headOut (q : Vec Ideal S1x1x256x128 .bf16) (k : Vec Ideal S1x8x1x256x128 .bf16) (v : Vec Ideal S1x8x1x256x64 .bf16)
    (k' : Vec Ideal S1x1x1x256x128 .bf16) (v' : Vec Ideal S1x1x1x256x64 .bf16) : FVec Ideal S256x64 .f32 :=
  k0_pay1 (k0_pay49 v) (k0_pay50 q k) (k0_pay51 q k') v'

theorem head_apply (q : Vec Ideal S1x1x256x128 .bf16) (k : Vec Ideal S1x8x1x256x128 .bf16) (v : Vec Ideal S1x8x1x256x64 .bf16)
    (k' : Vec Ideal S1x1x1x256x128 .bf16) (v' : Vec Ideal S1x1x1x256x64 .bf16) (r : Fin 256) (d : Fin 64) :
    headOut q k v k' v' (ix2 r d)
      = attend2 (fun j => (∑ x : Fin 128, q (ix4 0 0 r x) * k (ix5 0 (tile j) 0 (row j) x)) * scale)
          (fun j => v (ix5 0 (tile j) 0 (row j) d))
          (fun j => (∑ x : Fin 128, q (ix4 0 0 r x) * k' (ix5 0 0 0 j x)) * scale) (fun j => v' (ix5 0 0 0 j d)) := by
  unfold headOut
  rw [mix_apply]
  simp only [sLat_apply, sCtx_apply, vLat_apply]

/-! The eight heads' payloads are the one function. -/

section Heads
variable (q : Vec Ideal S1x1x256x128 .bf16) (k : Vec Ideal S1x8x1x256x128 .bf16) (v : Vec Ideal S1x8x1x256x64 .bf16)
  (k' : Vec Ideal S1x1x1x256x128 .bf16) (v' : Vec Ideal S1x1x1x256x64 .bf16)

theorem head0 : k0_pay10 (k0_pay3 v) (k0_pay5 q k') (k0_pay6 v') (k0_pay7 q k k') (k0_pay8 q k k') (k0_pay9 q k k')
    = headOut q k v k' v' := rfl
theorem head1 : k0_pay15 (k0_pay12 v) (k0_pay13 q k) (k0_pay14 q k') v' = headOut q k v k' v' := rfl
theorem head2 : k0_pay18 (k0_pay16 q) (k0_pay17 k) v k' v' = headOut q k v k' v' := rfl
theorem head3 : k0_pay28 (k0_pay20 v) (k0_pay22 q k') (k0_pay23 v') (k0_pay24 q k k') (k0_pay26 q k k') (k0_pay27 q k k')
    (constant S256x64 .f32 0x00000000#32) = headOut q k v k' v' := rfl
theorem head4 : k0_pay33 (k0_pay30 v) (k0_pay31 q k) (k0_pay32 q k') v' = headOut q k v k' v' := rfl
theorem head5 : k0_pay37 (k0_pay34 q) (k0_pay35 k) (k0_pay36 v) (constant S256x2048 .f32 0x00000000#32) k' v'
    = headOut q k v k' v' := rfl
theorem head6 : k0_pay47 (k0_pay41 v') (k0_pay44 q k k') (k0_pay45 q k v k') (k0_pay46 q k k') = headOut q k v k' v' := rfl
theorem head7 : k0_pay1 (k0_pay49 v) (k0_pay50 q k) (k0_pay51 q k') v' = headOut q k v k' v' := rfl

end Heads

/-! ## The block -/

section Block
variable (x0 : Vec Ideal S1x8x256x128 .bf16) (x1 : Vec Ideal S1x8x8x256x128 .bf16) (x2 : Vec Ideal S1x8x8x256x64 .bf16)
  (x3 : Vec Ideal S1x1x8x256x128 .bf16) (x4 : Vec Ideal S1x1x8x256x64 .bf16)

/-- Head `h`'s attention of the query in row `r`, at value lane `d`, from the five loaded blocks. -/
def blockAt (r : Fin 256) (h : Fin 8) (d : Fin 64) : EReal :=
  attend2 (fun j => (∑ x : Fin 128, x0 (ix4 0 h r x) * x1 (ix5 0 (tile j) h (row j) x)) * scale)
    (fun j => x2 (ix5 0 (tile j) h (row j) d))
    (fun j => (∑ x : Fin 128, x0 (ix4 0 h r x) * x3 (ix5 0 0 h j x)) * scale) (fun j => x4 (ix5 0 0 h j d))

/-- The same by the block's own index: lane `64 h + d`. -/
def block (y : S256x512.Idx) : EReal :=
  blockAt x0 x1 x2 x3 x4 (y 0) ⟨(y 1).val / 64, by have : (y 1).val < 512 := (y 1).isLt; omega⟩
    ⟨(y 1).val % 64, Nat.mod_lt _ (by decide)⟩

/-- A rectangle of one head of a rank-four block, read at an index. -/
theorem ld4 {c : Nat} (X : (⟨4, ![1, 8, 256, c]⟩ : Shape).Idx → EReal) (h : Fin 8)
    (hb : ∀ a, (![0, h.val, 0, 0] : Fin 4 → Nat) a + (![1, 1, 256, c] : Fin 4 → Nat) a ≤ (![1, 8, 256, c] : Fin 4 → Nat) a)
    (r : Fin 256) (x : Fin c) :
    X ((Rect.unit (s := ⟨4, ![1, 8, 256, c]⟩) ![0, h.val, 0, 0] ![1, 1, 256, c] hb).idx (ix4 0 0 r x)) = X (ix4 0 h r x) := by
  congr 1; funext a; apply Fin.ext
  fin_cases a <;> simp [ix4, Rect.unit, LoadRect.idx]

/-- A rectangle of one head of a rank-five block, read at an index. -/
theorem ld5 {n c : Nat} (X : (⟨5, ![1, n, 8, 256, c]⟩ : Shape).Idx → EReal) (h : Fin 8)
    (hb : ∀ a, (![0, 0, h.val, 0, 0] : Fin 5 → Nat) a + (![1, n, 1, 256, c] : Fin 5 → Nat) a ≤ (![1, n, 8, 256, c] : Fin 5 → Nat) a)
    (t : Fin n) (r : Fin 256) (x : Fin c) :
    X ((Rect.unit (s := ⟨5, ![1, n, 8, 256, c]⟩) ![0, 0, h.val, 0, 0] ![1, n, 1, 256, c] hb).idx (ix5 0 t 0 r x))
      = X (ix5 0 t h r x) := by
  congr 1; funext a; apply Fin.ext
  fin_cases a <;> simp [ix5, Rect.unit, LoadRect.idx]

/-- Head `h`'s 64 lanes lie in the block. -/
theorem room (h : Fin 8) : ∀ a : Fin S256x512.rank, (![0, 64 * h.val] : Fin 2 → Nat) a + S256x64.size a ≤ S256x512.size a := by
  revert h; decide

/-- Head `h`'s store: what it writes at `x` is the block's value at the place it writes to. -/
theorem piece (h : Fin 8) (b0 b1 b2 b3 b4 b5) (x : S256x64.Idx) :
    headOut (View.ld x0 (Rect.unit (s := S1x8x256x128) ![0, h.val, 0, 0] S1x1x256x128.size b0))
        (View.ld x1 (Rect.unit (s := S1x8x8x256x128) ![0, 0, h.val, 0, 0] S1x8x1x256x128.size b1))
        (View.ld x2 (Rect.unit (s := S1x8x8x256x64) ![0, 0, h.val, 0, 0] S1x8x1x256x64.size b2))
        (View.ld x3 (Rect.unit (s := S1x1x8x256x128) ![0, 0, h.val, 0, 0] S1x1x1x256x128.size b3))
        (View.ld x4 (Rect.unit (s := S1x1x8x256x64) ![0, 0, h.val, 0, 0] S1x1x1x256x64.size b4)) x
      = block x0 x1 x2 x3 x4 ((Rect.unit (s := S256x512) ![0, 64 * h.val] S256x64.size b5).emb x) := by
  obtain ⟨r, d, rfl⟩ : ∃ (r : Fin 256) (d : Fin 64), x = ix2 r d := ⟨x 0, x 1, by funext a; fin_cases a <;> rfl⟩
  have hr : ((Rect.unit (s := S256x512) ![0, 64 * h.val] S256x64.size b5).emb (ix2 r d)) 0 = r := by
    apply Fin.ext; show 0 + 1 * r.val = r.val; omega
  have hc : (((Rect.unit (s := S256x512) ![0, 64 * h.val] S256x64.size b5).emb (ix2 r d)) 1).val = 64 * h.val + d.val := by
    show 64 * h.val + 1 * d.val = _; omega
  have hd := d.isLt
  unfold block
  rw [head_apply, hr, show (⟨_ / 64, _⟩ : Fin 8) = h from Fin.ext ((congrArg (· / 64) hc).trans (by show (_ + _) / 64 = _; omega)),
    show (⟨_ % 64, _⟩ : Fin 64) = d from Fin.ext ((congrArg (· % 64) hc).trans (by show (_ + _) % 64 = _; omega))]
  unfold blockAt
  have e0 := fun r x => ld4 x0 h b0 r x
  have e1 := fun t r x => ld5 x1 h b1 t r x
  have e2 := fun t r x => ld5 x2 h b2 t r x
  have e3 := fun t r x => ld5 x3 h b3 t r x
  have e4 := fun t r x => ld5 x4 h b4 t r x
  simp only [View.ld]
  congr 1
  · funext j; exact congrArg (· * scale) (Finset.sum_congr rfl fun x _ => congrArg₂ (· * ·) (e0 r x) (e1 _ _ x))
  · funext j; exact e2 _ _ d
  · funext j; exact congrArg (· * scale) (Finset.sum_congr rfl fun x _ => congrArg₂ (· * ·) (e0 r x) (e3 0 _ x))
  · funext j; exact e4 0 _ d

/-- The output block, index by index. -/
theorem out_apply (y : S256x512.Idx) : out0_5 x0 x1 x2 x3 x4 y = block x0 x1 x2 x3 x4 y := by
  unfold out0_5
  refine View.canon_apply_of_pieces (Val := Elt Ideal) (block x0 x1 x2 x3 x4) _ ?_ y (cover0_5 _ _ _ _ _ _ _ _ y)
  intro p hp
  simp only [List.mem_cons, List.not_mem_nil, or_false] at hp
  rcases hp with rfl | rfl | rfl | rfl | rfl | rfl | rfl | rfl <;> intro x
  · exact (congrFun (head7 ..) x).trans (piece x0 x1 x2 x3 x4 7 _ _ _ _ _ (room 7) x)
  · exact (congrFun (head6 ..) x).trans (piece x0 x1 x2 x3 x4 6 _ _ _ _ _ (room 6) x)
  · exact (congrFun (head5 ..) x).trans (piece x0 x1 x2 x3 x4 5 _ _ _ _ _ (room 5) x)
  · exact (congrFun (head4 ..) x).trans (piece x0 x1 x2 x3 x4 4 _ _ _ _ _ (room 4) x)
  · exact (congrFun (head3 ..) x).trans (piece x0 x1 x2 x3 x4 3 _ _ _ _ _ (room 3) x)
  · exact (congrFun (head2 ..) x).trans (piece x0 x1 x2 x3 x4 2 _ _ _ _ _ (room 2) x)
  · exact (congrFun (head1 ..) x).trans (piece x0 x1 x2 x3 x4 1 _ _ _ _ _ (room 1) x)
  · exact (congrFun (head0 ..) x).trans (piece x0 x1 x2 x3 x4 0 _ _ _ _ _ (room 0) x)

end Block

end Cert.Mla
-- ==== Proof.Array.lean ====
module

public import proofs.«01_k».proof.Proof.Block
public import proofs.«01_k».proof.Proof.Gen.KernelIdeal.Value
public import Idealize.ShloMosaic.Lib.StableHlo.ReadAt

/-! # What the kernel's result array holds

Grid point `t = 8 n + τ` takes query tile `τ` of sample `n`, that sample's eight latent key and value tiles and its
context keys and values, and writes 256 rows of the result. Together the sixteen points write the whole array, and at
every index it holds `attnAt`: one head's attention, over both runs of keys, from the arguments. -/

@[expose] public section
noncomputable section

namespace Cert.Mla
open Idealize.ShloMosaic Idealize.ShloMosaic.TcCoe Idealize.SL.Sem Cert.KernelIdeal Cert.KernelIdeal.Gen Cert.Softmax
open Idealize.ShloMosaic.Pipeline (Dat)

set_option maxRecDepth 16384

/-- The latent tile `s` of sample `n`, counted over all 48 tiles: the first 32 are the context's. -/
def lat (n : Fin 2) (s : Fin 8) : Fin 48 := ⟨32 + 8 * n.val + s.val, by omega⟩

section Spec
variable (x0 x1 : S48x8x256x128.Idx → EReal) (x2 : S48x8x256x64.Idx → EReal)
  (x3 : S2x4x8x256x128.Idx → EReal) (x4 : S2x4x8x256x64.Idx → EReal)

/-- The score of query `i` against latent key `j`, head `h` of sample `n`; -/
def sLat (n : Fin 2) (h : Fin 8) (i j : Fin 2048) : EReal :=
  (∑ x : Fin 128, x0 (ix4 (lat n (tile i)) h (row i) x) * x1 (ix4 (lat n (tile j)) h (row j) x)) * scale

/-- and against context key `j`. -/
def sCtx (n : Fin 2) (h : Fin 8) (i : Fin 2048) (j : Fin 256) : EReal :=
  (∑ x : Fin 128, x0 (ix4 (lat n (tile i)) h (row i) x) * x3 (ix5 n 0 h j x)) * scale

/-- The attention of query `i` at value lane `d`, over the latent keys and the context's, one division at the end. -/
def attnAt (n : Fin 2) (h : Fin 8) (i : Fin 2048) (d : Fin 64) : EReal :=
  attend2 (fun j => sLat x0 x1 n h i j) (fun j => x2 (ix4 (lat n (tile j)) h (row j) d))
    (fun j => sCtx x0 x3 n h i j) (fun j => x4 (ix5 n 0 h j d))

/-- The same by the result's own index: row `2048 n + i`, lane `64 h + d`. -/
def attn (y : S4096x512.Idx) : EReal :=
  attnAt x0 x1 x2 x3 x4 ⟨(y 0).val / 2048, by have : (y 0).val < 4096 := (y 0).isLt; omega⟩
    ⟨(y 1).val / 64, by have : (y 1).val < 512 := (y 1).isLt; omega⟩
    ⟨(y 0).val % 2048, Nat.mod_lt _ (by decide)⟩ ⟨(y 1).val % 64, Nat.mod_lt _ (by decide)⟩

end Spec

variable (m : (ℓ : Loc nD τ sig) → Buf (Elt Ideal) ℓ) (c : Dev nD)

/-! ## The blocks a point reads -/

/-- The latent keys as the region meets them: the last sixteen tiles, eight to a sample. -/
theorem keys_apply (n : Fin 2) (s h : Fin 8) (r : Fin 256) (x : Fin 128) :
    (V m c main_v1 : S2x8x8x256x128.Idx → EReal) (ix5 n s h r x)
      = (m ((c : Thread nD τ).loc main_arg1) : S48x8x256x128.Idx → EReal) (ix4 (lat n s) h r x) := by
  unfold V
  after_reads_at
  exact congrArg _ (congrArg (ix4 · h r x) (Fin.ext (by show 32 + (n.val * 8 + s.val) = 32 + 8 * n.val + s.val; omega)))

theorem vals_apply (n : Fin 2) (s h : Fin 8) (r : Fin 256) (x : Fin 64) :
    (V m c main_v3 : S2x8x8x256x64.Idx → EReal) (ix5 n s h r x)
      = (m ((c : Thread nD τ).loc main_arg2) : S48x8x256x64.Idx → EReal) (ix4 (lat n s) h r x) := by
  unfold V
  after_reads_at
  exact congrArg _ (congrArg (ix4 · h r x) (Fin.ext (by show 32 + (n.val * 8 + s.val) = 32 + 8 * n.val + s.val; omega)))

/-- The sample and the query tile of grid point `t`. -/
def smp (t : Fin cfg0.N) : Fin 2 := ⟨t.val / 8, by have : t.val < 16 := t.isLt; omega⟩
def qt (t : Fin cfg0.N) : Fin 8 := ⟨t.val % 8, Nat.mod_lt _ (by decide)⟩

theorem index0 : ∀ t : Fin cfg0.N, win0_0.index t = ![32 + t.val, 0, 0, 0] :=
  (by decide +kernel : ∀ t : Fin grid0.N, win0_0.index t = ![32 + t.val, 0, 0, 0])
theorem index1 : ∀ t : Fin cfg0.N, win0_1.index t = ![t.val / 8, 0, 0, 0, 0] :=
  (by decide +kernel : ∀ t : Fin grid0.N, win0_1.index t = ![t.val / 8, 0, 0, 0, 0])
theorem index2 : ∀ t : Fin cfg0.N, win0_2.index t = ![t.val / 8, 0, 0, 0, 0] :=
  (by decide +kernel : ∀ t : Fin grid0.N, win0_2.index t = ![t.val / 8, 0, 0, 0, 0])
theorem index3 : ∀ t : Fin cfg0.N, win0_3.index t = ![t.val / 8, 0, 0, 0, 0] :=
  (by decide +kernel : ∀ t : Fin grid0.N, win0_3.index t = ![t.val / 8, 0, 0, 0, 0])
theorem index4 : ∀ t : Fin cfg0.N, win0_4.index t = ![t.val / 8, 0, 0, 0, 0] :=
  (by decide +kernel : ∀ t : Fin grid0.N, win0_4.index t = ![t.val / 8, 0, 0, 0, 0])
theorem index5 : ∀ t : Fin cfg0.N, win0_5.index t = ![t.val, 0] :=
  (by decide +kernel : ∀ t : Fin grid0.N, win0_5.index t = ![t.val, 0])

theorem blk0_apply (t : Fin cfg0.N) (h : Fin 8) (r : Fin 256) (x : Fin 128) :
    (iblk m c 0 t : Vec Ideal S1x8x256x128 .bf16) (ix4 0 h r x)
      = (m ((c : Thread nD τ).loc main_arg0) : S48x8x256x128.Idx → EReal) (ix4 (lat (smp t) (qt t)) h r x) := by
  unfold iblk
  rw [View.read_apply]
  show (V m c main_arg0 : S48x8x256x128.Idx → EReal) _ = _
  rw [V_main_arg0]
  congr 1
  funext a
  apply Fin.ext
  match a with
  | ⟨0, _⟩ => show win0_0.index t 0 * 1 + 1 * 0 = 32 + 8 * (t.val / 8) + t.val % 8; rw [index0]; simp; omega
  | ⟨1, _⟩ => show win0_0.index t 1 * 8 + 1 * h.val = h.val; rw [index0]; simp
  | ⟨2, _⟩ => show win0_0.index t 2 * 256 + 1 * r.val = r.val; rw [index0]; simp
  | ⟨3, _⟩ => show win0_0.index t 3 * 128 + 1 * x.val = x.val; rw [index0]; simp

theorem blk1_apply (t : Fin cfg0.N) (s h : Fin 8) (r : Fin 256) (x : Fin 128) :
    (iblk m c 1 t : Vec Ideal S1x8x8x256x128 .bf16) (ix5 0 s h r x)
      = (m ((c : Thread nD τ).loc main_arg1) : S48x8x256x128.Idx → EReal) (ix4 (lat (smp t) s) h r x) := by
  refine Eq.trans ?_ (keys_apply m c (smp t) s h r x)
  unfold iblk
  rw [View.read_apply]
  show (V m c main_v1 : S2x8x8x256x128.Idx → EReal) _ = _
  congr 1
  funext a
  apply Fin.ext
  match a with
  | ⟨0, _⟩ => show win0_1.index t 0 * 1 + 1 * 0 = t.val / 8; rw [index1]; simp
  | ⟨1, _⟩ => show win0_1.index t 1 * 8 + 1 * s.val = s.val; rw [index1]; simp
  | ⟨2, _⟩ => show win0_1.index t 2 * 8 + 1 * h.val = h.val; rw [index1]; simp
  | ⟨3, _⟩ => show win0_1.index t 3 * 256 + 1 * r.val = r.val; rw [index1]; simp
  | ⟨4, _⟩ => show win0_1.index t 4 * 128 + 1 * x.val = x.val; rw [index1]; simp

theorem blk2_apply (t : Fin cfg0.N) (s h : Fin 8) (r : Fin 256) (x : Fin 64) :
    (iblk m c 2 t : Vec Ideal S1x8x8x256x64 .bf16) (ix5 0 s h r x)
      = (m ((c : Thread nD τ).loc main_arg2) : S48x8x256x64.Idx → EReal) (ix4 (lat (smp t) s) h r x) := by
  refine Eq.trans ?_ (vals_apply m c (smp t) s h r x)
  unfold iblk
  rw [View.read_apply]
  show (V m c main_v3 : S2x8x8x256x64.Idx → EReal) _ = _
  congr 1
  funext a
  apply Fin.ext
  match a with
  | ⟨0, _⟩ => show win0_2.index t 0 * 1 + 1 * 0 = t.val / 8; rw [index2]; simp
  | ⟨1, _⟩ => show win0_2.index t 1 * 8 + 1 * s.val = s.val; rw [index2]; simp
  | ⟨2, _⟩ => show win0_2.index t 2 * 8 + 1 * h.val = h.val; rw [index2]; simp
  | ⟨3, _⟩ => show win0_2.index t 3 * 256 + 1 * r.val = r.val; rw [index2]; simp
  | ⟨4, _⟩ => show win0_2.index t 4 * 64 + 1 * x.val = x.val; rw [index2]; simp

theorem blk3_apply (t : Fin cfg0.N) (h : Fin 8) (r : Fin 256) (x : Fin 128) :
    (iblk m c 3 t : Vec Ideal S1x1x8x256x128 .bf16) (ix5 0 0 h r x)
      = (m ((c : Thread nD τ).loc main_arg3) : S2x4x8x256x128.Idx → EReal) (ix5 (smp t) 0 h r x) := by
  unfold iblk
  rw [View.read_apply]
  show (V m c main_arg3 : S2x4x8x256x128.Idx → EReal) _ = _
  rw [V_main_arg3]
  congr 1
  funext a
  apply Fin.ext
  match a with
  | ⟨0, _⟩ => show win0_3.index t 0 * 1 + 1 * 0 = t.val / 8; rw [index3]; simp
  | ⟨1, _⟩ => show win0_3.index t 1 * 1 + 1 * 0 = 0; rw [index3]; simp
  | ⟨2, _⟩ => show win0_3.index t 2 * 8 + 1 * h.val = h.val; rw [index3]; simp
  | ⟨3, _⟩ => show win0_3.index t 3 * 256 + 1 * r.val = r.val; rw [index3]; simp
  | ⟨4, _⟩ => show win0_3.index t 4 * 128 + 1 * x.val = x.val; rw [index3]; simp

theorem blk4_apply (t : Fin cfg0.N) (h : Fin 8) (r : Fin 256) (x : Fin 64) :
    (iblk m c 4 t : Vec Ideal S1x1x8x256x64 .bf16) (ix5 0 0 h r x)
      = (m ((c : Thread nD τ).loc main_arg4) : S2x4x8x256x64.Idx → EReal) (ix5 (smp t) 0 h r x) := by
  unfold iblk
  rw [View.read_apply]
  show (V m c main_arg4 : S2x4x8x256x64.Idx → EReal) _ = _
  rw [V_main_arg4]
  congr 1
  funext a
  apply Fin.ext
  match a with
  | ⟨0, _⟩ => show win0_4.index t 0 * 1 + 1 * 0 = t.val / 8; rw [index4]; simp
  | ⟨1, _⟩ => show win0_4.index t 1 * 1 + 1 * 0 = 0; rw [index4]; simp
  | ⟨2, _⟩ => show win0_4.index t 2 * 8 + 1 * h.val = h.val; rw [index4]; simp
  | ⟨3, _⟩ => show win0_4.index t 3 * 256 + 1 * r.val = r.val; rw [index4]; simp
  | ⟨4, _⟩ => show win0_4.index t 4 * 64 + 1 * x.val = x.val; rw [index4]; simp

/-! ## The whole array -/

/-- The attention of the launch's arguments. -/
def result : S4096x512.Idx → EReal :=
  attn (m ((c : Thread nD τ).loc main_arg0)) (m ((c : Thread nD τ).loc main_arg1)) (m ((c : Thread nD τ).loc main_arg2))
    (m ((c : Thread nD τ).loc main_arg3)) (m ((c : Thread nD τ).loc main_arg4))

/-- Point `t`'s block is rows `256 t` to `256 t + 255` of the result. -/
theorem block_eq (t : Fin cfg0.N) (r : Fin 256) (l : Fin 512) (z : S4096x512.Idx) (h0 : (z 0).val = 256 * t.val + r.val)
    (h1 : (z 1).val = l.val) :
    block (iblk m c 0 t) (iblk m c 1 t) (iblk m c 2 t) (iblk m c 3 t) (iblk m c 4 t) (ix2 r l) = result m c z := by
  have hr := r.isLt
  have hl := l.isLt
  have ht : t.val < 16 := t.isLt
  have hz0 : (z 0).val < 4096 := (z 0).isLt
  have hz1 : (z 1).val < 512 := (z 1).isLt
  obtain ⟨h, hh⟩ : ∃ h : Fin 8, h.val = l.val / 64 := ⟨⟨l.val / 64, by omega⟩, rfl⟩
  obtain ⟨d, hd⟩ : ∃ d : Fin 64, d.val = l.val % 64 := ⟨⟨l.val % 64, by omega⟩, rfl⟩
  obtain ⟨i, hi⟩ : ∃ i : Fin 2048, i.val = (z 0).val % 2048 := ⟨⟨(z 0).val % 2048, by omega⟩, rfl⟩
  have e3 : tile i = qt t := Fin.ext (by show i.val / 256 = t.val % 8; omega)
  have e4 : row i = r := Fin.ext (by show i.val % 256 = r.val; omega)
  calc block (iblk m c 0 t) (iblk m c 1 t) (iblk m c 2 t) (iblk m c 3 t) (iblk m c 4 t) (ix2 r l)
      = blockAt (iblk m c 0 t) (iblk m c 1 t) (iblk m c 2 t) (iblk m c 3 t) (iblk m c 4 t) r h d :=
        congrArg₂ (blockAt _ _ _ _ _ r) (Fin.ext hh.symm) (Fin.ext hd.symm)
    _ = attnAt (m ((c : Thread nD τ).loc main_arg0)) (m ((c : Thread nD τ).loc main_arg1))
          (m ((c : Thread nD τ).loc main_arg2)) (m ((c : Thread nD τ).loc main_arg3))
          (m ((c : Thread nD τ).loc main_arg4)) (smp t) h i d := by
        unfold blockAt attnAt sLat sCtx
        rw [e3, e4]
        simp only [blk0_apply, blk1_apply, blk2_apply, blk3_apply, blk4_apply]
    _ = result m c z := by
        unfold result attn
        congr 1
        · exact Fin.ext (by show t.val / 8 = (z 0).val / 2048; omega)
        · exact Fin.ext (by show h.val = (z 1).val / 64; omega)
        · exact Fin.ext hi
        · exact Fin.ext (by show d.val = (z 1).val % 64; omega)

/-- What point `t` writes back is the result's block. -/
theorem flushed_eq (t : Fin cfg0.N) (_ : (cfg0.win 5).flush t = true) :
    (dats m 0 c).flushed 5 t = ((cfg0.win 5).blk t).view.read (Elt Ideal) (result m c) := by
  rw [Value.flushed5]
  funext y
  obtain ⟨r, l, rfl⟩ : ∃ (r : Fin 256) (l : Fin 512), y = ix2 r l := ⟨y 0, y 1, by funext a; fin_cases a <;> rfl⟩
  rw [View.read_apply]
  refine (out_apply _ _ _ _ _ (ix2 r l)).trans (block_eq m c t r l _ ?_ ?_)
  · show win0_5.index t 0 * 256 + 1 * r.val = _; rw [index5]; simp; omega
  · show win0_5.index t 1 * 512 + 1 * l.val = _; rw [index5]; simp

/-- So the result array ends holding the attention of the arguments: the blocks cover it. -/
theorem final : (dats m 0 c).arrAt 5 cfg0.N = result m c :=
  (dats m 0 c).arrAt_eq_of_cover 5 (result m c) (flushed_eq m c) fun z => by
    have h0 : (z 0 : Nat) < 4096 := (z 0).isLt
    have h1 : (z 1 : Nat) < 512 := (z 1).isLt
    obtain ⟨t, ht⟩ : ∃ t : Fin cfg0.N, t.val = (z 0 : Nat) / 256 := ⟨⟨(z 0 : Nat) / 256, by show _ < 16; omega⟩, rfl⟩
    refine ⟨t, flush0_5 t, ?_⟩
    show z ∈ ((View.whole main_v4).slice (win0_5.rect t)).set
    rw [View.set_slice_whole, Rect.mem_set_unit]
    intro a
    match a with
    | ⟨0, _⟩ =>
      show win0_5.index t 0 * 256 ≤ (z 0 : Nat) ∧ (z 0 : Nat) < win0_5.index t 0 * 256 + 256
      rw [index5]; simp; omega
    | ⟨1, _⟩ =>
      show win0_5.index t 1 * 512 ≤ (z 1 : Nat) ∧ (z 1 : Nat) < win0_5.index t 1 * 512 + 512
      rw [index5]; simp; omega

end Cert.Mla
-- ==== Proof.RefScore.lean ====
module

public import proofs.«01_k».proof.Proof.Array
public import proofs.«01_k».proof.Proof.Gen.ReferenceIdeal.Read

/-! # The scores and the values of the reference

The reference lays the 2048 latent keys and the 256 context keys of a sample end to end and takes one softmax over
all of them. This module reads its scores and its values at an index; the softmax comes after. -/

@[expose] public section
noncomputable section

namespace Cert.Mla
open Idealize.ShloMosaic Cert.ReferenceIdeal Cert.ReferenceIdeal.Gen Cert.ReferenceIdeal.Read Cert.Softmax

set_option maxRecDepth 16384
variable (x0 x1 : S48x8x256x128.Idx → EReal) (x2 : S48x8x256x64.Idx → EReal)
  (x3 : S2x4x8x256x128.Idx → EReal) (x4 : S2x4x8x256x64.Idx → EReal)

/-- The queries: head by head, the tiles end to end. -/
theorem q_apply (n : Fin 2) (h : Fin 8) (i : Fin 2048) (x : Fin 128) :
    val_main_v4 (F := Ideal) x0 (ix4 n h i x) = x0 (ix4 (lat n (tile i)) h (row i) x) := by
  pointwise [val_main_v4, val_main_v3, val_main_v2, val_main_v1, val_main_v0]
  exact congrArg _ (congrArg (ix4 · h _ x) (Fin.ext (by show 32 + (n.val * 8 + i.val / 256) = 32 + 8 * n.val + i.val / 256; omega)))

/-- A latent key. -/
theorem kLat_apply (n : Fin 2) (h : Fin 8) (j : Fin 2048) (x : Fin 128) :
    val_main_v13 (F := Ideal) x1 x3 (ix4 n h (Fin.castAdd 256 j) x) = x1 (ix4 (lat n (tile j)) h (row j) x) := by
  have hj : (Fin.castAdd 256 j).val < 2048 := j.isLt
  pointwise [val_main_v13, val_main_v12, val_main_v11, val_main_v10, val_main_v9, val_main_v8, val_main_v7, val_main_v6, val_main_v5]
  rw [dif_pos hj]
  exact congrArg _ (congrArg (ix4 · h _ x) (Fin.ext (by show 32 + (n.val * 8 + j.val / 256) = 32 + 8 * n.val + j.val / 256; omega)))

/-- A context key. -/
theorem kCtx_apply (n : Fin 2) (h : Fin 8) (j : Fin 256) (x : Fin 128) :
    val_main_v13 (F := Ideal) x1 x3 (ix4 n h (Fin.natAdd 2048 j) x) = x3 (ix5 n 0 h j x) := by
  have hj : ¬ (Fin.natAdd 2048 j).val < 2048 := by show ¬ 2048 + j.val < 2048; omega
  pointwise [val_main_v13, val_main_v12, val_main_v11, val_main_v10, val_main_v9, val_main_v8, val_main_v7, val_main_v6, val_main_v5]
  rw [dif_neg hj]
  exact congrArg _ (congrArg (ix5 n 0 h · x) (Fin.ext (by show 2048 + j.val - 2048 = j.val; omega)))

/-- A latent value. -/
theorem vLat'_apply (n : Fin 2) (h : Fin 8) (j : Fin 2048) (x : Fin 64) :
    val_main_v22 (F := Ideal) x2 x4 (ix4 n h (Fin.castAdd 256 j) x) = x2 (ix4 (lat n (tile j)) h (row j) x) := by
  have hj : (Fin.castAdd 256 j).val < 2048 := j.isLt
  pointwise [val_main_v22, val_main_v21, val_main_v20, val_main_v19, val_main_v18, val_main_v17, val_main_v16, val_main_v15, val_main_v14]
  rw [dif_pos hj]
  exact congrArg _ (congrArg (ix4 · h _ x) (Fin.ext (by show 32 + (n.val * 8 + j.val / 256) = 32 + 8 * n.val + j.val / 256; omega)))

/-- A context value. -/
theorem vCtx_apply (n : Fin 2) (h : Fin 8) (j : Fin 256) (x : Fin 64) :
    val_main_v22 (F := Ideal) x2 x4 (ix4 n h (Fin.natAdd 2048 j) x) = x4 (ix5 n 0 h j x) := by
  have hj : ¬ (Fin.natAdd 2048 j).val < 2048 := by show ¬ 2048 + j.val < 2048; omega
  pointwise [val_main_v22, val_main_v21, val_main_v20, val_main_v19, val_main_v18, val_main_v17, val_main_v16, val_main_v15, val_main_v14]
  rw [dif_neg hj]
  exact congrArg _ (congrArg (ix5 n 0 h · x) (Fin.ext (by show 2048 + j.val - 2048 = j.val; omega)))

/-- A score: the inner product of query and key, scaled. -/
theorem s_apply (n : Fin 2) (h : Fin 8) (i : Fin 2048) (j : Fin 2304) :
    val_main_v25 (F := Ideal) x0 x1 x3 (ix4 n h i j)
      = (∑ x : Fin 128, x0 (ix4 (lat n (tile i)) h (row i) x) * val_main_v13 (F := Ideal) x1 x3 (ix4 n h j x)) * scale := by
  pointwise [val_main_v25, val_main_v24, val_main_v23, val_main_cst]
  simp only [q_apply]

/-- The row's maximum. -/
theorem max_apply (n : Fin 2) (h : Fin 8) (i : Fin 2048) :
    val_main_v26 (F := Ideal) x0 x1 x3 (ix3 n h i)
      = Finset.univ.sup fun j : Fin 2304 => val_main_v25 (F := Ideal) x0 x1 x3 (ix4 n h i j) := by
  unfold val_main_v26
  generalize val_main_v25 (F := Ideal) x0 x1 x3 = s
  refine (Host.reduce_eq_fold_single (max : EReal → EReal → EReal) s _ reducesTo_S2x8x2048x2304_S2x8x2048_d3 (by decide) h_S_
    (ix3 n h i)).trans ((fold_max _).trans ?_)
  refine congrArg (Finset.sup Finset.univ) (funext fun k => congrArg s (funext fun a => Fin.ext ?_))
  match a with
  | ⟨0, _⟩ => rfl
  | ⟨1, _⟩ => rfl
  | ⟨2, _⟩ => rfl
  | ⟨3, _⟩ => rfl

end Cert.Mla
-- ==== Proof.Finite.lean ====
module

public import proofs.«01_k».proof.Proof.RefScore
public import proofs.«01_k».proof.Defs
public import proofs.«01_k».proof.Proof.Gen.Pre_finite
public import Idealize.ShloMosaic.Lib.ReduceAll

/-! # What the precondition gives: every score is a real number -/

@[expose] public section
noncomputable section

namespace Cert.Mla
open Idealize.ShloMosaic Cert.KernelIdeal Cert.Softmax

set_option maxRecDepth 16384

theorem ofBits_pos_inf : Ideal.ofBits .f32 0x7F800000#32 = ⊤ := by simp [Ideal.ofBits, Ideal.ieee]

/-- The scale is a real number. -/
theorem scale_real : IsReal scale := by
  unfold scale
  simp only [Ideal.ofBits, Ideal.ieee]
  norm_num
  exact IsReal.coe _

/-- A number whose absolute value the comparison finds below +∞ is real. -/
theorem real_of_lt {x : EReal} (h : Ideal.cmp .olt (max x (-x)) ⊤ = 1#1) : IsReal x := by
  have hlt : max x (-x) < ⊤ := by
    by_contra hn
    simp [Ideal.cmp, hn] at h
  exact ⟨fun e => by simp [e] at hlt, fun e => by simp [e] at hlt⟩

/-- The same as the comparison of the precondition writes it. -/
theorem real_of_bound {x : EReal}
    (h : BitVec.ofBool (decide (FloatOps.absf (F := Ideal) (φ := .f32) x < Ideal.ofBits FTy.f32 2139095040#32)) = 1#1) :
    IsReal x :=
  real_of_lt (by rw [← ofBits_pos_inf]; exact h)

section
variable (x0 x1 : S48x8x256x128.Idx → EReal) (x2 : S48x8x256x64.Idx → EReal)
  (x3 : S2x4x8x256x128.Idx → EReal) (x4 : S2x4x8x256x64.Idx → EReal)

/-- The three conjuncts of the precondition, each at every index of its array. -/
theorem real_of_pre (h : Cert.Pre_finite.fn (F := Ideal) x0 x1 x2 x3 x4 = fun _ => 1#1) :
    (∀ n s h r x, IsReal (x0 (ix4 (lat n s) h r x))) ∧ (∀ n s h r x, IsReal (x1 (ix4 (lat n s) h r x)))
      ∧ (∀ n h j x, IsReal (x3 (ix5 n 0 h j x))) := by
  have h := congrFun h ix0
  unfold Pre_finite.fn Pre_finite.fn_part1 at h
  simp only [andi] at h
  obtain ⟨h01, h3⟩ := IntOp.andi_eq_one.1 h
  obtain ⟨h0, h1⟩ := IntOp.andi_eq_one.1 h01
  refine ⟨fun n s h r x => ?_, fun n s h r x => ?_, fun n h j x => ?_⟩
  · have := Host.reduce_andi_all _ _ _ _ _ h0 (ix4 ⟨8 * n.val + s.val, by omega⟩ h r x)
    pointwise at this
    exact real_of_bound (by simp only [← Nat.add_assoc] at this; exact this)
  · have := Host.reduce_andi_all _ _ _ _ _ h1 (ix4 ⟨8 * n.val + s.val, by omega⟩ h r x)
    pointwise at this
    exact real_of_bound (by simp only [← Nat.add_assoc] at this; exact this)
  · have := Host.reduce_andi_all _ _ _ _ _ h3 (ix4 n h j x)
    pointwise at this
    exact real_of_bound this

variable {x0 x1 x3}

/-- A sum of 128 products of real numbers, scaled, is real. -/
theorem score_real {a b : Fin 128 → EReal} (ha : ∀ x, IsReal (a x)) (hb : ∀ x, IsReal (b x)) :
    IsReal ((∑ x, a x * b x) * scale) :=
  (IsReal.sum _ _ fun x => (ha x).mul (hb x)).mul scale_real

end

end Cert.Mla
-- ==== Proof.Ref.lean ====
module

public import proofs.«01_k».proof.Proof.Finite
public import proofs.«01_k».proof.Proof.Gen.ReferenceIdeal.Read

/-! # What the reference computes

The reference lays the 2048 latent keys and the 256 context keys of a sample end to end and takes one softmax over
all of them: `attend` of its scores and its values. At real scores that is `attn`. -/

@[expose] public section
noncomputable section

namespace Cert.Mla
open Idealize.ShloMosaic Cert.ReferenceIdeal Cert.ReferenceIdeal.Gen Cert.ReferenceIdeal.Read Cert.Softmax

set_option maxRecDepth 16384
variable (x0 x1 : S48x8x256x128.Idx → EReal) (x2 : S48x8x256x64.Idx → EReal)
  (x3 : S2x4x8x256x128.Idx → EReal) (x4 : S2x4x8x256x64.Idx → EReal)

/-- The largest score of a query, as it is subtracted from each of them: the bound of −∞ that is put under it does
nothing. -/
theorem top_apply (n : Fin 2) (h : Fin 8) (i : Fin 2048) :
    val_main_v28 (F := Ideal) x0 x1 x3 (ix3 n h i)
      = Finset.univ.sup fun j : Fin 2304 => val_main_v25 (F := Ideal) x0 x1 x3 (ix4 n h i j) := by
  refine Eq.trans ?_ (max_apply x0 x1 x3 n h i)
  rw [val_main_v28_apply, val_main_v27_apply]
  generalize val_main_v26 (F := Ideal) x0 x1 x3 (ix3 n h i) = t
  show max (Ideal.ofBits .f32 0xFF800000#32) t = t
  rw [ofBits_neg_inf]
  exact max_eq_right bot_le

/-- The same beside every key. -/
theorem under_apply (n : Fin 2) (h : Fin 8) (i : Fin 2048) (j : Fin 2304) :
    val_main_v30 (F := Ideal) x0 x1 x3 (ix4 n h i j) = val_main_v28 (F := Ideal) x0 x1 x3 (ix3 n h i) := by
  pointwise [val_main_v30, val_main_v29]

/-- A weight before its normalisation. -/
theorem e_apply (n : Fin 2) (h : Fin 8) (i : Fin 2048) (j : Fin 2304) :
    val_main_v32 (F := Ideal) x0 x1 x3 (ix4 n h i j)
      = Ideal.exp (val_main_v25 (F := Ideal) x0 x1 x3 (ix4 n h i j)
          - Finset.univ.sup fun j : Fin 2304 => val_main_v25 (F := Ideal) x0 x1 x3 (ix4 n h i j)) := by
  rw [← top_apply x0 x1 x3 n h i, ← under_apply x0 x1 x3 n h i j, val_main_v32_apply, val_main_v31_apply]
  generalize val_main_v25 (F := Ideal) x0 x1 x3 (ix4 n h i j) = a
  generalize val_main_v30 (F := Ideal) x0 x1 x3 (ix4 n h i j) = b
  rfl

/-- The sum of the weights. -/
theorem den_apply (n : Fin 2) (h : Fin 8) (i : Fin 2048) :
    val_main_v33 (F := Ideal) x0 x1 x3 (ix3 n h i) = ∑ j : Fin 2304, val_main_v32 (F := Ideal) x0 x1 x3 (ix4 n h i j) := by
  pointwise [val_main_v33, val_main_cst_2]

/-- A weight. -/
theorem p_apply (n : Fin 2) (h : Fin 8) (i : Fin 2048) (j : Fin 2304) :
    val_main_v36 (F := Ideal) x0 x1 x3 (ix4 n h i j)
      = Ideal.div (val_main_v32 (F := Ideal) x0 x1 x3 (ix4 n h i j)) (val_main_v33 (F := Ideal) x0 x1 x3 (ix3 n h i)) := by
  pointwise [val_main_v36, val_main_v35, val_main_v34]

/-- The weighted sum of the values. -/
theorem o_apply (n : Fin 2) (h : Fin 8) (i : Fin 2048) (d : Fin 64) :
    val_main_v37 (F := Ideal) x0 x1 x2 x3 x4 (ix4 n h i d)
      = attend (fun j : Fin 2304 => val_main_v25 (F := Ideal) x0 x1 x3 (ix4 n h i j))
          (fun j => val_main_v22 (F := Ideal) x2 x4 (ix4 n h j d)) := by
  pointwise [val_main_v37]
  simp only [p_apply, den_apply, e_apply, attend]

/-- The result by its own index. -/
theorem ref_apply (y : S4096x512.Idx) :
    val_main_v39 (F := Ideal) x0 x1 x2 x3 x4 y
      = val_main_v37 (F := Ideal) x0 x1 x2 x3 x4
          (ix4 ⟨(y 0).val / 2048, by have : (y 0).val < 4096 := (y 0).isLt; omega⟩
            ⟨(y 1).val / 64, by have : (y 1).val < 512 := (y 1).isLt; omega⟩
            ⟨(y 0).val % 2048, Nat.mod_lt _ (by decide)⟩ ⟨(y 1).val % 64, Nat.mod_lt _ (by decide)⟩) := by
  pointwise [val_main_v39, val_main_v38]

/-- At real scores the reference's one softmax is the attention over the two runs of keys. -/
theorem ref_eq (hs : ∀ n h i j, IsReal (sLat x0 x1 n h i j)) (hs' : ∀ n h i j, IsReal (sCtx x0 x3 n h i j))
    (y : S4096x512.Idx) : val_main_v39 (F := Ideal) x0 x1 x2 x3 x4 y = attn x0 x1 x2 x3 x4 y := by
  rw [ref_apply, o_apply]
  unfold attn attnAt
  generalize (⟨(y 0).val / 2048, _⟩ : Fin 2) = n
  generalize (⟨(y 1).val / 64, _⟩ : Fin 8) = h
  generalize (⟨(y 0).val % 2048, _⟩ : Fin 2048) = i
  generalize (⟨(y 1).val % 64, _⟩ : Fin 64) = d
  have el : ∀ j : Fin 2048, val_main_v25 (F := Ideal) x0 x1 x3 (ix4 n h i (Fin.castAdd 256 j)) = sLat x0 x1 n h i j := fun j => by
    rw [s_apply]; simp only [kLat_apply]; rfl
  have ec : ∀ j : Fin 256, val_main_v25 (F := Ideal) x0 x1 x3 (ix4 n h i (Fin.natAdd 2048 j)) = sCtx x0 x3 n h i j := fun j => by
    rw [s_apply]; simp only [kCtx_apply]; rfl
  have key := attend2_eq (n := 2048) (k := 256) (fun j => val_main_v25 (F := Ideal) x0 x1 x3 (ix4 n h i j))
    (fun j => val_main_v22 (F := Ideal) x2 x4 (ix4 n h j d)) (fun j => by
      induction j using Fin.addCases with
      | left j => rw [el]; exact hs n h i j
      | right j => rw [ec]; exact hs' n h i j)
  simp only [el, ec, vLat'_apply, vCtx_apply] at key
  exact key.symm

end Cert.Mla
-- ==== Proof.Moe.Body.lean ====
module

public import proofs.«01_k».proof.Proof.Gen.MoeIdeal.Skeleton
public import proofs.«01_k».proof.Proof.Gen.MoeIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Exec
public import Idealize.ShloMosaic.Lib.Tactic
public import Idealize.ShloMosaic.Adequacy
public import Idealize.ShloMosaic.Init

/-! # One block of the experts' call

`body_run`: the body at a point, from its five blocks and the two scratch buffers. Either the point's `first` is 1 and the
weights are rounded anew, or the scratch already holds the rounding of these same blocks; in both cases the scratch
afterwards holds the rounding of this point's weights, and the output is `result`. -/

@[expose] public section
set_option maxRecDepth 16384
noncomputable section

namespace Cert.Experts

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three tables and the two scratch buffers, whole. -/
abbrev tbl0 : Memref sig .tc .smem S224 .i32 := Memref.whole main_arg0
abbrev tbl1 : Memref sig .tc .smem S224 .i32 := Memref.whole main_arg1
abbrev tbl2 : Memref sig .tc .smem S1 .i32 := Memref.whole main_arg2
abbrev scr0 : Memref sig .tc .vmem S1024x2048 .bf16 := Memref.whole cc0_scratch0
abbrev scr1 : Memref sig .tc .vmem S1024x1024 .bf16 := Memref.whole cc0_scratch1

/-- The word of `first` that the body reads at a point, -/
abbrev firstWord (i : grid0.Coords) (T : S224.Idx → Elt F .i32) : Elt F .i32 :=
  View.readAt (Elt F) tbl1.view (Rect.unit (s := S224) (k0_off1 i) S1.size (k0_off1_inb i)).toLoadRect T
    (Shape.Idx.first (numel1_S1.symm ▸ Nat.one_pos))
/-- and the number of blocks in use. -/
abbrev usedWord (T : S1.Idx → Elt F .i32) : Elt F .i32 :=
  View.readAt (Elt F) tbl2.view (Rect.unit (s := S1) ![0] S1.size inb_S1_S1_0).toLoadRect T
    (Shape.Idx.first (numel1_S1.symm ▸ Nat.one_pos))

/-- The third condition is the negation of the second. -/
theorem cond3_iff (i : grid0.Coords) (v : BitVec 32) : k0_cond3 i v = 1#1 ↔ ¬ k0_cond2 i v = 1#1 := by
  unfold k0_cond3 k0_cond2
  simp only [Scalar.cmpi, Scalar.extui, IntOp.cmpi]
  by_cases h : (BitVec.ofNat 32 (i 0).val).slt v = true
  · have h' : v.sle (BitVec.ofNat 32 (i 0).val) = false := by
      simp only [BitVec.slt, BitVec.sle, decide_eq_true_eq, decide_eq_false_iff_not, not_le] at h ⊢; exact h
    simp [h, h']
  · have h' : v.sle (BitVec.ofNat 32 (i 0).val) = true := by
      simp only [BitVec.slt, BitVec.sle, decide_eq_true_eq, not_lt] at h ⊢; exact h
    simp [h, h']

/-- What a point's output block holds: the expert's result in a block that is used, zeros in one that is not. -/
def result (i : grid0.Coords) (n : BitVec 32) (x : S256x1024.Idx → Elt F .f32) (wgu : S1x1024x2048.Idx → Elt F .f32)
    (bgu : S1x1x2048.Idx → Elt F .f32) (wd : S1x1024x1024.Idx → Elt F .f32) (bd : S1x1x1024.Idx → Elt F .f32) :
    S256x1024.Idx → Elt F .f32 :=
  if k0_cond2 i n = 1#1 then k0_pay3 x (k0_pay1 wgu) bgu (k0_pay2 wd) bd else k0_pay4

/-- A store of a whole buffer leaves what was stored. -/
theorem writes_whole {Val : EltTy → Type} (b : Ref sig .tc) (f : b.ty.Contents Val) {off : Fin b.ty.shape.rank → ℕ}
    (inb : ∀ a, off a + b.ty.shape.size a ≤ b.ty.shape.size a)
    (w : (Rect.unit off b.ty.shape.size inb).shape.Idx → Val b.ty.elt) (L : List (View.Piece Val b.ty.shape b.ty.elt)) :
    (View.whole b).writes Val f (⟨Rect.unit off b.ty.shape.size inb, w⟩ :: L) = w :=
  View.read_writes_full (View.whole b) f inb w L

/-- A load of a whole buffer reads what it holds. -/
theorem readAt_whole {Val : EltTy → Type} (b : Ref sig .tc) (f : b.ty.Contents Val) {off : Fin b.ty.shape.rank → ℕ}
    (inb : ∀ a, off a + b.ty.shape.size a ≤ b.ty.shape.size a) :
    (View.whole b).readAt Val (Rect.unit off b.ty.shape.size inb).toLoadRect f = f :=
  View.readAt_full (View.whole b) f inb

/-- After a store of all of the output's block, the block holds what was stored. -/
theorem stored (c : Dev nD) (arg9 : Memref sig .tc .vmem S256x1024 .f32) (f : arg9.view.ty.Contents (Elt F))
    (w : S256x1024.Idx → Elt F .f32) :
    (arg9.view.loc (c : Thread nD τ) ↦[arg9.view.set]{fullShare}
        arg9.view.writes (Elt F) f [⟨Rect.unit ![0, 0] S256x1024.size inb_S256x1024_S256x1024_0_0, w⟩] : sProp 𝕄)
      ⊢ iprop(∃ g, ⌜arg9.view.read (Elt F) g = w⌝ ∗ (arg9.view.loc (c : Thread nD τ) ↦[arg9.view.set]{fullShare} g)) := by
  iintro H
  iexists (arg9.view.writes (Elt F) f [⟨Rect.unit ![0, 0] S256x1024.size inb_S256x1024_S256x1024_0_0, w⟩])
  isplitr [H]
  · ipureintro
    exact View.read_writes_full arg9.view f inb_S256x1024_S256x1024_0_0 w []
  · iexact H

set_option maxHeartbeats 8000000 in
/-- The body's run. -/
theorem body_run (c : Dev nD) (i : grid0.Coords)
    (arg4 : Memref sig .tc .vmem S256x1024 .f32) (harg4 : arg4.IsWhole)
    (arg5 : Memref sig .tc .vmem S1x1024x2048 .f32) (harg5 : arg5.IsWhole)
    (arg6 : Memref sig .tc .vmem S1x1x2048 .f32) (harg6 : arg6.IsWhole)
    (arg7 : Memref sig .tc .vmem S1x1024x1024 .f32) (harg7 : arg7.IsWhole)
    (arg8 : Memref sig .tc .vmem S1x1x1024 .f32) (harg8 : arg8.IsWhole)
    (arg9 : Memref sig .tc .vmem S256x1024 .f32) (harg9 : arg9.IsWhole)
    (T0 T1 : S224.Idx → Elt F .i32) (T2 : S1.Idx → Elt F .i32)
    (x0 : S256x1024.Idx → Elt F .f32) (x1 : S1x1024x2048.Idx → Elt F .f32) (x2 : S1x1x2048.Idx → Elt F .f32)
    (x3 : S1x1024x1024.Idx → Elt F .f32) (x4 : S1x1x1024.Idx → Elt F .f32)
    (s0 : S1024x2048.Idx → Elt F .bf16) (s1 : S1024x1024.Idx → Elt F .bf16)
    (hs : ¬ Scalar.cmpi .ne (Scalar.extui (Scalar.cmpi .eq (firstWord i T1) 1#32)) 0#32 = 1#1 →
      s0 = k0_pay1 x1 ∧ s1 = k0_pay2 x3) (K : PUnit → sProp 𝕄) :
    iprop((arg4.view.loc (c : Thread nD τ) ↦[arg4.view.set]{fullShare} arg4.view.rep x0) ∗ (arg5.view.loc (c : Thread nD τ) ↦[arg5.view.set]{fullShare} arg5.view.rep x1)
        ∗ (arg6.view.loc (c : Thread nD τ) ↦[arg6.view.set]{fullShare} arg6.view.rep x2) ∗ (arg7.view.loc (c : Thread nD τ) ↦[arg7.view.set]{fullShare} arg7.view.rep x3)
        ∗ (arg8.view.loc (c : Thread nD τ) ↦[arg8.view.set]{fullShare} arg8.view.rep x4)
        ∗ (tbl0.view.loc (c : Thread nD τ) ↦{fullShare.right} T0)
        ∗ (tbl1.view.loc (c : Thread nD τ) ↦{fullShare.right} T1)
        ∗ (tbl2.view.loc (c : Thread nD τ) ↦{fullShare.right} T2)
        ∗ (∃ d, owns (c : Thread nD τ) arg9 fullShare d)
        ∗ (scr0.view.loc (c : Thread nD τ) ↦{fullShare} s0) ∗ (scr1.view.loc (c : Thread nD τ) ↦{fullShare} s1)
        ∗ (iprop((arg4.view.loc (c : Thread nD τ) ↦[arg4.view.set]{fullShare} arg4.view.rep x0) ∗ (arg5.view.loc (c : Thread nD τ) ↦[arg5.view.set]{fullShare} arg5.view.rep x1)
            ∗ (arg6.view.loc (c : Thread nD τ) ↦[arg6.view.set]{fullShare} arg6.view.rep x2) ∗ (arg7.view.loc (c : Thread nD τ) ↦[arg7.view.set]{fullShare} arg7.view.rep x3)
            ∗ (arg8.view.loc (c : Thread nD τ) ↦[arg8.view.set]{fullShare} arg8.view.rep x4)
            ∗ (tbl0.view.loc (c : Thread nD τ) ↦{fullShare.right} T0)
            ∗ (tbl1.view.loc (c : Thread nD τ) ↦{fullShare.right} T1)
            ∗ (tbl2.view.loc (c : Thread nD τ) ↦{fullShare.right} T2)
            ∗ owns (c : Thread nD τ) arg9 fullShare (result i (usedWord T2) x0 x1 x2 x3 x4)
            ∗ (scr0.view.loc (c : Thread nD τ) ↦{fullShare} (k0_pay1 x1))
            ∗ (scr1.view.loc (c : Thread nD τ) ↦{fullShare} (k0_pay2 x3))) -∗ K ⟨⟩))
      ⊢ wp frame (wpE (defs₀ (F := F)) Variants.none c none) Set.univ
          (cc0_moe_experts i tbl0 (Memref.isWhole_whole _) tbl1 (Memref.isWhole_whole _) tbl2 (Memref.isWhole_whole _)
            arg4 harg4 arg5 harg5 arg6 harg6 arg7 harg7 arg8 harg8 arg9 harg9
            scr0 (Memref.isWhole_whole _) scr1 (Memref.isWhole_whole _)) K := by
  have hS0 : scr0.IsWhole := Memref.isWhole_whole _
  have hS1 : scr1.IsWhole := Memref.isWhole_whole _
  have hT0 : tbl0.IsWhole := Memref.isWhole_whole _
  have hT1 : tbl1.IsWhole := Memref.isWhole_whole _
  have hT2 : tbl2.IsWhole := Memref.isWhole_whole _
  rw [cc0_moe_experts_eq_skeleton]; unfold cc0_moe_experts_skel
  unfold result owns
  by_cases hc0 : Scalar.cmpi .ne (Scalar.extui (Scalar.cmpi .eq (firstWord i T1) 1#32)) 0#32 = 1#1 <;>
    by_cases k0_h2 : k0_cond2 i (usedWord T2) = 1#1
  on_goal 1 =>
    have k0_h3 : ¬ k0_cond3 i (usedWord T2) = 1#1 := fun h => (cond3_iff _ _).1 h k0_h2
    rw [if_pos k0_h2]
    iintro ⟨H0, H1, H2, H3, H4, HT0, HT1, HT2, ⟨%d5, %f5, -, HO5⟩, HS0, HS1, Hk⟩
    sl_exec (disch := first | (guard_target = Scalar.cmpi = _; exact hc0) | (guard_target = k0_cond2 _ _ = _; exact k0_h2) | (guard_target = ¬(k0_cond3 _ _ = _); exact k0_h3))
    sl_step
    delta body_run.sl.v15 body_run.sl.v37 body_run.sl.HS0_1 body_run.sl.HS1_1
    rw [View.readCov_full, View.readCov_full]
    rw [View.readAt_rep_full, View.readAt_rep_full, View.readAt_rep_full, View.readAt_rep_full, View.readAt_rep_full]
    erw [writes_whole cc0_scratch0, writes_whole cc0_scratch1]
  on_goal 2 =>
    have k0_h3 : k0_cond3 i (usedWord T2) = 1#1 := (cond3_iff _ _).2 k0_h2
    rw [if_neg k0_h2]
    iintro ⟨H0, H1, H2, H3, H4, HT0, HT1, HT2, ⟨%d5, %f5, -, HO5⟩, HS0, HS1, Hk⟩
    sl_exec (disch := first | (guard_target = Scalar.cmpi = _; exact hc0) | (guard_target = ¬(k0_cond2 _ _ = _); exact k0_h2) | (guard_target = k0_cond3 _ _ = _; exact k0_h3))
    sl_step
    rw [View.readAt_rep_full, View.readAt_rep_full]
    erw [writes_whole cc0_scratch0, writes_whole cc0_scratch1]
  on_goal 3 =>
    have k0_h3 : ¬ k0_cond3 i (usedWord T2) = 1#1 := fun h => (cond3_iff _ _).1 h k0_h2
    rw [if_pos k0_h2]
    obtain ⟨rfl, rfl⟩ := hs hc0
    iintro ⟨H0, H1, H2, H3, H4, HT0, HT1, HT2, ⟨%d5, %f5, -, HO5⟩, HS0, HS1, Hk⟩
    sl_exec (disch := first | (guard_target = ¬(Scalar.cmpi = _); exact hc0) | (guard_target = k0_cond2 _ _ = _; exact k0_h2) | (guard_target = ¬(k0_cond3 _ _ = _); exact k0_h3))
    sl_step
    rw [View.readAt_rep_full, View.readAt_rep_full, View.readAt_rep_full]
    erw [readAt_whole cc0_scratch0, readAt_whole cc0_scratch1]
  on_goal 4 =>
    have k0_h3 : k0_cond3 i (usedWord T2) = 1#1 := (cond3_iff _ _).2 k0_h2
    rw [if_neg k0_h2]
    obtain ⟨rfl, rfl⟩ := hs hc0
    iintro ⟨H0, H1, H2, H3, H4, HT0, HT1, HT2, ⟨%d5, %f5, -, HO5⟩, HS0, HS1, Hk⟩
    sl_exec (disch := first | (guard_target = ¬(Scalar.cmpi = _); exact hc0) | (guard_target = ¬(k0_cond2 _ _ = _); exact k0_h2) | (guard_target = k0_cond3 _ _ = _; exact k0_h3))
    sl_step
  all_goals
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO5]; · iapply stored; iexact HO5
    isplitl [HS0]; · iexact HS0
    iexact HS1

end Cert.Experts
-- ==== Proof.Moe.Plan.lean ====
module

public import proofs.«01_k».proof.Proof.Moe.Body
public import proofs.«01_k».proof.Pre_plan
public import Idealize.ShloMosaic.Lib.Pointwise
public import Idealize.ShloMosaic.Lib.ReduceAll

/-! # The dispatch's plan

`Plan`: what the precondition says of the three tables, in numbers. Every block's expert is one of the 32; a block whose
`first` is not 1 has the expert of the block before it; the number of used blocks is at least 1. -/

@[expose] public section
set_option maxRecDepth 16384
noncomputable section

namespace Cert.Experts

open Cert.MoeIdeal Cert.MoeIdeal.Gen
open Idealize.ShloMosaic Idealize.SL.Sem

/-- The plan of a dispatch: the expert of each block, where an expert's first block is, and how many blocks are used. -/
structure Plan (be fi : S224.Idx → BitVec 32) (nu : S1.Idx → BitVec 32) : Prop where
  expert : ∀ b : Fin 224, (be (ix1 b)).toNat < 32
  same : ∀ b : Fin 224, ¬ fi (ix1 b) = 1#32 → ∃ h : 0 < b.val, be (ix1 b) = be (ix1 ⟨b.val - 1, by omega⟩)
  some : 1 ≤ (nu (ix1 0)).toNat
  pos : (nu (ix1 0)).toNat < 2147483648

/-- A bit that is one is a comparison that holds; -/
theorem of_ofBool {p : Bool} (h : BitVec.ofBool p = 1#1) : p = true := by
  cases p with
  | true => rfl
  | false => exact absurd h (by decide)

/-- the comparisons of the words, -/
theorem le_of_sle {a b : BitVec 32} (h : BitVec.ofBool (a.sle b) = 1#1) : a.toInt ≤ b.toInt :=
  BitVec.sle_iff_toInt_le.1 (of_ofBool h)
theorem lt_of_slt {a b : BitVec 32} (h : BitVec.ofBool (a.slt b) = 1#1) : a.toInt < b.toInt :=
  BitVec.slt_iff_toInt_lt.1 (of_ofBool h)
theorem eq_of_cmpi (a b : BitVec 32) (h : IntOp.cmpi .eq a b = 1#1) : a = b :=
  beq_iff_eq.1 (of_ofBool h)

/-- A word of at least 1, compared as a signed one, is such a number. -/
theorem used_range (v : BitVec 32) (h : IntOp.cmpi .sge v 1#32 = 1#1) : 1 ≤ v.toNat ∧ v.toNat < 2147483648 := by
  have h := le_of_sle (a := 1#32) h
  rw [show (1#32 : BitVec 32).toInt = 1 from rfl, BitVec.toInt_eq_toNat_cond] at h
  have := v.isLt
  split at h <;> omega

/-- One of two bits is one where their disjunction is. -/
theorem or_bits {a b : BitVec 1} (h : IntOp.ori a b = 1#1) : a = 1#1 ∨ b = 1#1 := by
  revert h; revert a b; decide

/-- A word between 0 and 31, compared as a signed one, is a number below 32. -/
theorem expert_range (v : BitVec 32) (h : IntOp.andi (IntOp.cmpi .sge v 0#32) (IntOp.cmpi .slt v 32#32) = 1#1) : v.toNat < 32 := by
  obtain ⟨h, h'⟩ := IntOp.andi_eq_one.1 h
  have h := le_of_sle (a := 0#32) h
  have h' := lt_of_slt (b := 32#32) h'
  rw [show (0#32 : BitVec 32).toInt = 0 from rfl, BitVec.toInt_eq_toNat_cond] at h
  rw [show (32#32 : BitVec 32).toInt = 32 from rfl, BitVec.toInt_eq_toNat_cond] at h'
  have := v.isLt
  split at h <;> omega

section
variable {F : FTy → Type} [FloatOps F] [Cert.Pre_plan.Facts]

/-- The precondition gives the plan. -/
theorem plan_of_pre (be fi : S224.Idx → BitVec 32) (nu : S1.Idx → BitVec 32) (x wgu bgu wd bd)
    (h : Cert.Pre_plan.fn (F := F) be fi nu x wgu bgu wd bd = fun _ => 1#1) : Plan be fi nu := by
  have h := congrFun h ix0
  unfold Pre_plan.fn at h
  simp only [andi] at h
  obtain ⟨h, hge⟩ := IntOp.andi_eq_one.1 h
  obtain ⟨hb, hf⟩ := IntOp.andi_eq_one.1 h
  pointwise at hge
  obtain ⟨h1, hpos⟩ := used_range _ hge
  refine ⟨fun b => ?_, fun b hn => ?_, h1, hpos⟩
  · have := Host.reduce_andi_all _ _ _ _ _ hb (ix1 b)
    pointwise at this
    exact expert_range _ this
  · have := Host.reduce_andi_all _ _ _ _ _ hf (ix1 b)
    pointwise at this
    rcases or_bits this with h | this
    · exact absurd (eq_of_cmpi _ _ h) hn
    by_cases h0 : b.val < 1
    · rw [dif_pos h0] at this; exact absurd this (by decide)
    · rw [dif_neg h0] at this
      refine ⟨by omega, ?_⟩
      have this := eq_of_cmpi _ _ this
      rw [show be (ix1 ⟨1 + (b.val - 1), by omega⟩) = be (ix1 b) from congrArg (fun k => be (ix1 k)) (Fin.ext (by simp; omega))] at this
      exact this

end

end Cert.Experts
-- ==== Proof.Moe.Tables.lean ====
module

public import proofs.«01_k».proof.Proof.Moe.Plan

/-! # The tables at a launch

The three tables as the launch memory holds them, and under the plan: the block each window is at, at each point, and that
every block lies in its array. -/

@[expose] public section
set_option maxRecDepth 16384
noncomputable section

namespace Cert.Experts

open Cert.MoeIdeal Cert.MoeIdeal.Gen
open Idealize.ShloMosaic Idealize.ShloMosaic.TcCoe Idealize.SL.Sem

variable {F : FTy → Type} [FloatOps F]

/-- The one device. -/
abbrev dev : Dev nD := ⟨0, by decide⟩

variable (m : (ℓ : Loc nD τ sig) → Buf (Elt F) ℓ)

/-- The tables: the experts, the firsts, the number of used blocks. -/
abbrev experts : S224.Idx → BitVec 32 := m ((dev : Thread nD τ).loc main_arg0)
abbrev firsts : S224.Idx → BitVec 32 := m ((dev : Thread nD τ).loc main_arg1)
abbrev used : S1.Idx → BitVec 32 := m ((dev : Thread nD τ).loc main_arg2)

/-- The launch memory's tables fulfil the plan. -/
abbrev Planned : Prop := Plan (experts m) (firsts m) (used m)

/-- The tables' contents as the call prefetches them. -/
def tables : pre0.Contents (Elt F) := fun k => m ((dev : Thread nD τ).loc (pre0.ref k))

theorem tables_0 : tables m 0 = experts m := rfl
theorem tables_1 : tables m 1 = firsts m := rfl
theorem tables_2 : tables m 2 = used m := rfl

/-- The block number of a point. -/
def blk (i : grid0.Coords) : Fin 224 := ⟨(i 0).val, (i 0).isLt⟩

theorem toNat_blk (i : grid0.Coords) : (BitVec.ofNat 32 (i 0).val).toNat = (blk i).val := by
  have : (blk i).val < 224 := (blk i).isLt
  rw [BitVec.toNat_ofNat]
  exact Nat.mod_eq_of_lt (by change (blk i).val < _; omega)

/-- The word of a table at a point, and the one word of the third table. -/
theorem word_at (i : grid0.Coords) (T : S224.Idx → BitVec 32) (h : 0 < (Rect.unit (s := S224) (k0_off1 i) S1.size (k0_off1_inb i)).shape.numel) :
    T ((Rect.unit (s := S224) (k0_off1 i) S1.size (k0_off1_inb i)).emb (Shape.Idx.first h)) = T (ix1 (blk i)) := by
  refine congrArg T (funext fun a => Fin.ext ?_)
  obtain rfl : a = 0 := Subsingleton.elim _ _
  change (BitVec.ofNat 32 (i 0).val).toNat + 1 * 0 = (blk i).val
  rw [toNat_blk]; omega

theorem word_used (T : S1.Idx → BitVec 32) (h : 0 < (Rect.unit (s := S1) ![0] S1.size inb_S1_S1_0).shape.numel) :
    T ((Rect.unit (s := S1) ![0] S1.size inb_S1_S1_0).emb (Shape.Idx.first h)) = T (ix1 0) := by
  refine congrArg T (funext fun a => Fin.ext ?_)
  obtain rfl : a = 0 := Subsingleton.elim _ _
  rfl

/-- The body reads these words. -/
theorem firstWord_eq (i : grid0.Coords) (T : S224.Idx → BitVec 32) : firstWord (F := F) i T = T (ix1 (blk i)) := word_at i T _
theorem usedWord_eq (T : S1.Idx → BitVec 32) : usedWord (F := F) T = T (ix1 0) := word_used T _

/-- The weights' windows are at the block's expert, -/
theorem index_1 (i : grid0.Coords) : cc0_transform_1 k0_off1_inb numel1_S1 (tables m) i = ![(experts m (ix1 (blk i))).toNat, 0, 0] :=
  congrArg (fun v : BitVec 32 => ![v.toNat, 0, 0]) (word_at i (experts m) _)
theorem index_2 (i : grid0.Coords) : cc0_transform_2 k0_off1_inb numel1_S1 (tables m) i = ![(experts m (ix1 (blk i))).toNat, 0, 0] :=
  congrArg (fun v : BitVec 32 => ![v.toNat, 0, 0]) (word_at i (experts m) _)
theorem index_3 (i : grid0.Coords) : cc0_transform_3 k0_off1_inb numel1_S1 (tables m) i = ![(experts m (ix1 (blk i))).toNat, 0, 0] :=
  congrArg (fun v : BitVec 32 => ![v.toNat, 0, 0]) (word_at i (experts m) _)
theorem index_4 (i : grid0.Coords) : cc0_transform_4 k0_off1_inb numel1_S1 (tables m) i = ![(experts m (ix1 (blk i))).toNat, 0, 0] :=
  congrArg (fun v : BitVec 32 => ![v.toNat, 0, 0]) (word_at i (experts m) _)

/-- The smaller of a block number and a number of blocks less one, as words and as numbers. -/
theorem min_word (b n : BitVec 32) (hb : b.toNat < 224) (h1 : 1 ≤ n.toNat) (h2 : n.toNat < 2147483648) :
    (Scalar.minsi b (Scalar.subi n 1#32)).toNat = min b.toNat (n.toNat - 1) := by
  have hs : (n - 1#32).toNat = n.toNat - 1 := by
    rw [BitVec.toNat_sub]; have := n.isLt; change (4294967296 - 1 + n.toNat) % 4294967296 = _; omega
  have hbi : b.toInt = b.toNat := by rw [BitVec.toInt_eq_toNat_cond]; split <;> omega
  have hsi : (n - 1#32).toInt = (n - 1#32).toNat := by rw [BitVec.toInt_eq_toNat_cond]; split <;> omega
  change (if b.slt (n - 1#32) then b else n - 1#32).toNat = _
  split
  · have := BitVec.slt_iff_toInt_lt.1 ‹_›
    rw [hbi, hsi] at this; omega
  · have := mt BitVec.slt_iff_toInt_lt.2 ‹_›
    rw [hbi, hsi] at this; omega

/-- and the rows' window at the block, or at the last one used. -/
theorem index_0 (h : Planned m) (i : grid0.Coords) :
    cc0_transform_0 inb_S1_S1_0 numel1_S1 (tables m) i = ![min (blk i).val ((used m (ix1 0)).toNat - 1), 0] := by
  have := min_word (BitVec.ofNat 32 (i 0).val) (used m (ix1 0)) (by rw [toNat_blk]; exact (blk i).isLt) h.some h.pos
  rw [toNat_blk] at this
  refine Eq.trans (congrArg (fun v : BitVec 32 => ![(Scalar.minsi (BitVec.ofNat 32 (i 0).val) (Scalar.subi v 1#32)).toNat, 0]) (word_used (used m) _)) ?_
  exact congrArg (fun v : ℕ => ![v, 0]) this

/-- Every block is inside its array. -/
theorem tables_ok (h : Planned m) : ok0 (tables m) := by
  have he : ∀ i, (experts m (ix1 (blk i))).toNat < 32 := fun i => h.expert (blk i)
  refine ⟨fun i => ⟨?_, .inl rfl⟩, fun i => ⟨?_, .inl rfl⟩, fun i => ⟨?_, .inl rfl⟩, fun i => ⟨?_, .inl rfl⟩, fun i => ⟨?_, .inl rfl⟩⟩
  · rw [index_0 m h]
    have := (blk i).isLt
    intro a
    fin_cases a
    · change (min (blk i).val ((used m (ix1 0)).toNat - 1) + 1) * 256 ≤ 57344; omega
    · exact Nat.le_refl 1024
  all_goals
    first | rw [index_1] | rw [index_2] | rw [index_3] | rw [index_4]
    have := he i
    intro a
    fin_cases a
    · change ((experts m (ix1 (blk i))).toNat + 1) * 1 ≤ 32; omega
    · exact Nat.le_of_eq (by rfl)
    · exact Nat.le_of_eq (by rfl)

end Cert.Experts
-- ==== Proof.Moe.Blocks.lean ====
module

public import proofs.«01_k».proof.Proof.Moe.Tables

/-! # The blocks a point reads

The pipeline at the launch's tables, and each input's block at a point, element by element, from the arguments. -/

@[expose] public section
set_option maxRecDepth 16384
noncomputable section

namespace Cert.Experts

open Cert.MoeIdeal Cert.MoeIdeal.Gen
open Idealize.ShloMosaic Idealize.ShloMosaic.TcCoe Idealize.SL.Sem

variable {F : FTy → Type} [FloatOps F]
variable (m : (ℓ : Loc nD τ sig) → Buf (Elt F) ℓ) (hp : Planned m)

/-- The launch's tables, admitted. -/
def adm : (pcfg0 (F := F)).Adm := ⟨tables m, tables_ok m hp⟩
/-- The pipeline at them. -/
abbrev cfgA : Pipeline.Cfg sig Λ₀ := cfg0 (adm m hp)

/-- A point's coordinates, -/
abbrev crd (t : Fin (cfgA m hp).N) : grid0.Coords := (cfgA m hp).grid.coords t
/-- and its number as a block's. -/
abbrev num (t : Fin (cfgA m hp).N) : Fin 224 := blk (crd m hp t)

theorem coords_val : ∀ t : Fin grid0.N, (grid0.coords t 0).val = t.val := by decide +kernel

theorem num_val (t : Fin (cfgA m hp).N) : (num m hp t).val = t.val := coords_val t

/-- Window `w`'s block at point `t`, read off its array at launch. -/
def iblk (c : Dev nD) (w : Fin (cfgA m hp).W) (t : Fin (cfgA m hp).N) :
    (((cfgA m hp).win w).xblock (crd m hp t)).Idx → Elt F ((cfgA m hp).win w).elt :=
  (((cfgA m hp).win w).blk t).view.read (Elt F) (m (((cfgA m hp).win w).arr.view.loc (c : Thread nD τ)))

/-- The five blocks at their shapes. -/
abbrev bx (c : Dev nD) (t : Fin (cfgA m hp).N) : S256x1024.Idx → Elt F .f32 := iblk m hp c (0 : Fin 6) t
abbrev bwgu (c : Dev nD) (t : Fin (cfgA m hp).N) : S1x1024x2048.Idx → Elt F .f32 := iblk m hp c (1 : Fin 6) t
abbrev bbgu (c : Dev nD) (t : Fin (cfgA m hp).N) : S1x1x2048.Idx → Elt F .f32 := iblk m hp c (2 : Fin 6) t
abbrev bwd (c : Dev nD) (t : Fin (cfgA m hp).N) : S1x1024x1024.Idx → Elt F .f32 := iblk m hp c (3 : Fin 6) t
abbrev bbd (c : Dev nD) (t : Fin (cfgA m hp).N) : S1x1x1024.Idx → Elt F .f32 := iblk m hp c (4 : Fin 6) t

/-- The expert of a block. -/
def expert (b : Fin 224) : Fin 32 := ⟨(experts m (ix1 b)).toNat, hp.expert b⟩

/-- A used block's rows are its own, -/
theorem bx_apply (c : Dev nD) (t : Fin (cfgA m hp).N) (ht : t.val < (used m (ix1 0)).toNat) (r : Fin 256) (k : Fin 1024) :
    bx m hp c t (ix2 r k) = (m ((c : Thread nD τ).loc main_arg3) : S57344x1024.Idx → Elt F .f32)
      (ix2 ⟨(num m hp t).val * 256 + r.val, by have := (num m hp t).isLt; omega⟩ k) := by
  unfold bx iblk
  rw [View.read_apply]
  refine congrArg (m ((c : Thread nD τ).loc main_arg3) : S57344x1024.Idx → Elt F .f32) (funext fun a => Fin.ext ?_)
  have h := index_0 m hp (crd m hp t)
  have hn := num_val m hp t
  match a with
  | ⟨0, _⟩ =>
    refine (congrArg (fun v : Fin 2 → ℕ => v 0 * 256 + 1 * r.val) h).trans ?_
    show min (num m hp t).val _ * 256 + 1 * r.val = (num m hp t).val * 256 + r.val
    omega
  | ⟨1, _⟩ =>
    refine (congrArg (fun v : Fin 2 → ℕ => v 1 * 1024 + 1 * k.val) h).trans ?_
    show 0 * 1024 + 1 * k.val = k.val
    omega

/-- and its weights and biases are its expert's. -/
theorem bwgu_apply (c : Dev nD) (t : Fin (cfgA m hp).N) (k : Fin 1024) (j : Fin 2048) :
    bwgu m hp c t (ix3 0 k j) = (m ((c : Thread nD τ).loc main_arg4) : S32x1024x2048.Idx → Elt F .f32)
      (ix3 (expert m hp (num m hp t)) k j) := by
  unfold bwgu iblk
  rw [View.read_apply]
  refine congrArg (m ((c : Thread nD τ).loc main_arg4) : S32x1024x2048.Idx → Elt F .f32) (funext fun a => Fin.ext ?_)
  have h := index_1 m (crd m hp t)
  match a with
  | ⟨0, _⟩ =>
    refine (congrArg (fun v : Fin 3 → ℕ => v 0 * 1 + 1 * 0) h).trans ?_
    show (experts m (ix1 (num m hp t))).toNat * 1 + 1 * 0 = (experts m (ix1 (num m hp t))).toNat
    omega
  | ⟨1, _⟩ =>
    refine (congrArg (fun v : Fin 3 → ℕ => v 1 * 1024 + 1 * k.val) h).trans ?_
    show 0 * 1024 + 1 * k.val = k.val
    omega
  | ⟨2, _⟩ =>
    refine (congrArg (fun v : Fin 3 → ℕ => v 2 * 2048 + 1 * j.val) h).trans ?_
    show 0 * 2048 + 1 * j.val = j.val
    omega

theorem bbgu_apply (c : Dev nD) (t : Fin (cfgA m hp).N) (j : Fin 2048) :
    bbgu m hp c t (ix3 0 0 j) = (m ((c : Thread nD τ).loc main_arg5) : S32x1x2048.Idx → Elt F .f32)
      (ix3 (expert m hp (num m hp t)) 0 j) := by
  unfold bbgu iblk
  rw [View.read_apply]
  refine congrArg (m ((c : Thread nD τ).loc main_arg5) : S32x1x2048.Idx → Elt F .f32) (funext fun a => Fin.ext ?_)
  have h := index_2 m (crd m hp t)
  match a with
  | ⟨0, _⟩ =>
    refine (congrArg (fun v : Fin 3 → ℕ => v 0 * 1 + 1 * 0) h).trans ?_
    show (experts m (ix1 (num m hp t))).toNat * 1 + 1 * 0 = (experts m (ix1 (num m hp t))).toNat
    omega
  | ⟨1, _⟩ =>
    refine (congrArg (fun v : Fin 3 → ℕ => v 1 * 1 + 1 * 0) h).trans ?_
    rfl
  | ⟨2, _⟩ =>
    refine (congrArg (fun v : Fin 3 → ℕ => v 2 * 2048 + 1 * j.val) h).trans ?_
    show 0 * 2048 + 1 * j.val = j.val
    omega

theorem bwd_apply (c : Dev nD) (t : Fin (cfgA m hp).N) (k : Fin 1024) (j : Fin 1024) :
    bwd m hp c t (ix3 0 k j) = (m ((c : Thread nD τ).loc main_arg6) : S32x1024x1024.Idx → Elt F .f32)
      (ix3 (expert m hp (num m hp t)) k j) := by
  unfold bwd iblk
  rw [View.read_apply]
  refine congrArg (m ((c : Thread nD τ).loc main_arg6) : S32x1024x1024.Idx → Elt F .f32) (funext fun a => Fin.ext ?_)
  have h := index_3 m (crd m hp t)
  match a with
  | ⟨0, _⟩ =>
    refine (congrArg (fun v : Fin 3 → ℕ => v 0 * 1 + 1 * 0) h).trans ?_
    show (experts m (ix1 (num m hp t))).toNat * 1 + 1 * 0 = (experts m (ix1 (num m hp t))).toNat
    omega
  | ⟨1, _⟩ =>
    refine (congrArg (fun v : Fin 3 → ℕ => v 1 * 1024 + 1 * k.val) h).trans ?_
    show 0 * 1024 + 1 * k.val = k.val
    omega
  | ⟨2, _⟩ =>
    refine (congrArg (fun v : Fin 3 → ℕ => v 2 * 1024 + 1 * j.val) h).trans ?_
    show 0 * 1024 + 1 * j.val = j.val
    omega

theorem bbd_apply (c : Dev nD) (t : Fin (cfgA m hp).N) (j : Fin 1024) :
    bbd m hp c t (ix3 0 0 j) = (m ((c : Thread nD τ).loc main_arg7) : S32x1x1024.Idx → Elt F .f32)
      (ix3 (expert m hp (num m hp t)) 0 j) := by
  unfold bbd iblk
  rw [View.read_apply]
  refine congrArg (m ((c : Thread nD τ).loc main_arg7) : S32x1x1024.Idx → Elt F .f32) (funext fun a => Fin.ext ?_)
  have h := index_4 m (crd m hp t)
  match a with
  | ⟨0, _⟩ =>
    refine (congrArg (fun v : Fin 3 → ℕ => v 0 * 1 + 1 * 0) h).trans ?_
    show (experts m (ix1 (num m hp t))).toNat * 1 + 1 * 0 = (experts m (ix1 (num m hp t))).toNat
    omega
  | ⟨1, _⟩ =>
    refine (congrArg (fun v : Fin 3 → ℕ => v 1 * 1 + 1 * 0) h).trans ?_
    rfl
  | ⟨2, _⟩ =>
    refine (congrArg (fun v : Fin 3 → ℕ => v 2 * 1024 + 1 * j.val) h).trans ?_
    show 0 * 1024 + 1 * j.val = j.val
    omega

/-- Two points of one expert read the same weights. -/
theorem bwgu_same (c : Dev nD) (t u : Fin (cfgA m hp).N) (h : expert m hp (num m hp t) = expert m hp (num m hp u)) :
    bwgu m hp c t = bwgu m hp c u := by
  funext y
  rw [eq_ix3 y, show y 0 = (0 : Fin 1) from Subsingleton.elim (α := Fin 1) _ _]
  exact (bwgu_apply m hp c t (y 1) (y 2)).trans ((congrArg (fun e => (m ((c : Thread nD τ).loc main_arg4) : S32x1024x2048.Idx → Elt F .f32) (ix3 e (y 1) (y 2))) h).trans
    (bwgu_apply m hp c u (y 1) (y 2)).symm)

theorem bwd_same (c : Dev nD) (t u : Fin (cfgA m hp).N) (h : expert m hp (num m hp t) = expert m hp (num m hp u)) :
    bwd m hp c t = bwd m hp c u := by
  funext y
  rw [eq_ix3 y, show y 0 = (0 : Fin 1) from Subsingleton.elim (α := Fin 1) _ _]
  exact (bwd_apply m hp c t (y 1) (y 2)).trans ((congrArg (fun e => (m ((c : Thread nD τ).loc main_arg6) : S32x1024x1024.Idx → Elt F .f32) (ix3 e (y 1) (y 2))) h).trans
    (bwd_apply m hp c u (y 1) (y 2)).symm)

/-- The test of a word against one, as the body writes it. -/
theorem ne_one (w : BitVec 32) (h : ¬ Scalar.cmpi .ne (Scalar.extui (Scalar.cmpi .eq w 1#32)) 0#32 = 1#1) : ¬ w = 1#32 := by
  rintro rfl
  exact h (by decide)

/-- Where the body does not round the weights anew, there is a point before, of the same expert. -/
theorem same_before (t : Fin (cfgA m hp).N)
    (h : ¬ Scalar.cmpi .ne (Scalar.extui (Scalar.cmpi .eq (firstWord (F := F) (crd m hp t) (firsts m)) 1#32)) 0#32 = 1#1) :
    ∃ h0 : t.val ≠ 0, expert m hp (num m hp ⟨t.val - 1, by have := t.isLt; omega⟩) = expert m hp (num m hp t) := by
  have h1 := ne_one _ h
  rw [firstWord_eq] at h1
  obtain ⟨hpos, he⟩ := hp.same _ h1
  have hn := num_val m hp t
  refine ⟨by change 0 < (num m hp t).val at hpos; omega, Fin.ext ?_⟩
  show (experts m (ix1 _)).toNat = (experts m (ix1 _)).toNat
  rw [he]
  refine congrArg (fun b : Fin 224 => (experts m (ix1 b)).toNat) (Fin.ext ?_)
  rw [num_val]
  show t.val - 1 = (num m hp t).val - 1
  omega

end Cert.Experts
-- ==== Proof.Moe.Run.lean ====
module

public import proofs.«01_k».proof.Proof.Moe.Blocks

/-! # The experts' call, over its whole grid

Between two points the scratch holds the rounding of the weights the last point used, and the invariant says so. The
launch follows: every array ends as the pipeline computes it, the tables and inputs as they were. -/

@[expose] public section
set_option maxRecDepth 16384
noncomputable section

namespace Cert.Experts

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (hp : Planned m)

/-- The launch state. -/
abbrev start : MemSt nD τ sig (Elt F) := ⟨m, fun _ => 0, ρ⟩

/-- The point before. -/
def prev (t : Fin ((cfgA m hp).N + 1)) (h : t.val ≠ 0) : Fin (cfgA m hp).N := ⟨t.val - 1, by have := t.isLt; omega⟩

/-- Before point `t`: after the first point each scratch holds the rounding of the weights of the point before; the body
    has its halves of the tables. -/
def Inv (c : Dev nD) (t : Fin ((cfgA m hp).N + 1)) : sProp 𝕄 :=
  iprop((∃ a : S1024x2048.Idx → Elt F .bf16, ⌜∀ h : t.val ≠ 0, a = k0_pay1 (bwgu m hp c (prev m hp t h))⌝ ∗ (scr0.view.loc (c : Thread nD τ) ↦{fullShare} a))
    ∗ (∃ a : S1024x1024.Idx → Elt F .bf16, ⌜∀ h : t.val ≠ 0, a = k0_pay2 (bwd m hp c (prev m hp t h))⌝ ∗ (scr1.view.loc (c : Thread nD τ) ↦{fullShare} a))
    ∗ (tbl0.view.loc (c : Thread nD τ) ↦{fullShare.right} experts m)
    ∗ (tbl1.view.loc (c : Thread nD τ) ↦{fullShare.right} firsts m)
    ∗ (tbl2.view.loc (c : Thread nD τ) ↦{fullShare.right} used m))

/-- What point `t` leaves in its output block. -/
def out (c : Dev nD) (t : Fin (cfgA m hp).N) : S256x1024.Idx → Elt F .f32 :=
  result (crd m hp t) (usedWord (F := F) (used m)) (bx m hp c t) (bwgu m hp c t) (bbgu m hp c t) (bwd m hp c t) (bbd m hp c t)

/-- The proof data of the pipeline on core `c`. -/
def dats (_ : Fin 1) (c : Dev nD) : Dat τ (Elt F) Unit ℕ (UR sig nD τ) ℕ (cfgA m hp) c where
  A w := (start m ρ).mem (((cfgA m hp).win w).arr.view.loc (c : Thread nD τ))
  after w t := match w with
    | ⟨0, _⟩ => iblk m hp c (0 : Fin 6) t
    | ⟨1, _⟩ => iblk m hp c (1 : Fin 6) t
    | ⟨2, _⟩ => iblk m hp c (2 : Fin 6) t
    | ⟨3, _⟩ => iblk m hp c (3 : Fin 6) t
    | ⟨4, _⟩ => iblk m hp c (4 : Fin 6) t
    | ⟨5, _⟩ => out m hp c t
  Φ t := Inv m hp c t
  q _ := fullShare
  owed _ := 0

/-- Each input's buffer holds its block when the body runs. -/
theorem before_0 (c : Dev nD) (t : Fin (cfgA m hp).N) (d) : (dats m ρ hp 0 c).before (0 : Fin 6) t d = iblk m hp c (0 : Fin 6) t :=
  ((dats m ρ hp 0 c).before_in_eq_fetched (0 : Fin 6) rfl (fun _ => rfl) (fun _ _ _ => rfl) (fun _ => rfl) t d).trans rfl
theorem before_1 (c : Dev nD) (t : Fin (cfgA m hp).N) (d) : (dats m ρ hp 0 c).before (1 : Fin 6) t d = iblk m hp c (1 : Fin 6) t :=
  ((dats m ρ hp 0 c).before_in_eq_fetched (1 : Fin 6) rfl (fun _ => rfl) (fun _ _ _ => rfl) (fun _ => rfl) t d).trans rfl
theorem before_2 (c : Dev nD) (t : Fin (cfgA m hp).N) (d) : (dats m ρ hp 0 c).before (2 : Fin 6) t d = iblk m hp c (2 : Fin 6) t :=
  ((dats m ρ hp 0 c).before_in_eq_fetched (2 : Fin 6) rfl (fun _ => rfl) (fun _ _ _ => rfl) (fun _ => rfl) t d).trans rfl
theorem before_3 (c : Dev nD) (t : Fin (cfgA m hp).N) (d) : (dats m ρ hp 0 c).before (3 : Fin 6) t d = iblk m hp c (3 : Fin 6) t :=
  ((dats m ρ hp 0 c).before_in_eq_fetched (3 : Fin 6) rfl (fun _ => rfl) (fun _ _ _ => rfl) (fun _ => rfl) t d).trans rfl
theorem before_4 (c : Dev nD) (t : Fin (cfgA m hp).N) (d) : (dats m ρ hp 0 c).before (4 : Fin 6) t d = iblk m hp c (4 : Fin 6) t :=
  ((dats m ρ hp 0 c).before_in_eq_fetched (4 : Fin 6) rfl (fun _ => rfl) (fun _ _ _ => rfl) (fun _ => rfl) t d).trans rfl

/-- The output is stored at every point. -/
theorem live (t : Fin (cfgA m hp).N) : (cfgA m hp).idle (5 : Fin 6) (crd m hp t) = false := by
  show idle0 (tables m) (5 : Fin 6) (crd m hp t) = false
  show (!(k0_cond2 (crd m hp t) _ == 1#1) && !(k0_cond3 (crd m hp t) _ == 1#1)) = false
  by_cases h : k0_cond2 (crd m hp t) ((tables m).atD 2 ![0]) = 1#1
  · rw [h]; rfl
  · rw [(cond3_iff _ _).2 h]
    simp

/-- The memrefs the body is called on. -/
abbrev st0 (t : Fin (cfgA m hp).N) : Memref sig .tc .vmem S256x1024 .f32 := spec0_0.stage ((cfgA m hp).slots t (0 : Fin 6))
abbrev st1 (t : Fin (cfgA m hp).N) : Memref sig .tc .vmem S1x1024x2048 .f32 := spec0_1.stage ((cfgA m hp).slots t (1 : Fin 6))
abbrev st2 (t : Fin (cfgA m hp).N) : Memref sig .tc .vmem S1x1x2048 .f32 := spec0_2.stage ((cfgA m hp).slots t (2 : Fin 6))
abbrev st3 (t : Fin (cfgA m hp).N) : Memref sig .tc .vmem S1x1024x1024 .f32 := spec0_3.stage ((cfgA m hp).slots t (3 : Fin 6))
abbrev st4 (t : Fin (cfgA m hp).N) : Memref sig .tc .vmem S1x1x1024 .f32 := spec0_4.stage ((cfgA m hp).slots t (4 : Fin 6))
abbrev st5 (t : Fin (cfgA m hp).N) : Memref sig .tc .vmem S256x1024 .f32 := spec0_5.stage ((cfgA m hp).slots t (5 : Fin 6))

/-- The body at a point, as the pipeline calls it. -/
abbrev bodyAt (t : Fin (cfgA m hp).N) : Prog (TpuEff nD τ sig (Elt F) Λ₀ .tc) PUnit :=
  cc0_moe_experts (crd m hp t) tbl0 (Memref.isWhole_whole _) tbl1 (Memref.isWhole_whole _) tbl2 (Memref.isWhole_whole _)
    (st0 m hp t) (hstage0_0 (((cfgA m hp).slots t (0 : Fin 6)).cast nbuf0_0))
    (st1 m hp t) (hstage0_1 (((cfgA m hp).slots t (1 : Fin 6)).cast nbuf0_1))
    (st2 m hp t) (hstage0_2 (((cfgA m hp).slots t (2 : Fin 6)).cast nbuf0_2))
    (st3 m hp t) (hstage0_3 (((cfgA m hp).slots t (3 : Fin 6)).cast nbuf0_3))
    (st4 m hp t) (hstage0_4 (((cfgA m hp).slots t (4 : Fin 6)).cast nbuf0_4))
    (st5 m hp t) (hstage0_5 (((cfgA m hp).slots t (5 : Fin 6)).cast nbuf0_5))
    scr0 (Memref.isWhole_whole _) scr1 (Memref.isWhole_whole _)

set_option maxHeartbeats 4000000 in
/-- The body at a point keeps the invariant and leaves `out`. -/
theorem sound_body (c : Dev nD) (t : Fin (cfgA m hp).N) :
    iprop((dats m ρ hp 0 c).Φ t.castSucc ∗ (dats m ρ hp 0 c).owesAt () t.castSucc
        ∗ (∃ d, owns (c : Thread nD τ) (st0 m hp t) fullShare ((dats m ρ hp 0 c).before (0 : Fin 6) t d))
        ∗ (∃ d, owns (c : Thread nD τ) (st1 m hp t) fullShare ((dats m ρ hp 0 c).before (1 : Fin 6) t d))
        ∗ (∃ d, owns (c : Thread nD τ) (st2 m hp t) fullShare ((dats m ρ hp 0 c).before (2 : Fin 6) t d))
        ∗ (∃ d, owns (c : Thread nD τ) (st3 m hp t) fullShare ((dats m ρ hp 0 c).before (3 : Fin 6) t d))
        ∗ (∃ d, owns (c : Thread nD τ) (st4 m hp t) fullShare ((dats m ρ hp 0 c).before (4 : Fin 6) t d))
        ∗ (∃ d, owns (c : Thread nD τ) (st5 m hp t) fullShare ((dats m ρ hp 0 c).before (5 : Fin 6) t d)))
      ⊢ wp frame (wpE (defs₀ (F := F)) Variants.none c none) Set.univ (bodyAt m hp t) fun _ =>
          iprop((dats m ρ hp 0 c).Φ t.succ ∗ (dats m ρ hp 0 c).owesAt () t.succ
            ∗ bigSep Finset.univ fun w : Fin (cfgA m hp).W =>
                match (cfgA m hp).idle w ((cfgA m hp).grid.coords t) with
                | true =>
                  match ((cfgA m hp).win w).flush t with
                  | false => iprop(∃ d, owns (c : Thread nD τ) (((cfgA m hp).win w).stage ((cfgA m hp).slots t w)) fullShare ((dats m ρ hp 0 c).before w t d))
                  | true => owns (c : Thread nD τ) (((cfgA m hp).win w).stage ((cfgA m hp).slots t w)) fullShare ((dats m ρ hp 0 c).after w t)
                | false => owns (c : Thread nD τ) (((cfgA m hp).win w).stage ((cfgA m hp).slots t w)) fullShare ((dats m ρ hp 0 c).after w t)) := by
  rw [bigSep_W0]
  rewrite [live m hp t]
  simp only [before_0, before_1, before_2, before_3, before_4]
  rewrite [show (dats m ρ hp 0 c).Φ t.succ = Inv m hp c t.succ from rfl, show (dats m ρ hp 0 c).Φ t.castSucc = Inv m hp c t.castSucc from rfl,
    show (dats m ρ hp 0 c).owesAt () t.succ = (dats m ρ hp 0 c).owesAt () t.castSucc from rfl]
  unfold Inv
  iintro ⟨⟨⟨%a0, %ha0, HS0⟩, ⟨%a1, %ha1, HS1⟩, HT0, HT1, HT2⟩, Ho, ⟨%d0, H0⟩, ⟨%d1, H1⟩, ⟨%d2, H2⟩, ⟨%d3, H3⟩, ⟨%d4, H4⟩, ⟨%d5, H5⟩⟩
  have hs : ¬ Scalar.cmpi .ne (Scalar.extui (Scalar.cmpi .eq (firstWord (F := F) (crd m hp t) (firsts m)) 1#32)) 0#32 = 1#1 →
      a0 = k0_pay1 (bwgu m hp c t) ∧ a1 = k0_pay2 (bwd m hp c t) := fun hn => by
    obtain ⟨h0, he⟩ := same_before m hp t hn
    exact ⟨(ha0 h0).trans (congrArg k0_pay1 (bwgu_same m hp c _ t he)), (ha1 h0).trans (congrArg k0_pay2 (bwd_same m hp c _ t he))⟩
  iapply (body_run c (crd m hp t) (st0 m hp t) (hstage0_0 (((cfgA m hp).slots t (0 : Fin 6)).cast nbuf0_0))
    (st1 m hp t) (hstage0_1 (((cfgA m hp).slots t (1 : Fin 6)).cast nbuf0_1))
    (st2 m hp t) (hstage0_2 (((cfgA m hp).slots t (2 : Fin 6)).cast nbuf0_2))
    (st3 m hp t) (hstage0_3 (((cfgA m hp).slots t (3 : Fin 6)).cast nbuf0_3))
    (st4 m hp t) (hstage0_4 (((cfgA m hp).slots t (4 : Fin 6)).cast nbuf0_4))
    (st5 m hp t) (hstage0_5 (((cfgA m hp).slots t (5 : Fin 6)).cast nbuf0_5))
    (experts m) (firsts m) (used m) (bx m hp c t) (bwgu m hp c t) (bbgu m hp c t) (bwd m hp c t) (bbd m hp c t) a0 a1 hs)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [HT2]; · iexact HT2
  isplitl [H5]; · iexists _; iexact H5
  isplitl [HS0]; · iexact HS0
  isplitl [HS1]; · iexact HS1
  iintro ⟨H0, H1, H2, H3, H4, HT0, HT1, HT2, H5, HS0, HS1⟩
  isplitl [HS0 HS1 HT0 HT1 HT2]
  · isplitl [HS0]
    · iexists (k0_pay1 (bwgu m hp c t))
      isplitr; swap
      · iexact HS0
      · ipureintro; exact fun _ => rfl
    isplitl [HS1]
    · iexists (k0_pay2 (bwd m hp c t))
      isplitr; swap
      · iexact HS1
      · ipureintro; exact fun _ => rfl
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

/-- The obligation the launch asks for. -/
theorem body_obligation (c : Dev nD) : BodyObligation (dats m ρ hp 0 c) (defs₀ (F := F)) Variants.none () Set.univ := fun t => by
  rw [bigSep_W0]
  exact sound_body m ρ hp c t

end Cert.Experts
-- ==== Proof.Moe.Launch.lean ====
module

public import proofs.«01_k».proof.Proof.Moe.Run

/-! # The launch of the experts' call -/

@[expose] public section
set_option maxRecDepth 16384
noncomputable section

namespace Cert.Experts

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (hp : Planned m)

/-- The one pipeline, at the launch's tables. -/
abbrev pipes : Fin 1 → Pipeline.Cfg sig Λ₀ := Pipeline.pin (pcfgs (F := F)) fun _ => adm m hp

/-- The rounds' element at the launch. -/
def u₀ : UR sig nD τ :=
  initOf (Pipeline.cells (pipes m hp) ((launch0 (F := F)).cellOf_inj fun _ => adm m hp))
    (Pipeline.launchToks (pipes m hp) ((launch0 (F := F)).cellOf_inj fun _ => adm m hp))

theorem share_eq (c : Dev nD) (w : Fin (cfgA m hp).W) : (dats m ρ hp 0 c).share w = fullShare := by
  unfold Dat.share; split <;> rfl

/-- The tables as the launch hands them over, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant before the first point, from the tables and the scratch as they are, -/
theorem inv_intro (c : Dev nD) :
    iprop(BI.emp ∗ Pipeline.prefHeld pre0 c (fun _ => fullShare.right) (adm m hp).1 ∗ Pipeline.scopedRest spec0 c) ⊢ (dats m ρ hp 0 c).Φ 0 := by
  rw [prefHeld_eq, scopedRest0_eq, show (dats m ρ hp 0 c).Φ 0 = Inv m hp c 0 from rfl]
  unfold Inv
  iintro ⟨-, ⟨HT0, HT1, HT2⟩, ⟨%a0, HS0⟩, ⟨%a1, HS1⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HT0]; · iexact HT0
  isplitl [HT1]; · iexact HT1
  iexact HT2

/-- and after the last the scratch given back. -/
theorem inv_exit (c : Dev nD) : (dats m ρ hp 0 c).Φ (Fin.last (cfgA m hp).N) ⊢ iprop(BI.emp ∗ Pipeline.scopedRest spec0 c) := by
  rw [scopedRest0_eq, show (dats m ρ hp 0 c).Φ (Fin.last (cfgA m hp).N) = Inv m hp c (Fin.last _) from rfl]
  unfold Inv
  iintro ⟨⟨%a0, -, HS0⟩, ⟨%a1, -, HS1⟩, -, -, -⟩
  isplitr; · iempintro
  isplitl [HS0]
  · iexists a0; iexact HS0
  iexists a1; iexact HS1

theorem held (c : Dev nD) (j : Fin 3) : m ((c : Thread nD τ).loc (pre0.ref j)) = (adm m hp).1 j := by
  obtain rfl : c = dev := Subsingleton.elim (α := Fin 1) _ _
  rfl

/-- Every array at what the pipeline computes, every table as it was. -/
def Post : PUnit × MemSt nD τ sig (Elt F) → Prop := fun r =>
  ∀ c : Dev nD, (∀ w : Fin (cfgA m hp).W, r.2.mem (((cfgA m hp).win w).arr.view.loc (c : Thread nD τ)) = (dats m ρ hp 0 c).arrAt w (cfgA m hp).N)
    ∧ ∀ j, r.2.mem ((c : Thread nD τ).loc (pre0.ref j)) = (adm m hp).1 j

set_option backward.isDefEq.respectTransparency.types false in
set_option maxHeartbeats 4000000 in
/-- From a memory whose tables fulfil the plan the call terminates, with every array as computed and every counter at zero. -/
theorem run_main : θ_run (defs (F := F)) (onTc (τ := τ) (main (F := F))) (start m ρ) (fun r => Post m ρ hp r ∧ r.2.sem = fun _ => 0) :=
  Pipeline.θ_run_region_noSem_pf_quiescent pcfgs (fun _ => adm m hp) (dats m ρ hp) () ((launch0 (F := F)).cellOf_inj fun _ => adm m hp) (0 : Fin 1)
    (launch0 (F := F)).win.to₀ (launch0 (F := F)).pre emb₁ defs₀ Variants.none m ρ main
    (hbody := fun c => (body_obligation m ρ hp c).loose) (hne := (launch0 (F := F)).block_pos)
    (harr := (launch0 (F := F)).arr_whole) (hstage := (launch0 (F := F)).stage_whole) (howed := fun _ _ => rfl)
    (u₀ := u₀ m hp) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes m hp) (dats m ρ hp) 0 (launch0 (F := F)).win.arr_inj c (launch0 (F := F)).arr_whole
      (share_eq m ρ hp c) _ _ fun _ => rfl)
    (hpf := held m hp)
    (X := fun _ => iprop(emp)) (Y := fun _ => iprop(emp)) (Z := fun _ => iprop(emp))
    (hX := fun c => by rw [unscopedRestP0_eq]; iintro -; isplitr <;> iempintro)
    (hin := inv_intro m ρ hp)
    (hout := inv_exit m ρ hp)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments are left as they were. -/
theorem unchanged (r : PUnit × MemSt nD τ sig (Elt F)) (h : Post m ρ hp r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  ⟨((h c).2 0).trans (held m hp c 0).symm, ((h c).2 1).trans (held m hp c 1).symm, ((h c).2 2).trans (held m hp c 2).symm,
    ((h c).1 (0 : Fin 6)).trans ((dats m ρ hp 0 c).arrAt_in (0 : Fin 6) rfl _),
    ((h c).1 (1 : Fin 6)).trans ((dats m ρ hp 0 c).arrAt_in (1 : Fin 6) rfl _),
    ((h c).1 (2 : Fin 6)).trans ((dats m ρ hp 0 c).arrAt_in (2 : Fin 6) rfl _),
    ((h c).1 (3 : Fin 6)).trans ((dats m ρ hp 0 c).arrAt_in (3 : Fin 6) rfl _),
    ((h c).1 (4 : Fin 6)).trans ((dats m ρ hp 0 c).arrAt_in (4 : Fin 6) rfl _)⟩

end Cert.Experts
-- ==== Proof.Moe.Spec.lean ====
module

public import proofs.«01_k».proof.Proof.Moe.Launch
public import Idealize.ShloMosaic.Lib.Pointwise

/-! # What an expert does to one row, and that a block's body does it -/

@[expose] public section
set_option maxRecDepth 16384
noncomputable section

namespace Cert.Experts

open Cert.MoeIdeal Cert.MoeIdeal.Gen
open Idealize.ShloMosaic Idealize.SL.Sem

/-- The constants as both programs print them: 7, −7, 1, 1.702. -/
abbrev cap : EReal := Ideal.ofBits .f32 0x40E00000#32
abbrev floor : EReal := Ideal.ofBits .f32 0xC0E00000#32
abbrev one : EReal := Ideal.ofBits .f32 0x3F800000#32
abbrev slope : EReal := Ideal.ofBits .f32 0x3FD9DB23#32

section
variable (x : Fin 1024 → EReal) (wgu : Fin 1024 → Fin 2048 → EReal) (bgu : Fin 2048 → EReal)
  (wd : Fin 1024 → Fin 1024 → EReal) (bd : Fin 1024 → EReal)

/-- The first projection, both halves, -/
def proj (j : Fin 2048) : EReal := (∑ k : Fin 1024, x k * wgu k j) + bgu j

/-- the gate, out of the left half, -/
def gate (f : Fin 1024) : EReal := min (proj x wgu bgu ⟨f.val, by omega⟩) cap

/-- the clamped right half times the gate, -/
def act (f : Fin 1024) : EReal :=
  (min (max (proj x wgu bgu ⟨1024 + f.val, by omega⟩) floor) cap + one)
    * (gate x wgu bgu f * Ideal.logistic (slope * gate x wgu bgu f))

/-- and the second projection. -/
def expertRow (d : Fin 1024) : EReal := (∑ f : Fin 1024, act x wgu bgu f * wd f d) + bd d

end

variable (x : S256x1024.Idx → EReal) (wgu : S1x1024x2048.Idx → EReal) (bgu : S1x1x2048.Idx → EReal)
  (wd : S1x1024x1024.Idx → EReal) (bd : S1x1x1024.Idx → EReal)

theorem pay1_apply (k : Fin 1024) (j : Fin 2048) : k0_pay1 (F := Ideal) wgu (ix2 k j) = wgu (ix3 0 k j) := by
  pointwise [k0_pay1]

theorem pay2_apply (k j : Fin 1024) : k0_pay2 (F := Ideal) wd (ix2 k j) = wd (ix3 0 k j) := by
  pointwise [k0_pay2]

set_option maxHeartbeats 1000000 in
/-- A used block's result, row by row. -/
theorem pay3_apply (w : S1024x2048.Idx → EReal) (v : S1024x1024.Idx → EReal) (r : Fin 256) (d : Fin 1024) :
    k0_pay3 (F := Ideal) x w bgu v bd (ix2 r d)
      = expertRow (fun k => x (ix2 r k)) (fun k j => w (ix2 k j)) (fun j => bgu (ix3 0 0 j)) (fun f d => v (ix2 f d)) (fun d => bd (ix3 0 0 d)) d := by
  unfold expertRow act gate proj
  pointwise [k0_pay3]
  simp only [min_comm (Ideal.ofBits .f32 0x40E00000#32), max_comm (Ideal.ofBits .f32 0xC0E00000#32)]

end Cert.Experts
-- ==== Proof.Moe.Gather.lean ====
module

public import proofs.«01_k».proof.Proof.Moe.Spec
public import proofs.«01_k».proof.Proof.Gen.MoeReferenceIdeal.Read

/-! # The experts of the blocks, gathered

The reference picks every block's weights by `w[be]`; at an entry of the plan this is the expert's plane. -/

@[expose] public section
set_option maxRecDepth 16384
noncomputable section

namespace Cert.Experts

open Idealize.ShloMosaic

/-- Planes of a stack, by number: the dimension numbers of `w[be]`. -/
def planeDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

variable {N A B n : ℕ} (wf : GatherDims.WF ⟨3, ![N, A, B]⟩ ⟨2, ![n, 1]⟩ ⟨3, ![n, A, B]⟩ [1, 2] [0] [] [0] [] 1 ![1, A, B])

theorem mem_kept (a : Fin 3) (h : a ≠ 0) : a ∈ (planeDims N A B n wf).sKept :=
  (GatherDims.mem_sKept _ _).2 ⟨fun e => h (List.mem_singleton.1 e), fun e => by cases e⟩

/-- The element of a gathered plane is the plane's, where the number names one. -/
theorem gather_plane {α : Type} (x : (⟨3, ![N, A, B]⟩ : Shape).Idx → α) (idx : IVec ⟨2, ![n, 1]⟩ 32) (b : Fin n) (k : Fin A) (j : Fin B)
    (e : Fin N) (he : (idx (ix2 b (0 : Fin 1))).toInt = e.val) :
    Host.gather (planeDims N A B n wf) x idx (ix3 b k j) = x (ix3 e k j) := by
  unfold Host.gather
  refine congrArg x (funext fun a => Fin.ext ?_)
  show (planeDims N A B n wf).start (ix3 b k j) idx a + (planeDims N A B n wf).batchCoord (ix3 b k j) a
    + (planeDims N A B n wf).offCoord (ix3 b k j) a = _
  rw [GatherDims.batchCoord_eq_zero _ _ _ (fun h => by cases h), Nat.add_zero]
  match a with
  | ⟨0, _⟩ =>
    rw [GatherDims.offCoord_eq_zero _ _ _ (fun h => ((GatherDims.mem_sKept _ _).1 h).1 (List.mem_singleton.2 rfl)), Nat.add_zero]
    refine (dif_pos (List.mem_singleton.2 rfl)).trans ?_
    have hl := e.isLt
    refine (congrArg (fun v : BitVec 32 => min v.toInt.toNat (N - 1)) (congrArg idx (?_ : _ = ix2 b (0 : Fin 1)))).trans ?_
    · funext b'
      refine Fin.ext ?_
      match b' with
      | ⟨0, _⟩ => rfl
      | ⟨1, _⟩ => rfl
    · show min (idx (ix2 b (0 : Fin 1))).toInt.toNat (N - 1) = e.val
      rw [he]
      omega
  | ⟨1, _⟩ =>
    refine (congrArg₂ (· + ·) (dif_neg fun h => Fin.ne_of_val_ne (by simp) (List.mem_singleton.1 h)) (dif_pos (mem_kept wf 1 (by decide)))).trans ?_
    exact Nat.zero_add k.val
  | ⟨2, _⟩ =>
    refine (congrArg₂ (· + ·) (dif_neg fun h => Fin.ne_of_val_ne (by simp) (List.mem_singleton.1 h)) (dif_pos (mem_kept wf 2 (by decide)))).trans ?_
    exact Nat.zero_add j.val

end Cert.Experts
-- ==== Proof.Moe.Array.lean ====
module

public import proofs.«01_k».proof.Proof.Moe.Gather

/-! # What the experts' array holds at the end

A used block's rows are its expert's rows, an unused block's are zero. The blocks cover the array. -/

@[expose] public section
set_option maxRecDepth 16384
noncomputable section

namespace Cert.Experts

open Cert.MoeIdeal Cert.MoeIdeal.Gen
open Idealize.ShloMosaic Idealize.ShloMosaic.TcCoe Idealize.SL.Sem

section Spec
variable (e : Fin 224 → Fin 32) (n : ℕ) (x : S57344x1024.Idx → EReal) (wgu : S32x1024x2048.Idx → EReal)
  (bgu : S32x1x2048.Idx → EReal) (wd : S32x1024x1024.Idx → EReal) (bd : S32x1x1024.Idx → EReal)

/-- Row `r` of block `b`, lane `d`: of its expert if the block is used, else zero. -/
def moeAt (b : Fin 224) (r : Fin 256) (d : Fin 1024) : EReal :=
  if b.val < n then
    expertRow (fun k => x (ix2 ⟨b.val * 256 + r.val, by omega⟩ k)) (fun k j => wgu (ix3 (e b) k j)) (fun j => bgu (ix3 (e b) 0 j))
      (fun f d => wd (ix3 (e b) f d)) (fun d => bd (ix3 (e b) 0 d)) d
  else 0

/-- The same by the array's own index. -/
def moe (y : S57344x1024.Idx) : EReal :=
  moeAt e n x wgu bgu wd bd ⟨(y 0).val / 256, by have : (y 0).val < 57344 := (y 0).isLt; omega⟩
    ⟨(y 0).val % 256, Nat.mod_lt _ (by decide)⟩ (y 1)

theorem moe_eq (y : S57344x1024.Idx) (b : Fin 224) (r : Fin 256) (d : Fin 1024) (h0 : (y 0).val = b.val * 256 + r.val)
    (h1 : (y 1).val = d.val) : moe e n x wgu bgu wd bd y = moeAt e n x wgu bgu wd bd b r d := by
  unfold moe
  congr 1
  · exact Fin.ext (by show (y 0).val / 256 = b.val; omega)
  · exact Fin.ext (by show (y 0).val % 256 = r.val; omega)
  · exact Fin.ext h1
end Spec

/-- The body's test of a block against the number of used ones. -/
theorem used_iff (i : grid0.Coords) (n : BitVec 32) (hn : n.toNat < 2147483648) : k0_cond2 i n = 1#1 ↔ (blk i).val < n.toNat := by
  have hb : (blk i).val < 224 := (blk i).isLt
  have hbi : (BitVec.ofNat 32 (i 0).val).toInt = (blk i).val := by
    rw [BitVec.toInt_eq_toNat_cond, toNat_blk]; split <;> omega
  have hni : n.toInt = n.toNat := by rw [BitVec.toInt_eq_toNat_cond]; split <;> omega
  have hs : (BitVec.ofNat 32 (i 0).val).slt n = true ↔ (blk i).val < n.toNat := by
    rw [BitVec.slt_iff_toInt_lt, hbi, hni]; omega
  rw [← hs]
  change Scalar.cmpi .ne (Scalar.extui (BitVec.ofBool ((BitVec.ofNat 32 (i 0).val).slt n))) 0#32 = 1#1 ↔ _
  cases (BitVec.ofNat 32 (i 0).val).slt n <;> decide

theorem pay4_apply (r : Fin 256) (d : Fin 1024) : k0_pay4 (F := Ideal) (ix2 r d) = 0 := by
  pointwise [k0_pay4]

variable (m : (ℓ : Loc nD τ sig) → Buf (Elt Ideal) ℓ) (ρ : Dev nD → PrngReg) (hp : Planned m) (c : Dev nD)

/-- The experts' layer of the launch's arguments. -/
def layer : S57344x1024.Idx → EReal :=
  moe (expert m hp) (used m (ix1 0)).toNat (m ((c : Thread nD τ).loc main_arg3)) (m ((c : Thread nD τ).loc main_arg4))
    (m ((c : Thread nD τ).loc main_arg5)) (m ((c : Thread nD τ).loc main_arg6)) (m ((c : Thread nD τ).loc main_arg7))

/-- A point leaves its block of the layer. -/
theorem out_apply (t : Fin (cfgA m hp).N) (r : Fin 256) (d : Fin 1024) :
    out m hp c t (ix2 r d)
      = moeAt (expert m hp) (used m (ix1 0)).toNat (m ((c : Thread nD τ).loc main_arg3)) (m ((c : Thread nD τ).loc main_arg4))
          (m ((c : Thread nD τ).loc main_arg5)) (m ((c : Thread nD τ).loc main_arg6)) (m ((c : Thread nD τ).loc main_arg7))
          (num m hp t) r d := by
  have hu := used_iff (crd m hp t) (used m (ix1 0)) hp.pos
  unfold out result moeAt
  rw [usedWord_eq]
  by_cases h : (num m hp t).val < (used m (ix1 0)).toNat
  · rw [if_pos (hu.2 h), if_pos h, pay3_apply]
    simp only [pay1_apply, pay2_apply]
    have ht : t.val < (used m (ix1 0)).toNat := by rw [← num_val m hp t]; exact h
    simp only [bx_apply m hp c t ht, bwgu_apply m hp c t, bbgu_apply m hp c t, bwd_apply m hp c t, bbd_apply m hp c t]
  · rw [if_neg (fun h' => h (hu.1 h')), if_neg h, pay4_apply]

/-- The output window is at the point's own block, -/
theorem index_5 (t : Fin (cfgA m hp).N) : ((cfgA m hp).win (5 : Fin 6)).index t = ![t.val, 0] := by
  show ![(BitVec.ofNat 32 (crd m hp t 0).val).toNat, 0] = _
  rw [toNat_blk, num_val]

/-- so it is written back at every point. -/
theorem flush_5 (t : Fin (cfgA m hp).N) : ((cfgA m hp).win (5 : Fin 6)).flush t = true := by
  unfold Pipeline.Window.flush
  rw [show ((cfgA m hp).win (5 : Fin 6)).isOut = true from rfl, Bool.true_and]
  simp only [Bool.or_eq_true, decide_eq_true_eq]
  by_cases h : t.val + 1 = (cfgA m hp).grid.N
  · exact Or.inl h
  · refine Or.inr ⟨Nat.lt_of_le_of_ne t.isLt h, fun he => ?_⟩
    rw [index_5, index_5] at he
    have := congrFun he 0
    change t.val + 1 = t.val at this
    omega

/-- What a point writes back is the layer's block. -/
theorem flushed_eq (t : Fin (cfgA m hp).N) (_ : ((cfgA m hp).win (5 : Fin 6)).flush t = true) :
    (dats m ρ hp 0 c).flushed (5 : Fin 6) t = (((cfgA m hp).win (5 : Fin 6)).blk t).view.read (Elt Ideal) (layer m hp c) := by
  funext y
  obtain ⟨r, l, rfl⟩ : ∃ (r : Fin 256) (l : Fin 1024), y = ix2 r l := ⟨y 0, y 1, by funext a; fin_cases a <;> rfl⟩
  rw [View.read_apply]
  have hi := index_5 m hp t
  have hn := num_val m hp t
  refine (out_apply m hp c t r l).trans (moe_eq _ _ _ _ _ _ _ _ (num m hp t) r l ?_ ?_).symm
  · refine (congrArg (fun v : Fin 2 → ℕ => v 0 * 256 + 1 * r.val) hi).trans ?_
    show t.val * 256 + 1 * r.val = _
    omega
  · refine (congrArg (fun v : Fin 2 → ℕ => v 1 * 1024 + 1 * l.val) hi).trans ?_
    show 0 * 1024 + 1 * l.val = _
    omega

/-- So the array ends as the layer. -/
theorem final : (dats m ρ hp 0 c).arrAt (5 : Fin 6) (cfgA m hp).N = layer m hp c :=
  (dats m ρ hp 0 c).arrAt_eq_of_cover (5 : Fin 6) (layer m hp c) (flushed_eq m ρ hp c) fun z => by
    have h0 : (z 0 : Nat) < 57344 := (z 0).isLt
    have h1 : (z 1 : Nat) < 1024 := (z 1).isLt
    obtain ⟨t, ht⟩ : ∃ t : Fin (cfgA m hp).N, t.val = (z 0 : Nat) / 256 := ⟨⟨(z 0 : Nat) / 256, by show _ < 224; omega⟩, rfl⟩
    have hi := index_5 m hp t
    refine ⟨t, flush_5 m hp t, ?_⟩
    show z ∈ ((View.whole main_v0).slice (((cfgA m hp).win (5 : Fin 6)).rect t)).set
    rw [View.set_slice_whole, Rect.mem_set_unit]
    intro a
    match a with
    | ⟨0, _⟩ =>
      have e := congrArg (fun v : Fin 2 → ℕ => v 0) hi
      show ((cfgA m hp).win (5 : Fin 6)).index t 0 * 256 ≤ (z 0 : Nat) ∧ (z 0 : Nat) < ((cfgA m hp).win (5 : Fin 6)).index t 0 * 256 + 256
      change ((cfgA m hp).win (5 : Fin 6)).index t 0 = t.val at e
      rw [e]; omega
    | ⟨1, _⟩ =>
      have e := congrArg (fun v : Fin 2 → ℕ => v 1) hi
      show ((cfgA m hp).win (5 : Fin 6)).index t 1 * 1024 ≤ (z 1 : Nat) ∧ (z 1 : Nat) < ((cfgA m hp).win (5 : Fin 6)).index t 1 * 1024 + 1024
      change ((cfgA m hp).win (5 : Fin 6)).index t 1 = 0 at e
      rw [e]; omega

end Cert.Experts
-- ==== Proof.Moe.Ref.lean ====
module

public import proofs.«01_k».proof.Proof.Moe.Array

/-! # What the experts' reference computes

Every step of the reference at an index, up to the layer of `Moe.Array`. -/

@[expose] public section
set_option maxRecDepth 16384
noncomputable section

namespace Cert.Experts

open Cert.MoeReferenceIdeal Cert.MoeReferenceIdeal.Gen Cert.MoeReferenceIdeal.Read
open Idealize.ShloMosaic

variable (be : S224.Idx → BitVec 32) (nu : S1.Idx → BitVec 32) (x : S57344x1024.Idx → EReal) (wgu : S32x1024x2048.Idx → EReal)
  (bgu : S32x1x2048.Idx → EReal) (wd : S32x1024x1024.Idx → EReal) (bd : S32x1x1024.Idx → EReal)

/-- An expert's number, counted from the end where it is negative, is itself. -/
theorem wrap_eq (w : BitVec 32) (e : Fin 32) (h : w.toNat = e.val) :
    (Scalar.select (IntOp.cmpi .slt w 0#32) (IntOp.addi w 32#32) w).toInt = e.val := by
  have he := e.isLt
  have hi : w.toInt = w.toNat := by rw [BitVec.toInt_eq_toNat_cond]; split <;> omega
  have hn : w.slt 0#32 = false := by
    rw [Bool.eq_false_iff]
    intro hc
    have := BitVec.slt_iff_toInt_lt.1 hc
    rw [hi] at this
    change (w.toNat : ℤ) < 0 at this
    omega
  change (Scalar.select (BitVec.ofBool (w.slt 0#32)) (IntOp.addi w 32#32) w).toInt = _
  rw [hn]
  change w.toInt = _
  rw [hi, h]

variable (e : Fin 224 → Fin 32) (he : ∀ b, (be (ix1 b)).toNat = (e b).val)
include he

/-- The number each pick of weights goes by. -/
theorem num6_apply (b : Fin 224) : (val_main_v6 (F := Ideal) be (ix2 b (0 : Fin 1))).toInt = (e b).val := by
  refine Eq.trans (congrArg BitVec.toInt ?_) (wrap_eq _ _ (he b))
  pointwise [val_main_v6, val_main_v5, val_main_v4, val_main_v3, val_main_v2, val_main_v1, val_main_c, val_main_c_0]
theorem num14_apply (b : Fin 224) : (val_main_v14 (F := Ideal) be (ix2 b (0 : Fin 1))).toInt = (e b).val := num6_apply be e he b
theorem num43_apply (b : Fin 224) : (val_main_v43 (F := Ideal) be (ix2 b (0 : Fin 1))).toInt = (e b).val := num6_apply be e he b
theorem num51_apply (b : Fin 224) : (val_main_v51 (F := Ideal) be (ix2 b (0 : Fin 1))).toInt = (e b).val := num6_apply be e he b

/-- The weights and biases picked for a block. -/
theorem wgu_apply (b : Fin 224) (k : Fin 1024) (j : Fin 2048) : val_main_v7 (F := Ideal) be wgu (ix3 b k j) = wgu (ix3 (e b) k j) :=
  gather_plane gather_S32x1024x2048_S224x1_S224x1024x2048_12_0_n_n_0_1_110242048.wf wgu _ b k j (e b) (num6_apply be e he b)
theorem bgu_apply (b : Fin 224) (j : Fin 2048) : val_main_v15 (F := Ideal) be bgu (ix3 b 0 j) = bgu (ix3 (e b) 0 j) :=
  gather_plane gather_S32x1x2048_S224x1_S224x1x2048_12_0_n_n_0_1_112048.wf bgu _ b 0 j (e b) (num14_apply be e he b)
theorem wd_apply (b : Fin 224) (f d : Fin 1024) : val_main_v44 (F := Ideal) be wd (ix3 b f d) = wd (ix3 (e b) f d) :=
  gather_plane gather_S32x1024x1024_S224x1_S224x1024x1024_12_0_n_n_0_1_110241024.wf wd _ b f d (e b) (num43_apply be e he b)
theorem bd_apply (b : Fin 224) (d : Fin 1024) : val_main_v52 (F := Ideal) be bd (ix3 b 0 d) = bd (ix3 (e b) 0 d) :=
  gather_plane gather_S32x1x1024_S224x1_S224x1x1024_12_0_n_n_0_1_111024.wf bd _ b 0 d (e b) (num51_apply be e he b)

omit he in
/-- A row of a block. -/
theorem rows_apply (b : Fin 224) (r : Fin 256) (k : Fin 1024) :
    val_main_v0 (F := Ideal) x (ix3 b r k) = x (ix2 ⟨b.val * 256 + r.val, by omega⟩ k) := by
  pointwise [val_main_v0]

/-- The first projection of a row, -/
theorem proj_apply (b : Fin 224) (r : Fin 256) (j : Fin 2048) :
    val_main_v17 (F := Ideal) be x wgu bgu (ix3 b r j)
      = proj (fun k => x (ix2 ⟨b.val * 256 + r.val, by omega⟩ k)) (fun k j => wgu (ix3 (e b) k j)) (fun j => bgu (ix3 (e b) 0 j)) j := by
  pointwise [val_main_v17, val_main_v16, val_main_v8]
  simp only [rows_apply, wgu_apply be wgu e he, bgu_apply be bgu e he, proj]

/-- its activation, -/
theorem act_apply (b : Fin 224) (r : Fin 256) (f : Fin 1024) :
    val_main_v37 (F := Ideal) be x wgu bgu (ix3 b r f)
      = act (fun k => x (ix2 ⟨b.val * 256 + r.val, by omega⟩ k)) (fun k j => wgu (ix3 (e b) k j)) (fun j => bgu (ix3 (e b) 0 j)) f := by
  pointwise [val_main_v37, val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19, val_main_v18,
    val_main_cst, val_main_cst_3, val_main_cst_4, val_main_cst_5, val_main_cst_6, val_main_cst_7, val_main_cst_8]
  simp only [proj_apply be x wgu bgu e he, act, gate, Ideal.logistic, one, Ideal.ofBits_one_f32]

/-- and the second projection. -/
theorem down_apply (b : Fin 224) (r : Fin 256) (d : Fin 1024) :
    val_main_v54 (F := Ideal) be x wgu bgu wd bd (ix3 b r d)
      = expertRow (fun k => x (ix2 ⟨b.val * 256 + r.val, by omega⟩ k)) (fun k j => wgu (ix3 (e b) k j)) (fun j => bgu (ix3 (e b) 0 j))
          (fun f d => wd (ix3 (e b) f d)) (fun d => bd (ix3 (e b) 0 d)) d := by
  pointwise [val_main_v54, val_main_v53, val_main_v45]
  simp only [act_apply be x wgu bgu e he, wd_apply be wd e he, bd_apply be bd e he, expertRow]

omit he in
/-- The choice between an expert's row and zero. -/
theorem pick_eq (b : Fin 224) (n : BitVec 32) (hn : n.toNat < 2147483648) (s t : EReal) :
    Scalar.select (IntOp.cmpi .slt (BitVec.ofNat 32 b.val) n) s t = if b.val < n.toNat then s else t := by
  have hb := b.isLt
  have hbn : (BitVec.ofNat 32 b.val).toNat = b.val := by rw [BitVec.toNat_ofNat]; exact Nat.mod_eq_of_lt (by omega)
  have hbi : (BitVec.ofNat 32 b.val).toInt = b.val := by rw [BitVec.toInt_eq_toNat_cond, hbn]; split <;> omega
  have hni : n.toInt = n.toNat := by rw [BitVec.toInt_eq_toNat_cond]; split <;> omega
  have hs : (BitVec.ofNat 32 b.val).slt n = true ↔ b.val < n.toNat := by
    rw [BitVec.slt_iff_toInt_lt, hbi, hni]; omega
  change Scalar.select (BitVec.ofBool ((BitVec.ofNat 32 b.val).slt n)) s t = _
  by_cases h : b.val < n.toNat
  · rw [if_pos h, hs.2 h]; rfl
  · rw [if_neg h, Bool.eq_false_iff.2 (fun h' => h (hs.1 h'))]; rfl

/-- The choice, made for a row. -/
theorem pick_apply (hn : (nu (ix1 0)).toNat < 2147483648) (b : Fin 224) (r : Fin 256) (d : Fin 1024) :
    val_main_v62 (F := Ideal) be nu x wgu bgu wd bd (ix3 b r d) = moeAt e (nu (ix1 0)).toNat x wgu bgu wd bd b r d := by
  unfold moeAt
  pointwise [val_main_v62, val_main_v61, val_main_v60, val_main_v59, val_main_v58, val_main_v57, val_main_v56, val_main_v55, val_main_cst_13]
  rw [down_apply be x wgu bgu wd bd e he]
  exact pick_eq b _ hn _ _

/-- The reference is the layer. -/
theorem ref_eq (hn : (nu (ix1 0)).toNat < 2147483648) (y : S57344x1024.Idx) :
    val_main_v63 (F := Ideal) be nu x wgu bgu wd bd y = moe e (nu (ix1 0)).toNat x wgu bgu wd bd y := by
  pointwise [val_main_v63]
  exact pick_apply be nu x wgu bgu wd bd e he hn _ _ _

end Cert.Experts
-- ==== Proof.Moe.Transfer.lean ====
module

public import proofs.«01_k».proof.Proof.Moe.Ref
public import proofs.«01_k».proof.Proof.Gen.Moe
public import proofs.«01_k».proof.Proof.Gen.Pre_plan
public import proofs.«01_k».proof.Defs
public import Idealize.ShloMosaic.Lib.Tactic

/-! # The two printed texts of the experts' call

`Moe` and `MoeIdeal` are the same text twice, no rewrite having been applied. So a run of the one, over any floats, is a run
of the other. -/

@[expose] public section

noncomputable section

namespace Cert.Experts

open Idealize.ShloMosaic Idealize.ShloMosaic.TcCoe Idealize.SL.Sem

set_option maxHeartbeats 1000000 in
/-- The two programs' executions are the same. -/
theorem run_eq (m : (ℓ : Loc Cert.MoeIdeal.nD Cert.MoeIdeal.τ Cert.MoeIdeal.sig) → Buf (Elt Bits) ℓ) (g : Dev Cert.MoeIdeal.nD → PrngReg)
    (Q : PUnit × MemSt Cert.MoeIdeal.nD Cert.MoeIdeal.τ Cert.MoeIdeal.sig (Elt Bits) → Prop) :
    θ_run (Cert.Moe.defs (F := Bits)) (onTc (τ := Cert.Moe.τ) (Cert.Moe.main (F := Bits))) ⟨m, fun _ => 0, g⟩ Q
      = θ_run (Cert.MoeIdeal.defs (F := Bits)) (onTc (τ := Cert.MoeIdeal.τ) (Cert.MoeIdeal.main (F := Bits))) ⟨m, fun _ => 0, g⟩ Q := by
  sl_kernel_rfl

/-- The arguments of the call fulfil the precondition, over any floats. -/
def Holds {F : FTy → Type} [FloatOps F] (m : (ℓ : Loc Cert.MoeIdeal.nD Cert.MoeIdeal.τ Cert.MoeIdeal.sig) → Buf (Elt F) ℓ) : Prop :=
  ∀ c : Dev Cert.MoeIdeal.nD,
    Cert.Pre_plan.fn (F := F) (m ((c.tc : Thread Cert.MoeIdeal.nD Cert.MoeIdeal.τ).loc Cert.MoeIdeal.main_arg0))
      (m ((c.tc : Thread Cert.MoeIdeal.nD Cert.MoeIdeal.τ).loc Cert.MoeIdeal.main_arg1)) (m ((c.tc : Thread Cert.MoeIdeal.nD Cert.MoeIdeal.τ).loc Cert.MoeIdeal.main_arg2))
      (m ((c.tc : Thread Cert.MoeIdeal.nD Cert.MoeIdeal.τ).loc Cert.MoeIdeal.main_arg3)) (m ((c.tc : Thread Cert.MoeIdeal.nD Cert.MoeIdeal.τ).loc Cert.MoeIdeal.main_arg4))
      (m ((c.tc : Thread Cert.MoeIdeal.nD Cert.MoeIdeal.τ).loc Cert.MoeIdeal.main_arg5)) (m ((c.tc : Thread Cert.MoeIdeal.nD Cert.MoeIdeal.τ).loc Cert.MoeIdeal.main_arg6))
      (m ((c.tc : Thread Cert.MoeIdeal.nD Cert.MoeIdeal.τ).loc Cert.MoeIdeal.main_arg7)) = fun _ => 1#1

/-- So the tables fulfil the plan. -/
theorem planned {F : FTy → Type} [FloatOps F] (m : (ℓ : Loc Cert.MoeIdeal.nD Cert.MoeIdeal.τ Cert.MoeIdeal.sig) → Buf (Elt F) ℓ) (h : Holds m) : Planned m :=
  plan_of_pre _ _ _ _ _ _ _ _ (h dev)

/-- The precondition of the first text is that of the second. -/
theorem holds_of_pre (m : (ℓ : Loc Cert.MoeIdeal.nD Cert.MoeIdeal.τ Cert.MoeIdeal.sig) → Buf (Elt Bits) ℓ) (h : Cert.Pre_Moe m) : Holds m := h

end Cert.Experts
-- ==== Proof.Moe.Claims.lean ====
module

public import proofs.«01_k».proof.Proof.Moe.Transfer
public import proofs.«01_k».proof.Proof.Gen.MoeReferenceIdeal.Run
public import Idealize.ShloMosaic.Lib.Quiescent

/-! # What is claimed of the experts' call

The frames of the call, over both kinds of floats, and of its reference; and that both leave the same layer. -/

@[expose] public section

noncomputable section

namespace Cert.Experts

open Idealize.ShloMosaic Idealize.ShloMosaic.TcCoe Idealize.SL.Sem

/-- Under the plan the ideal call terminates, keeps its arguments and leaves no semaphore standing. -/
theorem frame_ideal : Cert.quiescent_MoeIdeal := fun m g h =>
  (θ_run Cert.MoeIdeal.defs _ _).mono (fun r hr => ⟨fun c => unchanged m g (planned m h) r hr.1 c, hr.2⟩)
    (run_main m g (planned m h))

/-- So does the call over machine floats. -/
theorem frame_bits : Cert.quiescent_Moe := fun m g h => by
  have hp := planned (F := Bits) m (holds_of_pre m h)
  have key := (θ_run Cert.MoeIdeal.defs _ _).mono (fun r hr => (⟨fun c => unchanged m g hp r hr.1 c, hr.2⟩ : _ ∧ _))
    (run_main (F := Bits) m g hp)
  rw [← run_eq] at key
  exact key

/-- The reference terminates, keeps its arguments, and has no semaphore that could be left standing. -/
theorem frame_reference : Cert.quiescent_MoeReferenceIdeal := fun m g _ =>
  (θ_run Cert.MoeReferenceIdeal.defs _ _).mono (fun r h => ⟨fun c => (h c).2, sem_eq_zero_of_no_sems (by decide) r.2⟩)
    (Cert.MoeReferenceIdeal.Value.run (F := Ideal) m g)

/-- Under the plan the call and its reference leave the same array: `layer` of the arguments. -/
theorem algebraic : Cert.algebraic_MoeIdeal_MoeReferenceIdeal := by
  intro m g m' g' hpre hagree
  have hp := planned m hpre
  refine ⟨fun c => layer m hp c, ?_, ?_⟩
  · exact (θ_run Cert.MoeIdeal.defs _ _).mono
      (fun r hr c => ⟨((hr.1 c).1 (5 : Fin 6)).trans (final m g hp c), unchanged m g hp r hr.1 c⟩) (run_main m g hp)
  · refine (θ_run Cert.MoeReferenceIdeal.defs _ _).mono (fun _ h c => ⟨(h c).1.trans ?_, (h c).2⟩)
      (Cert.MoeReferenceIdeal.Value.run (F := Ideal) m' g')
    obtain ⟨a0, a1, a2, a3, a4, a5, a6, a7⟩ := hagree c
    obtain rfl : c = dev := Subsingleton.elim (α := Fin 1) _ _
    rw [Cert.MoeReferenceIdeal.Read.val_main_v63_eq, a0, a2, a3, a4, a5, a6, a7]
    exact funext fun y => ref_eq _ _ _ _ _ _ _ (expert m hp) (fun _ => rfl) hp.pos y

end Cert.Experts
-- ==== Proof.Proj.Spec.lean ====
module

public import proofs.«01_k».proof.Proof.Finite
public import proofs.«01_k».proof.ProjIdeal

/-! # The projections, entry by entry

Token `t` of the 12288 (8192 of the context, then two samples of 2048) is normed, scaled and shifted by its group's
modulation, and multiplied by the columns of `w_in`. The columns' runs are the results: `u`; the queries, keys and values
of the neighbourhood attention; the latent query, normed and expanded to eight heads; the latent key and value, normed and
expanded; and one rotary key that all heads share. A latent token's rotary lanes are turned by its place on the
grid of 32 rows of 64; a context token's are left. -/

@[expose] public section
noncomputable section

namespace Cert.Project
open Idealize.ShloMosaic

/-- One entry of the root-mean-square norm of `v`, the mean taken with the divisor `n`, times the gain. -/
def nrm {k : ℕ} (v : Fin k → EReal) (n : EReal) (g : Fin k → EReal) (j : Fin k) : EReal :=
  v j * Ideal.rsqrt (Ideal.div (∑ i, v i * v i) n + Ideal.ofBits .f32 0x358637BD#32) * g j

/-- The first norm's divisor, 1024; -/
def nModel : EReal := Ideal.ofBits .f32 0x44800000#32

/-- The second norm's divisor, 256; -/
def nQuery : EReal := Ideal.ofBits .f32 0x43800000#32

/-- and the third's, 128. -/
def nKey : EReal := Ideal.ofBits .f32 0x43000000#32

/-- A row of the first norm, scaled by one plus `sc` and shifted by `sh`. -/
def modulate (v g sc sh : Fin 1024 → EReal) (k : Fin 1024) : EReal := nrm v nModel g k * (1 + sc k) + sh k

/-- The rotary partner of lane `c`: in each run of sixteen lanes the two halves of eight change places. -/
def perm (c : Fin 32) : Fin 32 :=
  ⟨if c.val % 16 < 8 then c.val + 8 else c.val - 8, by have := c.isLt; split <;> omega⟩

/-- The sign of a word. -/
def sgn (w : BitVec 32) : BitVec 32 := if w = 0 then 0 else if w.msb = true then -1 else 1

/-- The grid row of latent place `l`, as the quotient by 64 rounded down, in words; -/
def rowWord (l : ℕ) : BitVec 32 :=
  Scalar.select
    (IntOp.andi
      (IntOp.cmpi .ne (sgn (BitVec.ofNat 32 l)) (sgn (64#32)))
      (IntOp.cmpi .ne (IntOp.remsi .host (BitVec.ofNat 32 l) (64#32)) 0#32))
    (IntOp.subi (IntOp.divsi .host (BitVec.ofNat 32 l) (64#32)) 1#32)
    (IntOp.divsi .host (BitVec.ofNat 32 l) (64#32))

/-- the divisor 64 as the remainder takes it, one in the place of zero; -/
def wide : BitVec 32 := Scalar.select (IntOp.cmpi .eq (64#32) 0#32) (1#32) (64#32)

/-- and the grid column, the remainder by 64 with the divisor's sign. -/
def colWord (l : ℕ) : BitVec 32 :=
  Scalar.select
    (IntOp.andi
      (IntOp.cmpi .ne (IntOp.cmpi .slt (IntOp.remsi .host (BitVec.ofNat 32 l) wide) 0#32) (IntOp.cmpi .slt wide 0#32))
      (IntOp.cmpi .ne (IntOp.remsi .host (BitVec.ofNat 32 l) wide) 0#32))
    (IntOp.addi (IntOp.remsi .host (BitVec.ofNat 32 l) wide) wide)
    (IntOp.remsi .host (BitVec.ofNat 32 l) wide)

/-- The angle of a grid coordinate at frequency `f`: the coordinate times `10000 ^ (-2 f / 16)`. -/
def angle (w : BitVec 32) (f : ℕ) : EReal :=
  FloatOps.sitofp (F := Ideal) .f32 w * Ideal.pow (Ideal.ofBits .f32 0x461C4000#32)
    (Ideal.div (-(Ideal.ofBits .f32 0x40000000#32 * FloatOps.sitofp (F := Ideal) .f32 (BitVec.ofNat 32 f)))
      (Ideal.ofBits .f32 0x41800000#32))

/-- The angle of lane `c` at latent place `l`: the row's angle on the first sixteen lanes, the column's on the rest. -/
def laneAngle (l c : ℕ) : EReal := angle (if c < 16 then rowWord l else colWord l) (c % 8)

/-- The rotary turn of thirty-two lanes `y` at latent place `l`: a lane of a first half takes `y cos - y' sin` and a lane of a
second half `y cos + y' sin`, with `y'` its partner. -/
def turnAt (y : Fin 32 → EReal) (l : ℕ) (c : Fin 32) : EReal :=
  if c.val % 16 < 8 then y c * Ideal.cos (laneAngle l c.val) - y (perm c) * Ideal.sin (laneAngle l c.val)
  else y c * Ideal.cos (laneAngle l c.val) + y (perm c) * Ideal.sin (laneAngle l c.val)

/-- The turn of token `t`: none in the context, and in a sample by the token's place there. -/
def turn (y : Fin 32 → EReal) (t : ℕ) (c : Fin 32) : EReal :=
  if t < 8192 then y c else turnAt y ((t - 8192) % 2048) c

/-- The modulation's row of token `t`: the first for the context, then one to a sample. -/
def grp (t : Fin 12288) : Fin 8 :=
  ⟨if t.val < 8192 then 0 else 1 + (t.val - 8192) / 2048, by have := t.isLt; split <;> omega⟩

/-! ## The results, from the call's arguments -/

variable (x : Cert.ProjIdeal.S12288x1024.Idx → EReal) (md : Cert.ProjIdeal.S8x6x1024.Idx → EReal)
  (g : Cert.ProjIdeal.S1024.Idx → EReal) (w : Cert.ProjIdeal.S1024x1440.Idx → EReal) (qg : Cert.ProjIdeal.S256.Idx → EReal)
  (wq : Cert.ProjIdeal.S256x768.Idx → EReal) (kg : Cert.ProjIdeal.S128.Idx → EReal) (wkv : Cert.ProjIdeal.S128x1024.Idx → EReal)

/-- Column `j` of token `t` after `w_in`. -/
def proj (t : Fin 12288) (j : Fin 1440) : EReal :=
  ∑ k : Fin 1024, modulate (fun k => x (ix2 t k)) (fun k => g (ix1 k)) (fun k => md (ix3 (grp t) 1 k))
    (fun k => md (ix3 (grp t) 0 k)) k * w (ix2 k j)

/-- Column `l` of the expanded query. -/
def query (t : Fin 12288) (l : Fin 768) : EReal :=
  ∑ k : Fin 256, nrm (fun j : Fin 256 => proj x md g w t ⟨1024 + j.val, by omega⟩) nQuery (fun j => qg (ix1 j)) k * wq (ix2 k l)

/-- The normed latent key and value. -/
def latent (t : Fin 12288) (j : Fin 128) : EReal :=
  nrm (fun j : Fin 128 => proj x md g w t ⟨1280 + j.val, by omega⟩) nKey (fun j => kg (ix1 j)) j

/-- Column `l` of the expanded keys and values. -/
def expand (t : Fin 12288) (l : Fin 1024) : EReal := ∑ k : Fin 128, latent x md g w kg t k * wkv (ix2 k l)

/-- The rotary key before its turn. -/
def rotKey (t : Fin 12288) (c : Fin 32) : EReal := proj x md g w t ⟨1408 + c.val, by omega⟩

/-- Lane `d` of head `h` of the query: 64 plain lanes, 32 turned ones and 32 zeros; -/
def queryAt (t : Fin 12288) (h : Fin 8) (d : Fin 128) : EReal :=
  if hd : d.val < 64 then query x md g w qg wq t ⟨96 * h.val + d.val, by omega⟩
  else if hd' : d.val < 96 then
    turn (fun c => query x md g w qg wq t ⟨96 * h.val + 64 + c.val, by omega⟩) t.val ⟨d.val - 64, by omega⟩
  else 0

/-- and of the key. -/
def keyAt (t : Fin 12288) (h : Fin 8) (d : Fin 128) : EReal :=
  if hd : d.val < 64 then expand x md g w kg wkv t ⟨128 * h.val + d.val, by omega⟩
  else if hd' : d.val < 96 then turn (rotKey x md g w t) t.val ⟨d.val - 64, by omega⟩
  else 0

/-- Lane `d` of head `h` of the value. -/
def valueAt (t : Fin 12288) (h : Fin 8) (d : Fin 64) : EReal :=
  expand x md g w kg wkv t ⟨128 * h.val + 64 + d.val, by omega⟩

/-- Lane `c` of what the cache keeps: the normed latent, then the rotary key unturned. -/
def cacheAt (t : Fin 12288) (c : Fin 160) : EReal :=
  if hc : c.val < 128 then latent x md g w kg t ⟨c.val, hc⟩ else rotKey x md g w t ⟨c.val - 128, by omega⟩

/-- Token `r` of tile `i`. -/
def tok (i : Fin 48) (r : Fin 256) : Fin 12288 := ⟨256 * i.val + r.val, by omega⟩

/-! The eight results by their own indices. -/

/-- The first 256 columns; -/
def uRes (z : Cert.ProjIdeal.S12288x256.Idx) : EReal :=
  proj x md g w (z 0) ⟨(z 1).val, by have : (z 1).val < 256 := (z 1).isLt; omega⟩

/-- the neighbourhood attention's queries, keys and values (`o` = 0, 1, 2), four heads of 64 lanes, by tiles; -/
def naRes (o : Fin 3) (z : Cert.ProjIdeal.S48x4x256x64.Idx) : EReal :=
  proj x md g w (tok (z 0) (z 2)) ⟨256 + 256 * o.val + 64 * (z 1).val + (z 3).val, by
    have h1 : (z 1).val < 4 := (z 1).isLt
    have h3 : (z 3).val < 64 := (z 3).isLt
    omega⟩

/-- the latent attention's queries, -/
def queryRes (z : Cert.ProjIdeal.S48x8x256x128.Idx) : EReal := queryAt x md g w qg wq (tok (z 0) (z 2)) (z 1) (z 3)

/-- keys -/
def keyRes (z : Cert.ProjIdeal.S48x8x256x128.Idx) : EReal := keyAt x md g w kg wkv (tok (z 0) (z 2)) (z 1) (z 3)

/-- and values, by tiles; -/
def valueRes (z : Cert.ProjIdeal.S48x8x256x64.Idx) : EReal := valueAt x md g w kg wkv (tok (z 0) (z 2)) (z 1) (z 3)

/-- and the cache's rows. -/
def cacheRes (z : Cert.ProjIdeal.S12288x160.Idx) : EReal := cacheAt x md g w kg (z 0) (z 1)

end Cert.Project
-- ==== Proof.Proj.Turn.lean ====
module

public import proofs.«01_k».proof.Proof.Proj.Spec

/-! # The turn, half by half

The lanes turned by the grid row are the first sixteen and those turned by the column the last sixteen; each run is the
concatenation of its two halves of eight. -/

@[expose] public section
noncomputable section

namespace Cert.Project
open Idealize.ShloMosaic

variable (y : Fin 32 → EReal) (l : ℕ) (u : Fin 16)

/-- The first sixteen lanes, a half at a time. -/
theorem turn_row :
    (if h : u.val < 8 then
      y ⟨u.val, by omega⟩ * Ideal.cos (angle (rowWord l) u.val) - y ⟨8 + u.val, by omega⟩ * Ideal.sin (angle (rowWord l) u.val)
    else
      y ⟨8 + (u.val - 8), by omega⟩ * Ideal.cos (angle (rowWord l) (u.val - 8))
        + y ⟨u.val - 8, by omega⟩ * Ideal.sin (angle (rowWord l) (u.val - 8)))
      = turnAt y l ⟨u.val, by omega⟩ := by
  have hu := u.isLt
  unfold turnAt laneAngle
  by_cases h : u.val < 8
  · rw [dif_pos h, if_pos (by show u.val % 16 < 8; omega), if_pos hu]
    have e : u.val % 8 = u.val := by omega
    have p : perm ⟨u.val, by omega⟩ = ⟨8 + u.val, by omega⟩ := Fin.ext ((if_pos (by show u.val % 16 < 8; omega)).trans (Nat.add_comm _ _))
    rw [p, e]
  · rw [dif_neg h, if_neg (by show ¬u.val % 16 < 8; omega), if_pos hu]
    have e : u.val % 8 = u.val - 8 := by omega
    have p : perm ⟨u.val, by omega⟩ = ⟨u.val - 8, by omega⟩ := Fin.ext (if_neg (by show ¬u.val % 16 < 8; omega))
    have q : (⟨8 + (u.val - 8), by omega⟩ : Fin 32) = ⟨u.val, by omega⟩ := Fin.ext (by show 8 + (u.val - 8) = u.val; omega)
    rw [p, q, e]

/-- The last sixteen. -/
theorem turn_col :
    (if h : u.val < 8 then
      y ⟨16 + u.val, by omega⟩ * Ideal.cos (angle (colWord l) u.val)
        - y ⟨16 + (8 + u.val), by omega⟩ * Ideal.sin (angle (colWord l) u.val)
    else
      y ⟨16 + (8 + (u.val - 8)), by omega⟩ * Ideal.cos (angle (colWord l) (u.val - 8))
        + y ⟨16 + (u.val - 8), by omega⟩ * Ideal.sin (angle (colWord l) (u.val - 8)))
      = turnAt y l ⟨16 + u.val, by omega⟩ := by
  have hu := u.isLt
  unfold turnAt laneAngle
  rw [if_neg (c := 16 + u.val < 16) (by omega)]
  by_cases h : u.val < 8
  · rw [dif_pos h, if_pos (by show (16 + u.val) % 16 < 8; omega)]
    have e : (16 + u.val) % 8 = u.val := by omega
    have p : perm ⟨16 + u.val, by omega⟩ = ⟨16 + (8 + u.val), by omega⟩ :=
      Fin.ext ((if_pos (by show (16 + u.val) % 16 < 8; omega)).trans (by show 16 + u.val + 8 = 16 + (8 + u.val); omega))
    rw [p, e]
  · rw [dif_neg h, if_neg (by show ¬(16 + u.val) % 16 < 8; omega)]
    have e : (16 + u.val) % 8 = u.val - 8 := by omega
    have p : perm ⟨16 + u.val, by omega⟩ = ⟨16 + (u.val - 8), by omega⟩ :=
      Fin.ext ((if_neg (by show ¬(16 + u.val) % 16 < 8; omega)).trans (by show 16 + u.val - 8 = 16 + (u.val - 8); omega))
    have q : (⟨16 + (8 + (u.val - 8)), by omega⟩ : Fin 32) = ⟨16 + u.val, by omega⟩ :=
      Fin.ext (by show 16 + (8 + (u.val - 8)) = 16 + u.val; omega)
    rw [p, q, e]

/-- A lane of the whole turn is one of a half's. -/
theorem turn_join (c : Fin 32) {a : c.val < 16 → EReal} {b : ¬c.val < 16 → EReal}
    (ha : (h : c.val < 16) → a h = turnAt y l ⟨(⟨c.val, h⟩ : Fin 16).val, by omega⟩)
    (hb : (h : ¬c.val < 16) → b h = turnAt y l ⟨16 + (⟨c.val - 16, by omega⟩ : Fin 16).val, by omega⟩) :
    (if h : c.val < 16 then a h else b h) = turnAt y l c := by
  by_cases h : c.val < 16
  · rw [dif_pos h, ha h]
  · rw [dif_neg h, hb h]
    exact congrArg (turnAt y l) (Fin.ext (by show 16 + (c.val - 16) = c.val; omega))

/-! The angle of a lane, an eighth at a time. -/

/-- A lane of the first eight has the row's angle; -/
theorem lane_row (j : ℕ) (h : j < 8) : angle (rowWord l) j = laneAngle l j := by
  unfold laneAngle
  rw [if_pos (by omega), Nat.mod_eq_of_lt h]

/-- so has one of the second eight; -/
theorem lane_row' (j : ℕ) (h : ¬j < 8) (h' : j < 16) : angle (rowWord l) (j - 8) = laneAngle l j := by
  unfold laneAngle
  rw [if_pos h']
  exact congrArg _ (by omega)

/-- one of the third eight has the column's angle, -/
theorem lane_col (j : ℕ) (h : ¬j < 16) (h' : j - 16 < 8) : angle (colWord l) (j - 16) = laneAngle l j := by
  unfold laneAngle
  rw [if_neg h]
  exact congrArg _ (by omega)

/-- and so has one of the last eight. -/
theorem lane_col' (j : ℕ) (h : ¬j < 16) (h' : ¬j - 16 < 8) (h'' : j < 32) : angle (colWord l) (j - 16 - 8) = laneAngle l j := by
  unfold laneAngle
  rw [if_neg h]
  exact congrArg _ (by omega)

end Cert.Project
-- ==== Proof.Proj.Body.lean ====
module

public import proofs.«01_k».proof.Proof.Proj.Turn
public import proofs.«01_k».proof.Proof.Gen.ProjIdeal.Value
public import Idealize.ShloMosaic.Lib.Pointwise

/-! # What one block computes, entry by entry -/

@[expose] public section
set_option maxRecDepth 16384
noncomputable section

namespace Cert.Project
open Idealize.ShloMosaic Cert.ProjIdeal Cert.ProjIdeal.Gen

/-- A row of the normed and modulated block times a column of the extended weight. -/
theorem pay5_apply (P0 : Vec Ideal S256x1024 .f32) (P1 : Vec Ideal S1x6x1024 .f32) (P2 : Vec Ideal S1x1024 .f32)
    (P3 : Vec Ideal S1024x1472 .bf16) (r : Fin 256) (j : Fin 1472) :
    k0_pay5 P0 P1 P2 P3 (ix2 r j) = ∑ k : Fin 1024, modulate (fun k => P0 (ix2 r k)) (fun k => P2 (ix2 0 k))
      (fun k => P1 (ix3 0 1 k)) (fun k => P1 (ix3 0 0 k)) k * P3 (ix2 k j) := by
  pointwise [k0_pay5]
  rfl

/-- The block's query columns: the normed latent query times the extended weight. -/
theorem pay23_apply (p : FVec Ideal S256x1472 .f32) (P4 : Vec Ideal S1x256 .f32) (P5 : Vec Ideal S256x2048 .bf16)
    (r : Fin 256) (l : Fin 2048) :
    k0_pay23 (k0_pay21 p) (k0_pay22 P4) P5 (ix2 r l)
      = ∑ k : Fin 256, nrm (fun j : Fin 256 => p (ix2 r ⟨1024 + j.val, by omega⟩)) nQuery (fun j => P4 (ix2 0 j)) k * P5 (ix2 k l) := by
  pointwise [k0_pay23, k0_pay21, k0_pay22]
  rfl

/-- The latent key and value, normed; then the rotary key, turned by the tables. -/
theorem pay40_lat (p : FVec Ideal S256x1472 .f32) (P4 : Vec Ideal S1x128 .f32) (P5 P6 : Vec Ideal S256x32 .f32)
    (r : Fin 256) (c : Fin 128) : k0_pay40 p P4 P5 P6 (ix2 r ⟨c.val, by omega⟩)
      = nrm (fun j : Fin 128 => p (ix2 r ⟨1280 + j.val, by omega⟩)) nKey (fun j => P4 (ix2 0 j)) c := by
  pointwise [k0_pay40, k0_pay37, k0_pay38]
  rfl

/-- The rotary part. -/
theorem pay40_rot (p : FVec Ideal S256x1472 .f32) (P4 : Vec Ideal S1x128 .f32) (P5 P6 : Vec Ideal S256x32 .f32)
    (r : Fin 256) (c : Fin 32) : k0_pay40 p P4 P5 P6 (ix2 r ⟨128 + c.val, by omega⟩)
      = p (ix2 r ⟨1408 + c.val, by omega⟩) * P5 (ix2 r c) + p (ix2 r ⟨1440 + c.val, by omega⟩) * P6 (ix2 r c) := by
  pointwise [k0_pay40, k0_pay37, k0_pay38]

/-- The expanded keys. -/
theorem pay41_apply (p : FVec Ideal S256x1472 .f32) (P4 : Vec Ideal S1x128 .f32) (P5 P6 : Vec Ideal S256x32 .f32)
    (P7 : Vec Ideal S160x1024 .bf16) (r : Fin 256) (l : Fin 1024) :
    k0_pay41 p P4 P5 P6 P7 (ix2 r l) = ∑ k : Fin 160, k0_pay40 p P4 P5 P6 (ix2 r k) * P7 (ix2 k l) := by
  pointwise [k0_pay41]

/-- The latent part alone, and the expanded values. -/
theorem pay42_apply (p : FVec Ideal S256x1472 .f32) (P4 : Vec Ideal S1x128 .f32) (P5 P6 : Vec Ideal S256x32 .f32)
    (r : Fin 256) (j : Fin 128) : k0_pay42 p P4 P5 P6 (ix2 r j) = k0_pay40 p P4 P5 P6 (ix2 r ⟨j.val, by omega⟩) := by
  pointwise [k0_pay42]

/-- The values: the latent part times the value weight. -/
theorem pay44_apply (q : FVec Ideal S256x128 .bf16) (P7 : Vec Ideal S128x512 .bf16) (r : Fin 256) (l : Fin 512) :
    k0_pay44 q (k0_pay43 P7) (constant S256x512 .f32 0x00000000#32) (ix2 r l) = ∑ k : Fin 128, q (ix2 r k) * P7 (ix2 k l) := by
  pointwise [k0_pay44, k0_pay43]

/-- What the cache keeps: the latent part, and the rotary key's columns as they are. -/
theorem pay39_lat (p : FVec Ideal S256x1472 .f32) (P4 : Vec Ideal S1x128 .f32) (r : Fin 256) (c : Fin 128) :
    k0_pay39 p P4 (ix2 r ⟨c.val, by omega⟩)
      = nrm (fun j : Fin 128 => p (ix2 r ⟨1280 + j.val, by omega⟩)) nKey (fun j => P4 (ix2 0 j)) c := by
  pointwise [k0_pay39, k0_pay37, k0_pay38]
  rfl

/-- The rotary key's columns. -/
theorem pay39_rot (p : FVec Ideal S256x1472 .f32) (P4 : Vec Ideal S1x128 .f32) (r : Fin 256) (c : Fin 32) :
    k0_pay39 p P4 (ix2 r ⟨128 + c.val, by omega⟩) = p (ix2 r ⟨1408 + c.val, by omega⟩) := by
  pointwise [k0_pay39, k0_pay37, k0_pay38]

end Cert.Project
-- ==== Proof.Proj.Tables.lean ====
module

public import proofs.«01_k».proof.Proof.Proj.Turn
public import proofs.«01_k».proof.Proof.Gen.ProjIdeal.Frame
public import Idealize.ShloMosaic.Lib.Pointwise
public import Idealize.ShloMosaic.Lib.StableHlo.ReadAt

/-! # What the launch finds in its prepared arrays -/

@[expose] public section
set_option maxRecDepth 16384
noncomputable section

namespace Cert.Project
open Idealize.ShloMosaic Idealize.ShloMosaic.TcCoe Idealize.SL.Sem Cert.ProjIdeal Cert.ProjIdeal.Gen

/-- Columns of a matrix, by number. -/
theorem gather_cols {α : Type} (x : S1024x1440.Idx → α) (idx : IVec S32x1 32) (k : Fin 1024) (c : Fin 32) (j : Fin 1440)
    (hj : (idx (ix2 c (0 : Fin 1))).toInt = j.val) :
    Host.gather gather_S1024x1440_S32x1_S1024x32_0_1_n_n_1_1_10241 x idx (ix2 k c) = x (ix2 k j) := by
  unfold Host.gather
  refine congrArg x (funext fun a => Fin.ext ?_)
  show (gather_S1024x1440_S32x1_S1024x32_0_1_n_n_1_1_10241).start (ix2 k c) idx a
    + (gather_S1024x1440_S32x1_S1024x32_0_1_n_n_1_1_10241).batchCoord (ix2 k c) a
    + (gather_S1024x1440_S32x1_S1024x32_0_1_n_n_1_1_10241).offCoord (ix2 k c) a = _
  rw [GatherDims.batchCoord_eq_zero _ _ _ (fun h => by cases h), Nat.add_zero]
  match a with
  | ⟨0, _⟩ =>
    refine (congrArg₂ (· + ·) (dif_neg fun h => Fin.ne_of_val_ne (by simp) (List.mem_singleton.1 h))
      (dif_pos ((GatherDims.mem_sKept _ _).2 ⟨fun e => Fin.ne_of_val_ne (by simp) (List.mem_singleton.1 e), fun e => by cases e⟩))).trans ?_
    exact Nat.zero_add k.val
  | ⟨1, _⟩ =>
    rw [GatherDims.offCoord_eq_zero _ _ _ (fun h => ((GatherDims.mem_sKept _ _).1 h).1 (List.mem_singleton.2 rfl)), Nat.add_zero]
    refine (dif_pos (List.mem_singleton.2 rfl)).trans ?_
    have hl := j.isLt
    refine (congrArg (fun v : BitVec 32 => min v.toInt.toNat 1439) (congrArg idx (?_ : _ = ix2 c (0 : Fin 1)))).trans ?_
    · funext b'
      refine Fin.ext ?_
      match b' with
      | ⟨0, _⟩ => rfl
      | ⟨1, _⟩ => rfl
    · show min (idx (ix2 c (0 : Fin 1))).toInt.toNat 1439 = j.val
      rw [hj]
      omega

/-- Lanes of every head, by number. -/
theorem gather_lanes {α : Type} (x : S256x8x96.Idx → α) (idx : IVec S32x1 32) (k : Fin 256) (h : Fin 8) (c : Fin 32) (j : Fin 96)
    (hj : (idx (ix2 c (0 : Fin 1))).toInt = j.val) :
    Host.gather gather_S256x8x96_S32x1_S256x8x32_01_2_n_n_2_1_25681 x idx (ix3 k h c) = x (ix3 k h j) := by
  unfold Host.gather
  refine congrArg x (funext fun a => Fin.ext ?_)
  show (gather_S256x8x96_S32x1_S256x8x32_01_2_n_n_2_1_25681).start (ix3 k h c) idx a
    + (gather_S256x8x96_S32x1_S256x8x32_01_2_n_n_2_1_25681).batchCoord (ix3 k h c) a
    + (gather_S256x8x96_S32x1_S256x8x32_01_2_n_n_2_1_25681).offCoord (ix3 k h c) a = _
  rw [GatherDims.batchCoord_eq_zero _ _ _ (fun h => by cases h), Nat.add_zero]
  match a with
  | ⟨0, _⟩ =>
    refine (congrArg₂ (· + ·) (dif_neg fun h => Fin.ne_of_val_ne (by simp) (List.mem_singleton.1 h))
      (dif_pos ((GatherDims.mem_sKept _ _).2 ⟨fun e => Fin.ne_of_val_ne (by simp) (List.mem_singleton.1 e), fun e => by cases e⟩))).trans ?_
    exact Nat.zero_add k.val
  | ⟨1, _⟩ =>
    refine (congrArg₂ (· + ·) (dif_neg fun h => Fin.ne_of_val_ne (by simp) (List.mem_singleton.1 h))
      (dif_pos ((GatherDims.mem_sKept _ _).2 ⟨fun e => Fin.ne_of_val_ne (by simp) (List.mem_singleton.1 e), fun e => by cases e⟩))).trans ?_
    exact Nat.zero_add h.val
  | ⟨2, _⟩ =>
    rw [GatherDims.offCoord_eq_zero _ _ _ (fun h => ((GatherDims.mem_sKept _ _).1 h).1 (List.mem_singleton.2 rfl)), Nat.add_zero]
    refine (dif_pos (List.mem_singleton.2 rfl)).trans ?_
    have hl := j.isLt
    refine (congrArg (fun v : BitVec 32 => min v.toInt.toNat 95) (congrArg idx (?_ : _ = ix2 c (0 : Fin 1)))).trans ?_
    · funext b'
      refine Fin.ext ?_
      match b' with
      | ⟨0, _⟩ => rfl
      | ⟨1, _⟩ => rfl
    · show min (idx (ix2 c (0 : Fin 1))).toInt.toNat 95 = j.val
      rw [hj]
      omega

/-- The words of the gathered run of columns name the rotary key's columns, partners changed; -/
theorem cols_word (c : Fin 32) : ((broadcastInDim S32x1 ![0] bcast_S32_S32x1_0
        (select (constantI S32 1 0#1)
          (addi (fun i => lit1 (S32.rowMajor i)) (broadcastInDim S32 ![] bcast_S_S32 (constantI S_ 32 1440#32)))
          fun i => lit1 (S32.rowMajor i))) (ix2 c (0 : Fin 1)) : BitVec 32).toInt = ((1408 + (perm c).val : ℕ) : ℤ) := by
  revert c
  decide

/-- those of the gathered lanes of a head name the head's rotary lanes, partners changed. -/
theorem heads_word (c : Fin 32) : ((broadcastInDim S32x1 ![0] bcast_S32_S32x1_0
        (select (constantI S32 1 0#1)
          (addi (fun i => lit0 (S32.rowMajor i)) (broadcastInDim S32 ![] bcast_S_S32 (constantI S_ 32 96#32)))
          fun i => lit0 (S32.rowMajor i))) (ix2 c (0 : Fin 1)) : BitVec 32).toInt = ((64 + (perm c).val : ℕ) : ℤ) := by
  revert c
  decide

variable (m : (ℓ : Loc nD τ sig) → Buf (Elt Ideal) ℓ) (c : Dev nD)

/-- The first table: one on the context's rows, and the lane's cosine on the others. -/
theorem ck_apply (k : Fin 2304) (j : Fin 32) : (V m c main_v38 : S2304x32.Idx → EReal) (ix2 k j)
    = if k.val < 256 then 1 else Ideal.cos (laneAngle (k.val - 256) j.val) := by
  unfold V
  after_reads_at
  by_cases h : k.val < 256
  · rw [dif_pos h, if_pos h]
  · rw [dif_neg h, if_neg h]
    by_cases h1 : j.val < 16
    · rw [dif_pos h1]
      after_reads_at
      by_cases h2 : j.val < 8
      · rw [dif_pos h2]
        exact congrArg Ideal.cos (lane_row (k.val - 256) j.val h2)
      · rw [dif_neg h2]
        exact congrArg Ideal.cos (lane_row' (k.val - 256) j.val h2 h1)
    · rw [dif_neg h1]
      after_reads_at
      by_cases h2 : j.val - 16 < 8
      · rw [dif_pos h2]
        exact congrArg Ideal.cos (lane_col (k.val - 256) j.val h1 h2)
      · rw [dif_neg h2]
        exact congrArg Ideal.cos (lane_col' (k.val - 256) j.val h1 h2 j.isLt)

/-- The query's first table: the cosines on the rotary lanes, one elsewhere. -/
theorem cq_apply (k : Fin 2304) (d : Fin 128) : (V m c main_v43 : S2304x128.Idx → EReal) (ix2 k d)
    = (if h : 64 ≤ d.val ∧ d.val < 96 then (V m c main_v38 : S2304x32.Idx → EReal) (ix2 k ⟨d.val - 64, by omega⟩) else 1 : EReal) := by
  obtain ⟨a, ha⟩ : ∃ a, a = (V m c main_v38 : S2304x32.Idx → EReal) := ⟨_, rfl⟩
  rw [← ha]
  unfold V
  after_reads_at
  by_cases h1 : d.val < 64
  · rw [dif_pos h1, dif_neg (show ¬(64 ≤ d.val ∧ d.val < 96) by omega)]
    after_reads_at
  · rw [dif_neg h1]
    by_cases h2 : d.val - 64 < 32
    · rw [dif_pos h2, dif_pos (show 64 ≤ d.val ∧ d.val < 96 by omega), ha]
      refine congrFun ?_ _
      unfold V
      after_reads_simp
    · rw [dif_neg h2, dif_neg (show ¬(64 ≤ d.val ∧ d.val < 96) by omega)]
      after_reads_at

/-- The query's second table: the signed sines on the rotary lanes, zero elsewhere. -/
theorem sq_apply (k : Fin 2304) (d : Fin 128) : (V m c main_v46 : S2304x128.Idx → EReal) (ix2 k d)
    = (if h : 64 ≤ d.val ∧ d.val < 96 then (V m c main_v40 : S2304x32.Idx → EReal) (ix2 k ⟨d.val - 64, by omega⟩) else 0 : EReal) := by
  obtain ⟨a, ha⟩ : ∃ a, a = (V m c main_v40 : S2304x32.Idx → EReal) := ⟨_, rfl⟩
  rw [← ha]
  unfold V
  after_reads_at
  by_cases h1 : d.val < 64
  · rw [dif_pos h1, dif_neg (show ¬(64 ≤ d.val ∧ d.val < 96) by omega)]
    after_reads_at
  · rw [dif_neg h1]
    by_cases h2 : d.val - 64 < 32
    · rw [dif_pos h2, dif_pos (show 64 ≤ d.val ∧ d.val < 96 by omega), ha]
      refine congrFun ?_ _
      unfold V
      after_reads_simp
    · rw [dif_neg h2, dif_neg (show ¬(64 ≤ d.val ∧ d.val < 96) by omega)]
      after_reads_at

/-- The extended `w_in`: first `w_in` itself; -/
theorem win_apply (k : Fin 1024) (j : Fin 1440) : (V m c main_v88 : S1024x1472.Idx → EReal) (ix2 k ⟨j.val, by omega⟩)
    = (m ((c : Thread nD τ).loc main_arg3) : S1024x1440.Idx → EReal) (ix2 k j) := by
  unfold V
  after_reads_at
  after_reads_at

/-- then the rotary key's columns again, partners changed. -/
theorem win_swap (k : Fin 1024) (j : Fin 32) : (V m c main_v88 : S1024x1472.Idx → EReal) (ix2 k ⟨1440 + j.val, by omega⟩)
    = (m ((c : Thread nD τ).loc main_arg3) : S1024x1440.Idx → EReal) (ix2 k ⟨1408 + (perm j).val, by omega⟩) := by
  unfold V
  after_reads_at
  exact gather_cols _ _ k j _ (cols_word j)

/-- The extended query weight: first every head's 96 columns, padded by zeros to 128. -/
theorem wq_apply (k : Fin 256) (h : Fin 8) (d : Fin 128) :
    (V m c main_v60 : S256x2048.Idx → EReal) (ix2 k ⟨128 * h.val + d.val, by omega⟩)
      = (if hd : d.val < 96 then
          (m ((c : Thread nD τ).loc main_arg5) : S256x768.Idx → EReal) (ix2 k ⟨96 * h.val + d.val, by omega⟩) else 0 : EReal) := by
  unfold V
  after_reads_at
  rw [dif_pos (show 128 * h.val + d.val < 1024 by omega)]
  after_reads_at
  by_cases hd : d.val < 96
  · rw [dif_pos hd, dif_pos hd]
    after_reads_at
    refine congrArg _ (congrArg (ix2 k) (Fin.ext ?_))
    show h.val * 96 + d.val = 96 * h.val + d.val
    omega
  · rw [dif_neg hd, dif_neg hd]
    after_reads_at

/-- The value weight: the last 64 columns of every head. -/
theorem wv_apply (k : Fin 128) (h : Fin 8) (d : Fin 64) : (V m c main_v81 : S128x512.Idx → EReal) (ix2 k ⟨64 * h.val + d.val, by omega⟩)
    = (m ((c : Thread nD τ).loc main_arg7) : S128x1024.Idx → EReal) (ix2 k ⟨128 * h.val + 64 + d.val, by omega⟩) := by
  unfold V
  after_reads_at
  refine congrArg _ (congrArg (ix2 k) (Fin.ext ?_))
  show (64 * h.val + d.val) / 64 * 128 + (64 + (64 * h.val + d.val) % 64) = 128 * h.val + 64 + d.val
  omega

end Cert.Project
-- ==== Proof.Proj.Tile.lean ====
module

public import Idealize.ShloMosaic.Lib.Pointwise

/-! # Indices of tiles

Where an entry of a block lies in the whole array, for the three ways the blocks of the projections lie: a block that is the
whole matrix, a block of 256 rows of a matrix, and one tile of an array of 48 tiles. `o` is the block's offset, counted in blocks. -/

@[expose] public section
noncomputable section

namespace Cert.Project
open Idealize.ShloMosaic

/-- In a block that is the whole matrix an entry keeps its place. -/
theorem whole2 {A B : ℕ} {z : (⟨2, ![A, B]⟩ : Shape).Idx} {o : Fin 2 → ℕ} (ho : o = ![0, 0]) (r : Fin A) (k : Fin B)
    (h0 : (z 0).val = o 0 * A + 1 * r.val) (h1 : (z 1).val = o 1 * B + 1 * k.val) : z = ix2 r k := by
  subst ho
  funext a
  apply Fin.ext
  match a with
  | ⟨0, _⟩ => exact h0.trans (by simp)
  | ⟨1, _⟩ => exact h1.trans (by simp)

/-- Row `r` of the `i`-th block of 256 rows is row `256 i + r`. -/
theorem rows2 {A B i : ℕ} {z : (⟨2, ![A, B]⟩ : Shape).Idx} {o : Fin 2 → ℕ} (ho : o = ![i, 0]) (r : Fin 256) (k : Fin B)
    (hi : 256 * i + r.val < A) (h0 : (z 0).val = o 0 * 256 + 1 * r.val) (h1 : (z 1).val = o 1 * B + 1 * k.val) :
    z = ix2 ⟨256 * i + r.val, hi⟩ k := by
  subst ho
  funext a
  apply Fin.ext
  match a with
  | ⟨0, _⟩ => exact h0.trans (by show i * 256 + 1 * r.val = 256 * i + r.val; omega)
  | ⟨1, _⟩ => exact h1.trans (by simp)

/-- Every index of a matrix lies in the block of its row. -/
theorem cover2 {A B : ℕ} (z : (⟨2, ![A, B]⟩ : Shape).Idx) {o : Fin 2 → ℕ} (ho : o = ![(z 0).val / 256, 0]) (a : Fin 2) :
    o a * ![256, B] a ≤ (z a).val ∧ (z a).val < o a * ![256, B] a + ![256, B] a := by
  subst ho
  have h1 : (z 1).val < B := (z 1).isLt
  match a with
  | ⟨0, _⟩ =>
    show (z 0).val / 256 * 256 ≤ (z 0).val ∧ (z 0).val < (z 0).val / 256 * 256 + 256
    omega
  | ⟨1, _⟩ =>
    show 0 * B ≤ (z 1).val ∧ (z 1).val < 0 * B + B
    omega

/-- What agrees with `g` on the rows of a block is `g` read through the block. -/
theorem block2 {A B i : ℕ} {f : (⟨2, ![256, B]⟩ : Shape).Idx → EReal} {g : (⟨2, ![A, B]⟩ : Shape).Idx → EReal}
    {e : (⟨2, ![256, B]⟩ : Shape).Idx → (⟨2, ![A, B]⟩ : Shape).Idx} {o : Fin 2 → ℕ} (ho : o = ![i, 0])
    (hi : ∀ r : Fin 256, 256 * i + r.val < A) (h0 : ∀ y, (e y 0).val = o 0 * 256 + 1 * (y 0).val)
    (h1 : ∀ y, (e y 1).val = o 1 * B + 1 * (y 1).val) (h : ∀ r k, f (ix2 r k) = g (ix2 ⟨256 * i + r.val, hi r⟩ k)) (y) :
    f y = g (e y) := by
  obtain ⟨r, k, rfl⟩ : ∃ (r : Fin 256) (k : Fin B), y = ix2 r k := ⟨y 0, y 1, eq_ix2 y⟩
  exact (h r k).trans (congrArg g (rows2 ho r k (hi r) (h0 _) (h1 _)).symm)

/-- Every index of an array of tiles lies in the tile of its first coordinate. -/
theorem cover4 {H D : ℕ} (z : (⟨4, ![48, H, 256, D]⟩ : Shape).Idx) {o : Fin 4 → ℕ} (ho : o = ![(z 0).val, 0, 0, 0]) (a : Fin 4) :
    o a * ![1, H, 256, D] a ≤ (z a).val ∧ (z a).val < o a * ![1, H, 256, D] a + ![1, H, 256, D] a := by
  subst ho
  have h1 : (z 1).val < H := (z 1).isLt
  have h2 : (z 2).val < 256 := (z 2).isLt
  have h3 : (z 3).val < D := (z 3).isLt
  match a with
  | ⟨0, _⟩ =>
    show (z 0).val * 1 ≤ (z 0).val ∧ (z 0).val < (z 0).val * 1 + 1
    omega
  | ⟨1, _⟩ =>
    show 0 * H ≤ (z 1).val ∧ (z 1).val < 0 * H + H
    omega
  | ⟨2, _⟩ =>
    show 0 * 256 ≤ (z 2).val ∧ (z 2).val < 0 * 256 + 256
    omega
  | ⟨3, _⟩ =>
    show 0 * D ≤ (z 3).val ∧ (z 3).val < 0 * D + D
    omega

/-- What agrees with `g` on tile `i` is `g` read through the tile. -/
theorem block4 {H D : ℕ} {i : Fin 48} {f : (⟨4, ![1, H, 256, D]⟩ : Shape).Idx → EReal}
    {g : (⟨4, ![48, H, 256, D]⟩ : Shape).Idx → EReal}
    {e : (⟨4, ![1, H, 256, D]⟩ : Shape).Idx → (⟨4, ![48, H, 256, D]⟩ : Shape).Idx} {o : Fin 4 → ℕ} (ho : o = ![i.val, 0, 0, 0])
    (h0 : ∀ y, (e y 0).val = o 0 * 1 + 1 * (y 0).val) (h1 : ∀ y, (e y 1).val = o 1 * H + 1 * (y 1).val)
    (h2 : ∀ y, (e y 2).val = o 2 * 256 + 1 * (y 2).val) (h3 : ∀ y, (e y 3).val = o 3 * D + 1 * (y 3).val)
    (h : ∀ b r d, f (ix4 0 b r d) = g (ix4 i b r d)) (y) : f y = g (e y) := by
  obtain ⟨s, b, r, d, rfl⟩ : ∃ (s : Fin 1) (b : Fin H) (r : Fin 256) (d : Fin D), y = ix4 s b r d := ⟨y 0, y 1, y 2, y 3, eq_ix4 y⟩
  obtain rfl : s = 0 := Subsingleton.elim _ _
  subst ho
  refine (h b r d).trans (congrArg g (funext fun a => Fin.ext ?_))
  match a with
  | ⟨0, _⟩ => exact ((h0 _).trans (by show i.val * 1 + 1 * 0 = i.val; omega)).symm
  | ⟨1, _⟩ => exact ((h1 _).trans (by show 0 * H + 1 * b.val = b.val; omega)).symm
  | ⟨2, _⟩ => exact ((h2 _).trans (by show 0 * 256 + 1 * r.val = r.val; omega)).symm
  | ⟨3, _⟩ => exact ((h3 _).trans (by show 0 * D + 1 * d.val = d.val; omega)).symm

end Cert.Project
-- ==== Proof.Proj.Blocks.lean ====
module

public import proofs.«01_k».proof.Proof.Proj.Tables
public import proofs.«01_k».proof.Proof.Proj.Tile
public import proofs.«01_k».proof.Proof.Gen.ProjIdeal.Value

/-! # The blocks a grid point reads

Point `t` of the 48 takes token tile `t`, that tile's row of the modulation, the weights whole, and 256 rows of the four
rotary tables: the first tile of a table for the context's points, and otherwise the tile of the latent places. -/

@[expose] public section
set_option maxRecDepth 16384
noncomputable section

namespace Cert.Project
open Idealize.ShloMosaic Idealize.ShloMosaic.TcCoe Idealize.SL.Sem Cert.ProjIdeal Cert.ProjIdeal.Gen

variable (m : (ℓ : Loc nD τ sig) → Buf (Elt Ideal) ℓ) (c : Dev nD)

/-- The first gain as the launch meets it, one row; -/
theorem gain1_apply (k : Fin 1024) : (V m c main_v89 : S1x1024.Idx → EReal) (ix2 0 k)
    = (m ((c : Thread nD τ).loc main_arg2) : S1024.Idx → EReal) (ix1 k) := by
  unfold V
  after_reads_at

/-- The query norm's gain; -/
theorem gain2_apply (k : Fin 256) : (V m c main_v90 : S1x256.Idx → EReal) (ix2 0 k)
    = (m ((c : Thread nD τ).loc main_arg4) : S256.Idx → EReal) (ix1 k) := by
  unfold V
  after_reads_at

/-- the latent norm's. -/
theorem gain3_apply (k : Fin 128) : (V m c main_v91 : S1x128.Idx → EReal) (ix2 0 k)
    = (m ((c : Thread nD τ).loc main_arg6) : S128.Idx → EReal) (ix1 k) := by
  unfold V
  after_reads_at

/-- The tile of a rotary table that point `t` takes. -/
def rt (t : ℕ) : ℕ := if t < 32 then 0 else 1 + (t - 32) % 8
/-- Its modulation row. -/
def mr (t : ℕ) : ℕ := (t - 24) / 8

/-- Window 0 is at tile `t`; -/
theorem index0 : ∀ t : Fin cfg0.N, win0_0.index t = ![t.val, 0] :=
  (by decide +kernel : ∀ t : Fin grid0.N, win0_0.index t = ![t.val, 0])

/-- window 1 at the tile's modulation row; -/
theorem index1 : ∀ t : Fin cfg0.N, win0_1.index t = ![mr t.val, 0, 0] :=
  (by decide +kernel : ∀ t : Fin grid0.N, win0_1.index t = ![mr t.val, 0, 0])

/-- window 2 at the origin; -/
theorem index2 : ∀ t : Fin cfg0.N, win0_2.index t = ![0, 0] :=
  (by decide +kernel : ∀ t : Fin grid0.N, win0_2.index t = ![0, 0])

/-- window 3 at the origin; -/
theorem index3 : ∀ t : Fin cfg0.N, win0_3.index t = ![0, 0] :=
  (by decide +kernel : ∀ t : Fin grid0.N, win0_3.index t = ![0, 0])

/-- window 4 at the origin; -/
theorem index4 : ∀ t : Fin cfg0.N, win0_4.index t = ![0, 0] :=
  (by decide +kernel : ∀ t : Fin grid0.N, win0_4.index t = ![0, 0])

/-- window 5 at the origin; -/
theorem index5 : ∀ t : Fin cfg0.N, win0_5.index t = ![0, 0] :=
  (by decide +kernel : ∀ t : Fin grid0.N, win0_5.index t = ![0, 0])

/-- window 6 at the origin; -/
theorem index6 : ∀ t : Fin cfg0.N, win0_6.index t = ![0, 0] :=
  (by decide +kernel : ∀ t : Fin grid0.N, win0_6.index t = ![0, 0])

/-- window 7 at the origin; -/
theorem index7 : ∀ t : Fin cfg0.N, win0_7.index t = ![0, 0] :=
  (by decide +kernel : ∀ t : Fin grid0.N, win0_7.index t = ![0, 0])

/-- window 8 at the origin; -/
theorem index8 : ∀ t : Fin cfg0.N, win0_8.index t = ![0, 0] :=
  (by decide +kernel : ∀ t : Fin grid0.N, win0_8.index t = ![0, 0])

/-- window 9 at the table tile of the point; -/
theorem index9 : ∀ t : Fin cfg0.N, win0_9.index t = ![rt t.val, 0] :=
  (by decide +kernel : ∀ t : Fin grid0.N, win0_9.index t = ![rt t.val, 0])

/-- window 10 at the table tile of the point; -/
theorem index10 : ∀ t : Fin cfg0.N, win0_10.index t = ![rt t.val, 0] :=
  (by decide +kernel : ∀ t : Fin grid0.N, win0_10.index t = ![rt t.val, 0])

/-- window 11 at the table tile of the point; -/
theorem index11 : ∀ t : Fin cfg0.N, win0_11.index t = ![rt t.val, 0] :=
  (by decide +kernel : ∀ t : Fin grid0.N, win0_11.index t = ![rt t.val, 0])

/-- window 12 at the table tile of the point. -/
theorem index12 : ∀ t : Fin cfg0.N, win0_12.index t = ![rt t.val, 0] :=
  (by decide +kernel : ∀ t : Fin grid0.N, win0_12.index t = ![rt t.val, 0])

/-- What a point reads of the tokens; -/
theorem blk0_apply (t : Fin cfg0.N) (r : Fin 256) (k : Fin 1024) :
    (iblk m c 0 t : Vec Ideal S256x1024 .f32) (ix2 r k)
      = (m ((c : Thread nD τ).loc main_arg0) : S12288x1024.Idx → EReal)
        (ix2 ⟨256 * t.val + r.val, by have : t.val < 48 := t.isLt; omega⟩ k) := by
  refine Eq.trans ?_ (congrFun (V_main_arg0 m c) _)
  exact congrArg (V m c main_arg0 : S12288x1024.Idx → EReal) (rows2 (index0 t) r k _ rfl rfl)

/-- of the modulation; -/
theorem blk1_apply (t : Fin cfg0.N) (p : Fin 6) (k : Fin 1024) :
    (iblk m c 1 t : Vec Ideal S1x6x1024 .f32) (ix3 0 p k)
      = (m ((c : Thread nD τ).loc main_arg1) : S8x6x1024.Idx → EReal)
        (ix3 ⟨mr t.val, by have : t.val < 48 := t.isLt; unfold mr; omega⟩ p k) := by
  unfold iblk
  rw [View.read_apply]
  show (V m c main_arg1 : S8x6x1024.Idx → EReal) _ = _
  rw [V_main_arg1]
  congr 1
  funext a
  apply Fin.ext
  match a with
  | ⟨0, _⟩ => show win0_1.index t 0 * 1 + 1 * 0 = mr t.val; rw [index1]; simp
  | ⟨1, _⟩ => show win0_1.index t 1 * 6 + 1 * p.val = p.val; rw [index1]; simp
  | ⟨2, _⟩ => show win0_1.index t 2 * 1024 + 1 * k.val = k.val; rw [index1]; simp

/-- of the first gain, the whole; -/
theorem blk2_apply (t : Fin cfg0.N) (r : Fin 1) (k : Fin 1024) :
    (iblk m c 2 t : Vec Ideal S1x1024 .f32) (ix2 r k) = (V m c main_v89 : S1x1024.Idx → EReal) (ix2 r k) :=
  congrArg (V m c main_v89 : S1x1024.Idx → EReal) (whole2 (index2 t) r k rfl rfl)

/-- of the extended `w_in`, the whole; -/
theorem blk3_apply (t : Fin cfg0.N) (r : Fin 1024) (k : Fin 1472) :
    (iblk m c 3 t : Vec Ideal S1024x1472 .bf16) (ix2 r k) = (V m c main_v88 : S1024x1472.Idx → EReal) (ix2 r k) :=
  congrArg (V m c main_v88 : S1024x1472.Idx → EReal) (whole2 (index3 t) r k rfl rfl)

/-- of the query gain, the whole; -/
theorem blk4_apply (t : Fin cfg0.N) (r : Fin 1) (k : Fin 256) :
    (iblk m c 4 t : Vec Ideal S1x256 .f32) (ix2 r k) = (V m c main_v90 : S1x256.Idx → EReal) (ix2 r k) :=
  congrArg (V m c main_v90 : S1x256.Idx → EReal) (whole2 (index4 t) r k rfl rfl)

/-- of the extended query weight, the whole; -/
theorem blk5_apply (t : Fin cfg0.N) (r : Fin 256) (k : Fin 2048) :
    (iblk m c 5 t : Vec Ideal S256x2048 .bf16) (ix2 r k) = (V m c main_v60 : S256x2048.Idx → EReal) (ix2 r k) :=
  congrArg (V m c main_v60 : S256x2048.Idx → EReal) (whole2 (index5 t) r k rfl rfl)

/-- of the latent gain, the whole; -/
theorem blk6_apply (t : Fin cfg0.N) (r : Fin 1) (k : Fin 128) :
    (iblk m c 6 t : Vec Ideal S1x128 .f32) (ix2 r k) = (V m c main_v91 : S1x128.Idx → EReal) (ix2 r k) :=
  congrArg (V m c main_v91 : S1x128.Idx → EReal) (whole2 (index6 t) r k rfl rfl)

/-- of the key weight, the whole; -/
theorem blk7_apply (t : Fin cfg0.N) (r : Fin 160) (k : Fin 1024) :
    (iblk m c 7 t : Vec Ideal S160x1024 .bf16) (ix2 r k) = (V m c main_v78 : S160x1024.Idx → EReal) (ix2 r k) :=
  congrArg (V m c main_v78 : S160x1024.Idx → EReal) (whole2 (index7 t) r k rfl rfl)

/-- of the value weight, the whole; -/
theorem blk8_apply (t : Fin cfg0.N) (r : Fin 128) (k : Fin 512) :
    (iblk m c 8 t : Vec Ideal S128x512 .bf16) (ix2 r k) = (V m c main_v81 : S128x512.Idx → EReal) (ix2 r k) :=
  congrArg (V m c main_v81 : S128x512.Idx → EReal) (whole2 (index8 t) r k rfl rfl)

/-- of the query's first table, its tile; -/
theorem blk9_apply (t : Fin cfg0.N) (r : Fin 256) (k : Fin 128) :
    (iblk m c 9 t : Vec Ideal S256x128 .f32) (ix2 r k)
      = (V m c main_v43 : S2304x128.Idx → EReal) (ix2 ⟨256 * rt t.val + r.val, by unfold rt; split <;> omega⟩ k) :=
  congrArg (V m c main_v43 : S2304x128.Idx → EReal) (rows2 (index9 t) r k _ rfl rfl)

/-- of the query's second table, its tile; -/
theorem blk10_apply (t : Fin cfg0.N) (r : Fin 256) (k : Fin 128) :
    (iblk m c 10 t : Vec Ideal S256x128 .f32) (ix2 r k)
      = (V m c main_v46 : S2304x128.Idx → EReal) (ix2 ⟨256 * rt t.val + r.val, by unfold rt; split <;> omega⟩ k) :=
  congrArg (V m c main_v46 : S2304x128.Idx → EReal) (rows2 (index10 t) r k _ rfl rfl)

/-- of the key's first table, its tile; -/
theorem blk11_apply (t : Fin cfg0.N) (r : Fin 256) (k : Fin 32) :
    (iblk m c 11 t : Vec Ideal S256x32 .f32) (ix2 r k)
      = (V m c main_v38 : S2304x32.Idx → EReal) (ix2 ⟨256 * rt t.val + r.val, by unfold rt; split <;> omega⟩ k) :=
  congrArg (V m c main_v38 : S2304x32.Idx → EReal) (rows2 (index11 t) r k _ rfl rfl)

/-- and of the key's second table, its tile. -/
theorem blk12_apply (t : Fin cfg0.N) (r : Fin 256) (k : Fin 32) :
    (iblk m c 12 t : Vec Ideal S256x32 .f32) (ix2 r k)
      = (V m c main_v40 : S2304x32.Idx → EReal) (ix2 ⟨256 * rt t.val + r.val, by unfold rt; split <;> omega⟩ k) :=
  congrArg (V m c main_v40 : S2304x32.Idx → EReal) (rows2 (index12 t) r k _ rfl rfl)

end Cert.Project
-- ==== Proof.Proj.Sine.lean ====
module

public import proofs.«01_k».proof.Proof.Proj.Tables

/-! # The turning key's sine table -/

@[expose] public section
set_option maxRecDepth 16384
noncomputable section

namespace Cert.Project
open Idealize.ShloMosaic Idealize.ShloMosaic.TcCoe Idealize.SL.Sem Cert.ProjIdeal Cert.ProjIdeal.Gen

variable (m : (ℓ : Loc nD τ sig) → Buf (Elt Ideal) ℓ) (c : Dev nD)

set_option maxHeartbeats 2000000 in
/-- The table of sines as it is laid out: minus the sine on each first half. -/
theorem sk_halves (k : Fin 2304) (j : Fin 32) (h : ¬k.val < 256) : (V m c main_v40 : S2304x32.Idx → EReal) (ix2 k j)
    = (if j.val < 16 then
        (if j.val < 8 then -Ideal.sin (angle (rowWord (k.val - 256)) j.val) else Ideal.sin (angle (rowWord (k.val - 256)) (j.val - 8)))
      else
        (if j.val - 16 < 8 then -Ideal.sin (angle (colWord (k.val - 256)) (j.val - 16))
        else Ideal.sin (angle (colWord (k.val - 256)) (j.val - 16 - 8))) : EReal) := by
  obtain ⟨b1, h1⟩ : ∃ b : EReal, b = Ideal.sin (angle (rowWord (k.val - 256)) j.val) := ⟨_, rfl⟩
  obtain ⟨b2, h2⟩ : ∃ b : EReal, b = Ideal.sin (angle (rowWord (k.val - 256)) (j.val - 8)) := ⟨_, rfl⟩
  obtain ⟨b3, h3⟩ : ∃ b : EReal, b = Ideal.sin (angle (colWord (k.val - 256)) (j.val - 16)) := ⟨_, rfl⟩
  obtain ⟨b4, h4⟩ : ∃ b : EReal, b = Ideal.sin (angle (colWord (k.val - 256)) (j.val - 16 - 8)) := ⟨_, rfl⟩
  by_cases hr : j.val < 16
  · by_cases ha : j.val < 8
    · rw [if_pos hr, if_pos ha, ← h1]
      unfold V
      after_reads_at
      rw [dif_neg h, dif_pos hr]
      after_reads_at
      rw [dif_pos ha, h1]
      unfold angle
      congr 1
    · rw [if_pos hr, if_neg ha, ← h2]
      unfold V
      after_reads_at
      rw [dif_neg h, dif_pos hr]
      after_reads_at
      rw [dif_neg ha, h2]
      unfold angle
      congr 1
  · by_cases ha : j.val - 16 < 8
    · rw [if_neg hr, if_pos ha, ← h3]
      unfold V
      after_reads_at
      rw [dif_neg h, dif_neg hr]
      after_reads_at
      rw [dif_pos ha, h3]
      unfold angle
      congr 1
    · rw [if_neg hr, if_neg ha, ← h4]
      unfold V
      after_reads_at
      rw [dif_neg h, dif_neg hr]
      after_reads_at
      rw [dif_neg ha, h4]
      unfold angle
      congr 1

/-- On the context's rows it is zero. -/
theorem sk_ctx (k : Fin 2304) (j : Fin 32) (h : k.val < 256) : (V m c main_v40 : S2304x32.Idx → EReal) (ix2 k j) = (0 : EReal) := by
  unfold V
  after_reads_at
  rw [dif_pos h]

/-- The table of sines: zero on the context's rows, and minus the lane's sine where the lane is of a first half. -/
theorem sk_apply (k : Fin 2304) (j : Fin 32) : (V m c main_v40 : S2304x32.Idx → EReal) (ix2 k j)
    = (if k.val < 256 then 0 else if j.val % 16 < 8 then -Ideal.sin (laneAngle (k.val - 256) j.val)
      else Ideal.sin (laneAngle (k.val - 256) j.val) : EReal) := by
  by_cases h : k.val < 256
  · rw [if_pos h]
    exact sk_ctx m c k j h
  · rw [if_neg h]
    refine (sk_halves m c k j h).trans ?_
    by_cases h1 : j.val < 16
    · rw [if_pos h1]
      by_cases h2 : j.val < 8
      · rw [if_pos h2, if_pos (by omega), lane_row _ _ h2]
      · rw [if_neg h2, if_neg (by omega), lane_row' _ _ h2 h1]
    · rw [if_neg h1]
      by_cases h2 : j.val - 16 < 8
      · rw [if_pos h2, if_pos (by omega), lane_col _ _ h1 h2]
      · rw [if_neg h2, if_neg (by omega), lane_col' _ _ h1 h2 j.isLt]

end Cert.Project
-- ==== Proof.Proj.QueryWeight.lean ====
module

public import proofs.«01_k».proof.Proof.Proj.Tables

/-! # The query weight with its turned lanes swapped -/

@[expose] public section
set_option maxRecDepth 16384
noncomputable section

namespace Cert.Project
open Idealize.ShloMosaic Idealize.ShloMosaic.TcCoe Idealize.SL.Sem Cert.ProjIdeal Cert.ProjIdeal.Gen

variable (m : (ℓ : Loc nD τ sig) → Buf (Elt Ideal) ℓ) (c : Dev nD)

/-- The second half of the extended query weight: each head's rotary columns again, partners changed, and zeros elsewhere. -/
theorem wq_swap (k : Fin 256) (h : Fin 8) (d : Fin 128) :
    (V m c main_v60 : S256x2048.Idx → EReal) (ix2 k ⟨1024 + (128 * h.val + d.val), by omega⟩)
      = (if hd : 64 ≤ d.val ∧ d.val < 96 then
          (m ((c : Thread nD τ).loc main_arg5) : S256x768.Idx → EReal)
            (ix2 k ⟨96 * h.val + 64 + (perm ⟨d.val - 64, by omega⟩).val, by omega⟩) else 0 : EReal) := by
  unfold V
  after_reads_at
  after_reads_at
  have e1 : (128 * h.val + d.val) / 128 = h.val := by omega
  have e2 : (128 * h.val + d.val) % 128 = d.val := by omega
  by_cases h1 : d.val < 64
  · rw [dif_pos h1, dif_neg (show ¬(64 ≤ d.val ∧ d.val < 96) by omega)]
    after_reads_at
  · rw [dif_neg h1]
    by_cases h2 : d.val < 96
    · rw [dif_pos (show d.val - 64 < 32 by omega), dif_pos (show 64 ≤ d.val ∧ d.val < 96 by omega)]
      after_reads_at
      have hp := (perm ⟨d.val - 64, by omega⟩).isLt
      refine (gather_lanes _ _ k h ⟨d.val - 64, by omega⟩ ⟨64 + (perm ⟨d.val - 64, by omega⟩).val, by omega⟩ (heads_word _)).trans
        (congrArg _ (congrArg (ix2 k) (Fin.ext ?_)))
      show h.val * 96 + (64 + (perm ⟨d.val - 64, by omega⟩).val) = 96 * h.val + 64 + (perm ⟨d.val - 64, by omega⟩).val
      omega
    · rw [dif_neg (show ¬d.val - 64 < 32 by omega), dif_neg (show ¬(64 ≤ d.val ∧ d.val < 96) by omega)]
      after_reads_at

end Cert.Project
-- ==== Proof.Proj.KeyWeight.lean ====
module

public import proofs.«01_k».proof.Proof.Proj.Tables

/-! # The key weight, the rotary lanes passed through -/

@[expose] public section
set_option maxRecDepth 16384
noncomputable section

namespace Cert.Project
open Idealize.ShloMosaic Idealize.ShloMosaic.TcCoe Idealize.SL.Sem Cert.ProjIdeal Cert.ProjIdeal.Gen

variable (m : (ℓ : Loc nD τ sig) → Buf (Elt Ideal) ℓ) (c : Dev nD)

/-- The key weight's first 128 rows: the plain columns of every head, zeros elsewhere. -/
theorem wk_lat (k : Fin 128) (h : Fin 8) (d : Fin 128) :
    (V m c main_v78 : S160x1024.Idx → EReal) (ix2 ⟨k.val, by omega⟩ ⟨128 * h.val + d.val, by omega⟩)
      = (if d.val < 64 then
          (m ((c : Thread nD τ).loc main_arg7) : S128x1024.Idx → EReal) (ix2 k ⟨128 * h.val + d.val, by omega⟩) else 0 : EReal) := by
  unfold V
  after_reads_at
  have e1 : (128 * h.val + d.val) / 128 = h.val := by omega
  have e2 : (128 * h.val + d.val) % 128 = d.val := by omega
  refine (congrArg _ (congrArg₂ (ix3 k) (Fin.ext e1 : _ = h) (Fin.ext e2 : _ = d))).trans ?_
  after_reads_at
  by_cases h1 : d.val < 64
  · refine (dif_pos h1).trans (Eq.trans ?_ (if_pos h1).symm)
    have e : (⟨h.val * 128 + d.val, by omega⟩ : Fin 1024) = ⟨128 * h.val + d.val, by omega⟩ :=
      Fin.ext (by show h.val * 128 + d.val = 128 * h.val + d.val; omega)
    exact congrArg (fun l : Fin 1024 => (m ((c : Thread nD τ).loc main_arg7) : S128x1024.Idx → EReal) (ix2 k l)) e
  · exact (dif_neg h1).trans (if_neg h1).symm

/-- The comparison of two lane numbers. -/
theorem eye_word : ∀ k j : Fin 32, IntOp.cmpi .eq (IntOp.addi (BitVec.ofNat 32 k.val) 0#32) (BitVec.ofNat 32 j.val)
    = if k = j then 1#1 else 0#1 := by
  decide +kernel

/-- The bit one is the number one; -/
theorem word_one : FloatOps.uitofp (F := Ideal) .f32 1#1 = (1 : EReal) := by
  show (((1#1 : BitVec 1).toNat : ℝ) : EReal) = 1
  norm_num

/-- the bit zero is the number zero. -/
theorem word_zero : FloatOps.uitofp (F := Ideal) .f32 0#1 = (0 : EReal) := by
  show (((0#1 : BitVec 1).toNat : ℝ) : EReal) = 0
  norm_num

/-- Its last 32 rows: a one where the row's rotary lane is the column's, zeros elsewhere. -/
theorem wk_rot (k : Fin 32) (h : Fin 8) (d : Fin 128) :
    (V m c main_v78 : S160x1024.Idx → EReal) (ix2 ⟨128 + k.val, by omega⟩ ⟨128 * h.val + d.val, by omega⟩)
      = (if 64 ≤ d.val ∧ d.val < 96 ∧ k.val = d.val - 64 then 1 else 0 : EReal) := by
  unfold V
  after_reads_at
  have e1 : (128 * h.val + d.val) / 128 = h.val := by omega
  have e2 : (128 * h.val + d.val) % 128 = d.val := by omega
  refine (congrArg _ (congrArg₂ (ix3 k) (Fin.ext e1 : _ = h) (Fin.ext e2 : _ = d))).trans ?_
  after_reads_at
  by_cases h1 : d.val < 64
  · rw [dif_pos h1, if_neg (show ¬(64 ≤ d.val ∧ d.val < 96 ∧ k.val = d.val - 64) by omega)]
    after_reads_at
  · rw [dif_neg h1]
    by_cases h2 : d.val < 96
    · rw [dif_pos (show d.val - 64 < 32 by omega)]
      obtain ⟨j, hj⟩ : ∃ j : Fin 32, j.val = d.val - 64 := ⟨⟨d.val - 64, by omega⟩, rfl⟩
      refine (congrArg _ (congrArg (ix2 k) (Fin.ext hj.symm : _ = j))).trans ?_
      after_reads_at
      refine (congrArg (FloatOps.uitofp (F := Ideal) .f32) (eye_word k j)).trans ?_
      by_cases hk : k = j
      · rw [if_pos hk, if_pos ⟨by omega, h2, by rw [hk]; exact hj⟩]
        exact word_one
      · rw [if_neg hk, if_neg fun e => hk (Fin.ext (e.2.2.trans hj.symm))]
        exact word_zero
    · rw [dif_neg (show ¬d.val - 64 < 32 by omega),
        if_neg (show ¬(64 ≤ d.val ∧ d.val < 96 ∧ k.val = d.val - 64) by omega)]
      after_reads_at

end Cert.Project
-- ==== Proof.Proj.Combine.lean ====
module

public import proofs.«01_k».proof.Proof.Proj.Body
public import proofs.«01_k».proof.Proof.Proj.Blocks
public import proofs.«01_k».proof.Proof.Proj.Sine
public import proofs.«01_k».proof.Proof.Proj.QueryWeight
public import proofs.«01_k».proof.Proof.Proj.KeyWeight

/-! # A point's columns are the projections of its tokens -/

@[expose] public section
set_option maxRecDepth 16384
noncomputable section

namespace Cert.Project
open Idealize.ShloMosaic Idealize.ShloMosaic.TcCoe Idealize.SL.Sem Cert.ProjIdeal Cert.ProjIdeal.Gen

variable (m : (ℓ : Loc nD τ sig) → Buf (Elt Ideal) ℓ) (c : Dev nD)

/-! The arguments of the launch. -/

/-- The launch's arguments: the tokens, -/
abbrev ax : S12288x1024.Idx → EReal := m ((c : Thread nD τ).loc main_arg0)

/-- the modulation, -/
abbrev am : S8x6x1024.Idx → EReal := m ((c : Thread nD τ).loc main_arg1)

/-- the first norm's gain, -/
abbrev ag : S1024.Idx → EReal := m ((c : Thread nD τ).loc main_arg2)

/-- `w_in`, -/
abbrev aw : S1024x1440.Idx → EReal := m ((c : Thread nD τ).loc main_arg3)

/-- the query norm's gain, -/
abbrev aqg : S256.Idx → EReal := m ((c : Thread nD τ).loc main_arg4)

/-- the query weight, -/
abbrev awq : S256x768.Idx → EReal := m ((c : Thread nD τ).loc main_arg5)

/-- the latent norm's gain -/
abbrev akg : S128.Idx → EReal := m ((c : Thread nD τ).loc main_arg6)

/-- and the weight of keys and values. -/
abbrev awkv : S128x1024.Idx → EReal := m ((c : Thread nD τ).loc main_arg7)

/-- Token `r` of point `t`. -/
def tk (t : Fin cfg0.N) (r : Fin 256) : Fin 12288 := tok ⟨t.val, t.isLt⟩ r

/-- What the point's tokens are after the extended `w_in`. -/
def pb (t : Fin cfg0.N) : FVec Ideal S256x1472 .f32 := k0_pay5 (iblk m c 0 t) (iblk m c 1 t) (iblk m c 2 t) (iblk m c 3 t)

/-- The modulation row of a point's token is the row the point reads. -/
theorem grp_tk (t : Fin cfg0.N) (r : Fin 256) : grp (tk t r) = ⟨mr t.val, by have : t.val < 48 := t.isLt; unfold mr; omega⟩ := by
  have ht : t.val < 48 := t.isLt
  refine Fin.ext ?_
  show (if 256 * t.val + r.val < 8192 then 0 else 1 + (256 * t.val + r.val - 8192) / 2048) = (t.val - 24) / 8
  split <;> omega

/-- A token's row, normed and modulated. -/
theorem row_apply (t : Fin cfg0.N) (r : Fin 256) (k : Fin 1024) :
    modulate (fun k => (iblk m c 0 t : Vec Ideal S256x1024 .f32) (ix2 r k)) (fun k => (iblk m c 2 t : Vec Ideal S1x1024 .f32) (ix2 0 k))
        (fun k => (iblk m c 1 t : Vec Ideal S1x6x1024 .f32) (ix3 0 1 k)) (fun k => (iblk m c 1 t : Vec Ideal S1x6x1024 .f32) (ix3 0 0 k)) k
      = modulate (fun k => ax m c (ix2 (tk t r) k)) (fun k => ag m c (ix1 k)) (fun k => am m c (ix3 (grp (tk t r)) 1 k))
        (fun k => am m c (ix3 (grp (tk t r)) 0 k)) k := by
  have e0 : (fun k => (iblk m c 0 t : Vec Ideal S256x1024 .f32) (ix2 r k)) = fun k => ax m c (ix2 (tk t r) k) :=
    funext fun k => blk0_apply m c t r k
  have e1 : ∀ p : Fin 6, (fun k => (iblk m c 1 t : Vec Ideal S1x6x1024 .f32) (ix3 0 p k)) = fun k => am m c (ix3 (grp (tk t r)) p k) :=
    fun p => funext fun k => (blk1_apply m c t p k).trans (congrArg (fun i : Fin 8 => am m c (ix3 i p k)) (grp_tk t r).symm)
  have e2 : (fun k => (iblk m c 2 t : Vec Ideal S1x1024 .f32) (ix2 0 k)) = fun k => ag m c (ix1 k) :=
    funext fun k => (blk2_apply m c t 0 k).trans (gain1_apply m c k)
  rw [e0, e1, e1, e2]

/-- A column of `w_in` itself; -/
theorem pb_apply (t : Fin cfg0.N) (r : Fin 256) (j : Fin 1440) :
    pb m c t (ix2 r ⟨j.val, by omega⟩) = proj (ax m c) (am m c) (ag m c) (aw m c) (tk t r) j := by
  unfold pb proj
  rw [pay5_apply]
  refine Finset.sum_congr rfl fun k _ => ?_
  exact congrArg₂ (· * ·) (row_apply m c t r k) ((blk3_apply m c t k _).trans (win_apply m c k j))

/-- and of the appended copy of the rotary key's lanes, partners changed. -/
theorem pb_swap (t : Fin cfg0.N) (r : Fin 256) (j : Fin 32) :
    pb m c t (ix2 r ⟨1440 + j.val, by omega⟩) = rotKey (ax m c) (am m c) (ag m c) (aw m c) (tk t r) (perm j) := by
  unfold pb rotKey proj
  rw [pay5_apply]
  refine Finset.sum_congr rfl fun k _ => ?_
  exact congrArg₂ (· * ·) (row_apply m c t r k) ((blk3_apply m c t k _).trans (win_swap m c k j))

/-- One times itself plus zero times its partner, or the cosine times itself plus the signed sine times its partner, is the turn. -/
theorem turn_tables (y : Fin 32 → EReal) (t : Fin cfg0.N) (r : Fin 256) (j : Fin 32) :
    y j * (if 256 * rt t.val + r.val < 256 then 1 else Ideal.cos (laneAngle (256 * rt t.val + r.val - 256) j.val) : EReal)
      + y (perm j) * (if 256 * rt t.val + r.val < 256 then 0 else if j.val % 16 < 8 then
          -Ideal.sin (laneAngle (256 * rt t.val + r.val - 256) j.val)
          else Ideal.sin (laneAngle (256 * rt t.val + r.val - 256) j.val) : EReal)
      = turn y (tk t r).val j := by
  have ht : t.val < 48 := t.isLt
  have hr := r.isLt
  have hv : (tk t r).val = 256 * t.val + r.val := rfl
  unfold turn
  by_cases h : t.val < 32
  · have e : rt t.val = 0 := if_pos h
    rw [if_pos (show 256 * rt t.val + r.val < 256 by omega), if_pos (show 256 * rt t.val + r.val < 256 by omega),
      if_pos (show (tk t r).val < 8192 by omega), mul_one, mul_zero, add_zero]
  · have e : rt t.val = 1 + (t.val - 32) % 8 := if_neg h
    have el : 256 * rt t.val + r.val - 256 = ((tk t r).val - 8192) % 2048 := by omega
    rw [if_neg (show ¬256 * rt t.val + r.val < 256 by omega), if_neg (show ¬256 * rt t.val + r.val < 256 by omega),
      if_neg (show ¬(tk t r).val < 8192 by omega), el]
    unfold turnAt
    by_cases hj : j.val % 16 < 8
    · rw [if_pos hj, if_pos hj, mul_neg, sub_eq_add_neg]
    · rw [if_neg hj, if_neg hj]

/-- The turning key's tables, by the point: the cosines; -/
theorem ck_blk (t : Fin cfg0.N) (r : Fin 256) (j : Fin 32) : (iblk m c 11 t : Vec Ideal S256x32 .f32) (ix2 r j)
    = (if 256 * rt t.val + r.val < 256 then 1 else Ideal.cos (laneAngle (256 * rt t.val + r.val - 256) j.val) : EReal) := by
  rw [blk11_apply, ck_apply]

/-- the signed sines. -/
theorem sk_blk (t : Fin cfg0.N) (r : Fin 256) (j : Fin 32) : (iblk m c 12 t : Vec Ideal S256x32 .f32) (ix2 r j)
    = (if 256 * rt t.val + r.val < 256 then 0 else if j.val % 16 < 8 then
          -Ideal.sin (laneAngle (256 * rt t.val + r.val - 256) j.val)
          else Ideal.sin (laneAngle (256 * rt t.val + r.val - 256) j.val) : EReal) := by
  rw [blk12_apply, sk_apply]

/-- The rotary key, turned. -/
theorem rot_apply (t : Fin cfg0.N) (r : Fin 256) (j : Fin 32) :
    k0_pay40 (pb m c t) (iblk m c 6 t) (iblk m c 11 t) (iblk m c 12 t) (ix2 r ⟨128 + j.val, by omega⟩)
      = turn (rotKey (ax m c) (am m c) (ag m c) (aw m c) (tk t r)) (tk t r).val j := by
  rw [pay40_rot, ck_blk, sk_blk, pb_swap, ← turn_tables]
  congr 2
  exact pb_apply m c t r ⟨1408 + j.val, by omega⟩

/-- The latent key and value, normed. -/
theorem lat_apply (t : Fin cfg0.N) (r : Fin 256) (j : Fin 128) :
    k0_pay40 (pb m c t) (iblk m c 6 t) (iblk m c 11 t) (iblk m c 12 t) (ix2 r ⟨j.val, by omega⟩)
      = latent (ax m c) (am m c) (ag m c) (aw m c) (akg m c) (tk t r) j := by
  rw [pay40_lat]
  unfold latent
  have e1 : (fun j : Fin 128 => pb m c t (ix2 r ⟨1280 + j.val, by omega⟩))
      = fun j : Fin 128 => proj (ax m c) (am m c) (ag m c) (aw m c) (tk t r) ⟨1280 + j.val, by omega⟩ :=
    funext fun j => pb_apply m c t r ⟨1280 + j.val, by omega⟩
  have e2 : (fun j : Fin 128 => (iblk m c 6 t : Vec Ideal S1x128 .f32) (ix2 0 j)) = fun j => akg m c (ix1 j) :=
    funext fun j => (blk6_apply m c t 0 j).trans (gain3_apply m c j)
  rw [e1, e2]

/-- A key lane: a sum over the latent's 128 lanes and the rotary key's 32, which the weight's zeros and ones sort. -/
theorem key_apply (t : Fin cfg0.N) (r : Fin 256) (h : Fin 8) (d : Fin 128) :
    k0_pay41 (pb m c t) (iblk m c 6 t) (iblk m c 11 t) (iblk m c 12 t) (iblk m c 7 t) (ix2 r ⟨128 * h.val + d.val, by omega⟩)
      = keyAt (ax m c) (am m c) (ag m c) (aw m c) (akg m c) (awkv m c) (tk t r) h d := by
  rw [pay41_apply]
  refine (Fin.sum_univ_add (a := 128) (b := 32) _).trans ?_
  have e1 : ∀ k : Fin 128, k0_pay40 (pb m c t) (iblk m c 6 t) (iblk m c 11 t) (iblk m c 12 t) (ix2 r (Fin.castAdd 32 k))
        * (iblk m c 7 t : Vec Ideal S160x1024 .bf16) (ix2 (Fin.castAdd 32 k) ⟨128 * h.val + d.val, by omega⟩)
      = latent (ax m c) (am m c) (ag m c) (aw m c) (akg m c) (tk t r) k
        * (if d.val < 64 then awkv m c (ix2 k ⟨128 * h.val + d.val, by omega⟩) else 0) := fun k =>
    congrArg₂ (· * ·) (lat_apply m c t r k) ((blk7_apply m c t _ _).trans (wk_lat m c k h d))
  have e2 : ∀ k : Fin 32, k0_pay40 (pb m c t) (iblk m c 6 t) (iblk m c 11 t) (iblk m c 12 t) (ix2 r (Fin.natAdd 128 k))
        * (iblk m c 7 t : Vec Ideal S160x1024 .bf16) (ix2 (Fin.natAdd 128 k) ⟨128 * h.val + d.val, by omega⟩)
      = turn (rotKey (ax m c) (am m c) (ag m c) (aw m c) (tk t r)) (tk t r).val k
        * (if 64 ≤ d.val ∧ d.val < 96 ∧ k.val = d.val - 64 then 1 else 0) := fun k =>
    congrArg₂ (· * ·) (rot_apply m c t r k) ((blk7_apply m c t _ _).trans (wk_rot m c k h d))
  rw [Finset.sum_congr rfl fun k _ => e1 k, Finset.sum_congr rfl fun k _ => e2 k]
  unfold keyAt expand
  by_cases h1 : d.val < 64
  · rw [dif_pos h1]
    simp only [if_pos h1]
    refine (congrArg (_ + ·) (Finset.sum_eq_zero fun k _ => ?_)).trans (add_zero _)
    rw [if_neg (by omega), mul_zero]
  · rw [dif_neg h1]
    simp only [if_neg h1, mul_zero, Finset.sum_const_zero, zero_add]
    by_cases h2 : d.val < 96
    · rw [dif_pos h2]
      rw [Finset.sum_eq_single (⟨d.val - 64, by omega⟩ : Fin 32)
        (fun k _ hk => by rw [if_neg (fun e => hk (Fin.ext e.2.2)), mul_zero]) (fun hk => absurd (Finset.mem_univ _) hk),
        if_pos ⟨by omega, h2, rfl⟩, mul_one]
    · rw [dif_neg h2]
      exact Finset.sum_eq_zero fun k _ => by rw [if_neg (by omega), mul_zero]

/-- The plain query columns; -/
theorem query_plain (t : Fin cfg0.N) (r : Fin 256) (h : Fin 8) (d : Fin 128) :
    k0_pay23 (k0_pay21 (pb m c t)) (k0_pay22 (iblk m c 4 t)) (iblk m c 5 t) (ix2 r ⟨128 * h.val + d.val, by omega⟩)
      = if hd : d.val < 96 then query (ax m c) (am m c) (ag m c) (aw m c) (aqg m c) (awq m c) (tk t r) ⟨96 * h.val + d.val, by omega⟩
        else 0 := by
  rw [pay23_apply]
  have e1 : (fun j : Fin 256 => pb m c t (ix2 r ⟨1024 + j.val, by omega⟩))
      = fun j : Fin 256 => proj (ax m c) (am m c) (ag m c) (aw m c) (tk t r) ⟨1024 + j.val, by omega⟩ :=
    funext fun j => pb_apply m c t r ⟨1024 + j.val, by omega⟩
  have e2 : (fun j : Fin 256 => (iblk m c 4 t : Vec Ideal S1x256 .f32) (ix2 0 j)) = fun j => aqg m c (ix1 j) :=
    funext fun j => (blk4_apply m c t 0 j).trans (gain2_apply m c j)
  rw [e1, e2]
  unfold query
  by_cases hd : d.val < 96
  · rw [dif_pos hd]
    refine Finset.sum_congr rfl fun k _ => congrArg _ ?_
    rw [blk5_apply, wq_apply, dif_pos hd]
  · rw [dif_neg hd]
    refine Finset.sum_eq_zero fun k _ => ?_
    rw [blk5_apply, wq_apply, dif_neg hd, mul_zero]

/-- and the copy with the rotary lanes' partners changed. -/
theorem query_swap (t : Fin cfg0.N) (r : Fin 256) (h : Fin 8) (d : Fin 128) :
    k0_pay23 (k0_pay21 (pb m c t)) (k0_pay22 (iblk m c 4 t)) (iblk m c 5 t) (ix2 r ⟨1024 + (128 * h.val + d.val), by omega⟩)
      = if hd : 64 ≤ d.val ∧ d.val < 96 then query (ax m c) (am m c) (ag m c) (aw m c) (aqg m c) (awq m c) (tk t r)
          ⟨96 * h.val + 64 + (perm ⟨d.val - 64, by omega⟩).val, by omega⟩
        else 0 := by
  rw [pay23_apply]
  have e1 : (fun j : Fin 256 => pb m c t (ix2 r ⟨1024 + j.val, by omega⟩))
      = fun j : Fin 256 => proj (ax m c) (am m c) (ag m c) (aw m c) (tk t r) ⟨1024 + j.val, by omega⟩ :=
    funext fun j => pb_apply m c t r ⟨1024 + j.val, by omega⟩
  have e2 : (fun j : Fin 256 => (iblk m c 4 t : Vec Ideal S1x256 .f32) (ix2 0 j)) = fun j => aqg m c (ix1 j) :=
    funext fun j => (blk4_apply m c t 0 j).trans (gain2_apply m c j)
  rw [e1, e2]
  unfold query
  by_cases hd : 64 ≤ d.val ∧ d.val < 96
  · rw [dif_pos hd]
    refine Finset.sum_congr rfl fun k _ => congrArg _ ?_
    rw [blk5_apply, wq_swap, dif_pos hd]
  · rw [dif_neg hd]
    refine Finset.sum_eq_zero fun k _ => ?_
    rw [blk5_apply, wq_swap, dif_neg hd, mul_zero]

/-- The query's tables, by the point: the key's on the rotary lanes, one and zero elsewhere. -/
theorem cq_blk (t : Fin cfg0.N) (r : Fin 256) (d : Fin 128) : (iblk m c 9 t : Vec Ideal S256x128 .f32) (ix2 r d)
    = (if h : 64 ≤ d.val ∧ d.val < 96 then (iblk m c 11 t : Vec Ideal S256x32 .f32) (ix2 r ⟨d.val - 64, by omega⟩) else 1 : EReal) := by
  rw [blk9_apply, cq_apply]
  simp only [blk11_apply]

/-- The second of the query's tables. -/
theorem sq_blk (t : Fin cfg0.N) (r : Fin 256) (d : Fin 128) : (iblk m c 10 t : Vec Ideal S256x128 .f32) (ix2 r d)
    = (if h : 64 ≤ d.val ∧ d.val < 96 then (iblk m c 12 t : Vec Ideal S256x32 .f32) (ix2 r ⟨d.val - 64, by omega⟩) else 0 : EReal) := by
  rw [blk10_apply, sq_apply]
  simp only [blk12_apply]

/-- A query lane. -/
theorem query_apply (t : Fin cfg0.N) (r : Fin 256) (h : Fin 8) (d : Fin 128) :
    k0_pay23 (k0_pay21 (pb m c t)) (k0_pay22 (iblk m c 4 t)) (iblk m c 5 t) (ix2 r ⟨128 * h.val + d.val, by omega⟩)
        * (iblk m c 9 t : Vec Ideal S256x128 .f32) (ix2 r d)
      + k0_pay23 (k0_pay21 (pb m c t)) (k0_pay22 (iblk m c 4 t)) (iblk m c 5 t) (ix2 r ⟨1024 + (128 * h.val + d.val), by omega⟩)
        * (iblk m c 10 t : Vec Ideal S256x128 .f32) (ix2 r d)
      = queryAt (ax m c) (am m c) (ag m c) (aw m c) (aqg m c) (awq m c) (tk t r) h d := by
  rw [query_plain, query_swap, cq_blk, sq_blk]
  unfold queryAt
  by_cases h1 : d.val < 64
  · have hn : ¬(64 ≤ d.val ∧ d.val < 96) := by omega
    rw [dif_pos (show d.val < 96 by omega), dif_neg hn, dif_neg hn, dif_neg hn, dif_pos h1, mul_one, mul_zero, add_zero]
  · rw [dif_neg h1]
    by_cases h2 : d.val < 96
    · have hn : 64 ≤ d.val ∧ d.val < 96 := ⟨by omega, h2⟩
      rw [dif_pos h2, dif_pos hn, dif_pos hn, dif_pos hn, dif_pos h2, ck_blk, sk_blk, ← turn_tables]
      refine congrArg₂ (· + ·) (congrArg (· * _) (congrArg _ (Fin.ext ?_))) rfl
      show 96 * h.val + d.val = 96 * h.val + 64 + (d.val - 64)
      omega
    · have hn : ¬(64 ≤ d.val ∧ d.val < 96) := by omega
      rw [dif_neg h2, dif_neg hn, dif_neg hn, dif_neg hn, dif_neg h2, mul_zero, zero_mul, add_zero]

end Cert.Project
-- ==== Proof.Proj.Out.lean ====
module

public import proofs.«01_k».proof.Proof.Proj.Combine

/-! # The eight blocks a point writes

Each is read at an index, as the payload that computes it: the stores of one window lay the heads' slices side by side. -/

@[expose] public section
set_option maxRecDepth 16384
noncomputable section

namespace Cert.Project
open Idealize.ShloMosaic Idealize.ShloMosaic.TcCoe Idealize.SL.Sem Cert.ProjIdeal Cert.ProjIdeal.Gen

/-- A load through a rectangle that starts at the origin and has the array's size is the array. -/
theorem ld_all {S : Shape} {e : EltTy} (x : Vec Ideal S e) (off : Fin S.rank → ℕ) (inb : ∀ a, off a + S.size a ≤ S.size a) :
    View.ld (Val := Elt Ideal) x (Rect.unit (s := S) off S.size inb) = x := by
  funext y
  refine congrArg x (funext fun a => Fin.ext ?_)
  show off a + 1 * (y a).val = (y a).val
  have := inb a
  omega

variable (x0 : Vec Ideal S256x1024 .f32) (x1 : Vec Ideal S1x6x1024 .f32) (x2 : Vec Ideal S1x1024 .f32)
  (x3 : Vec Ideal S1024x1472 .bf16) (x4 : Vec Ideal S1x256 .f32) (x5 : Vec Ideal S256x2048 .bf16) (x6 : Vec Ideal S1x128 .f32)
  (x7 : Vec Ideal S160x1024 .bf16) (x8 : Vec Ideal S128x512 .bf16) (x9 x10 : Vec Ideal S256x128 .f32)
  (x11 x12 : Vec Ideal S256x32 .f32)

/-- The first 256 columns; -/
theorem out13 (r j : Fin 256) : out0_13 x0 x1 x2 x3 x4 x5 x6 x7 x8 x9 x10 x11 x12 (ix2 r j)
    = k0_pay5 x0 x1 x2 x3 (ix2 r ⟨j.val, by omega⟩) := by
  unfold_out out0_13
  simp only [ld_all]
  refine (Value.canon13_eq ..).trans (congrArg (k0_pay5 x0 x1 x2 x3) (funext fun a => Fin.ext ?_))
  match a with
  | ⟨0, _⟩ => rfl
  | ⟨1, _⟩ => rfl

/-- the next runs of 256, four heads of 64 lanes each: the first run; -/
theorem out14 (h : Fin 4) (r : Fin 256) (d : Fin 64) : out0_14 x0 x1 x2 x3 x4 x5 x6 x7 x8 x9 x10 x11 x12 (ix4 0 h r d)
    = k0_pay5 x0 x1 x2 x3 (ix2 r ⟨256 + 64 * h.val + d.val, by omega⟩) := by
  unfold_out out0_14
  simp only [ld_all]
  refine (Value.canon14_eq ..).trans (congrArg (k0_pay5 x0 x1 x2 x3) (funext fun a => Fin.ext ?_))
  match a with
  | ⟨0, _⟩ => rfl
  | ⟨1, _⟩ => show h.val * 64 + d.val + 256 = 256 + 64 * h.val + d.val; omega

/-- the second run; -/
theorem out15 (h : Fin 4) (r : Fin 256) (d : Fin 64) : out0_15 x0 x1 x2 x3 x4 x5 x6 x7 x8 x9 x10 x11 x12 (ix4 0 h r d)
    = k0_pay5 x0 x1 x2 x3 (ix2 r ⟨512 + 64 * h.val + d.val, by omega⟩) := by
  unfold_out out0_15
  simp only [ld_all]
  refine (Value.canon15_eq ..).trans (congrArg (k0_pay5 x0 x1 x2 x3) (funext fun a => Fin.ext ?_))
  match a with
  | ⟨0, _⟩ => rfl
  | ⟨1, _⟩ => show h.val * 64 + d.val + 512 = 512 + 64 * h.val + d.val; omega

/-- the third; -/
theorem out16 (h : Fin 4) (r : Fin 256) (d : Fin 64) : out0_16 x0 x1 x2 x3 x4 x5 x6 x7 x8 x9 x10 x11 x12 (ix4 0 h r d)
    = k0_pay5 x0 x1 x2 x3 (ix2 r ⟨768 + 64 * h.val + d.val, by omega⟩) := by
  unfold_out out0_16
  simp only [ld_all]
  refine (Value.canon16_eq ..).trans (congrArg (k0_pay5 x0 x1 x2 x3) (funext fun a => Fin.ext ?_))
  match a with
  | ⟨0, _⟩ => rfl
  | ⟨1, _⟩ => show h.val * 64 + d.val + 768 = 768 + 64 * h.val + d.val; omega

/-- the queries: the plain columns times one table plus the partners' columns times the other; -/
theorem out17 (h : Fin 8) (r : Fin 256) (d : Fin 128) : out0_17 x0 x1 x2 x3 x4 x5 x6 x7 x8 x9 x10 x11 x12 (ix4 0 h r d)
    = k0_pay23 (k0_pay21 (k0_pay5 x0 x1 x2 x3)) (k0_pay22 x4) x5 (ix2 r ⟨128 * h.val + d.val, by omega⟩) * x9 (ix2 r d)
      + k0_pay23 (k0_pay21 (k0_pay5 x0 x1 x2 x3)) (k0_pay22 x4) x5 (ix2 r ⟨1024 + (128 * h.val + d.val), by omega⟩) * x10 (ix2 r d) := by
  unfold_out out0_17
  simp only [ld_all]
  refine (Value.canon17_eq ..).trans ?_
  have i0 : Value.ix17_0 (ix4 0 h r d) = ix2 r ⟨128 * h.val + d.val, by omega⟩ := by
    funext a
    match a with
    | ⟨0, _⟩ => rfl
    | ⟨1, _⟩ => exact Fin.ext (by show h.val * 128 + d.val = 128 * h.val + d.val; omega)
  have i1 : Value.ix17_1 (ix4 0 h r d) = ix2 r d := by
    funext a
    match a with
    | ⟨0, _⟩ => rfl
    | ⟨1, _⟩ => rfl
  have i2 : Value.ix17_2 (ix4 0 h r d) = ix2 r ⟨1024 + (128 * h.val + d.val), by omega⟩ := by
    funext a
    match a with
    | ⟨0, _⟩ => rfl
    | ⟨1, _⟩ => exact Fin.ext (by show h.val * 128 + d.val + 1024 = 1024 + (128 * h.val + d.val); omega)
  have i3 : Value.ix17_3 (ix4 0 h r d) = ix2 r d := by
    funext a
    match a with
    | ⟨0, _⟩ => rfl
    | ⟨1, _⟩ => rfl
  rw [← i0, ← i2]
  exact congrArg₂ (· + ·) (congrArg _ (congrArg x9 i1)) (congrArg _ (congrArg x10 i3))

/-- the keys; -/
theorem out18 (h : Fin 8) (r : Fin 256) (d : Fin 128) : out0_18 x0 x1 x2 x3 x4 x5 x6 x7 x8 x9 x10 x11 x12 (ix4 0 h r d)
    = k0_pay41 (k0_pay5 x0 x1 x2 x3) x6 x11 x12 x7 (ix2 r ⟨128 * h.val + d.val, by omega⟩) := by
  unfold_out out0_18
  simp only [ld_all]
  refine (Value.canon18_eq ..).trans (congrArg (k0_pay41 (k0_pay5 x0 x1 x2 x3) x6 x11 x12 x7) (funext fun a => Fin.ext ?_))
  match a with
  | ⟨0, _⟩ => rfl
  | ⟨1, _⟩ => show h.val * 128 + d.val = 128 * h.val + d.val; omega

/-- the values; -/
theorem out19 (h : Fin 8) (r : Fin 256) (d : Fin 64) : out0_19 x0 x1 x2 x3 x4 x5 x6 x7 x8 x9 x10 x11 x12 (ix4 0 h r d)
    = k0_pay44 (k0_pay42 (k0_pay5 x0 x1 x2 x3) x6 x11 x12) (k0_pay43 x8) (constant S256x512 .f32 0x00000000#32)
      (ix2 r ⟨64 * h.val + d.val, by omega⟩) := by
  unfold_out out0_19
  simp only [ld_all]
  refine (Value.canon19_eq ..).trans (congrArg (k0_pay44 (k0_pay42 (k0_pay5 x0 x1 x2 x3) x6 x11 x12) (k0_pay43 x8)
    (constant S256x512 .f32 0x00000000#32)) (funext fun a => Fin.ext ?_))
  match a with
  | ⟨0, _⟩ => rfl
  | ⟨1, _⟩ => show h.val * 64 + d.val = 64 * h.val + d.val; omega

/-- and the cache's rows. -/
theorem out20 (y : S256x160.Idx) : out0_20 x0 x1 x2 x3 x4 x5 x6 x7 x8 x9 x10 x11 x12 y = k0_pay39 (k0_pay5 x0 x1 x2 x3) x6 y := by
  unfold_out out0_20
  simp only [ld_all]
  refine View.canon_apply_of_pieces (Val := Elt Ideal) (k0_pay39 (k0_pay5 x0 x1 x2 x3) x6) _ ?_ y (cover0_20 _ y)
  intro p hp
  rcases List.mem_singleton.1 hp with rfl
  intro x
  refine congrArg (k0_pay39 (k0_pay5 x0 x1 x2 x3) x6) (funext fun a => Fin.ext ?_)
  match a with
  | ⟨0, _⟩ => show (x 0).val = 0 + 1 * (x 0).val; omega
  | ⟨1, _⟩ => show (x 1).val = 0 + 1 * (x 1).val; omega

end Cert.Project
-- ==== Proof.Proj.Array.lean ====
module

public import proofs.«01_k».proof.Proof.Proj.Out

/-! # What the eight result arrays hold

Point `t` writes token tile `t` of every result: rows `256 t` to `256 t + 255` of the two flat arrays, and tile `t` of the
six that are laid out by tiles. The 48 points cover each array, and at every index it holds the projection named for it. -/

@[expose] public section
set_option maxRecDepth 16384
noncomputable section

namespace Cert.Project
open Idealize.ShloMosaic Idealize.ShloMosaic.TcCoe Idealize.SL.Sem Cert.ProjIdeal Cert.ProjIdeal.Gen

variable (m : (ℓ : Loc nD τ sig) → Buf (Elt Ideal) ℓ) (c : Dev nD)

/-- The value lanes: the latent times the value columns of the weight. -/
theorem value_apply (t : Fin cfg0.N) (r : Fin 256) (h : Fin 8) (d : Fin 64) :
    k0_pay44 (k0_pay42 (pb m c t) (iblk m c 6 t) (iblk m c 11 t) (iblk m c 12 t)) (k0_pay43 (iblk m c 8 t))
        (constant S256x512 .f32 0x00000000#32) (ix2 r ⟨64 * h.val + d.val, by omega⟩)
      = valueAt (ax m c) (am m c) (ag m c) (aw m c) (akg m c) (awkv m c) (tk t r) h d := by
  rw [pay44_apply]
  exact Finset.sum_congr rfl fun k _ => congrArg₂ (· * ·) ((pay42_apply ..).trans (lat_apply m c t r k))
    ((blk8_apply m c t k _).trans (wv_apply m c k h d))

/-- The cache's row of a token. -/
theorem cache_apply (t : Fin cfg0.N) (r : Fin 256) (j : Fin 160) :
    k0_pay39 (pb m c t) (iblk m c 6 t) (ix2 r j) = cacheAt (ax m c) (am m c) (ag m c) (aw m c) (akg m c) (tk t r) j := by
  unfold cacheAt
  by_cases hj : j.val < 128
  · rw [dif_pos hj]
    refine Eq.trans ?_ (lat_apply m c t r ⟨j.val, hj⟩)
    exact (pay39_lat _ _ r ⟨j.val, hj⟩).trans (pay40_lat _ _ _ _ r ⟨j.val, hj⟩).symm
  · rw [dif_neg hj]
    have e : j = ⟨128 + (j.val - 128), by omega⟩ := Fin.ext (by show j.val = 128 + (j.val - 128); omega)
    exact (congrArg (fun i : Fin 160 => k0_pay39 (pb m c t) (iblk m c 6 t) (ix2 r i)) e).trans
      ((pay39_rot _ _ r ⟨j.val - 128, by omega⟩).trans (pb_apply m c t r ⟨1408 + (j.val - 128), by omega⟩))

/-! The results, from the launch's arguments. -/

/-- The array of the first 256 columns. -/
abbrev res13 : S12288x256.Idx → EReal := uRes (ax m c) (am m c) (ag m c) (aw m c)

/-- The array of the neighbourhood attention's queries. -/
abbrev res14 : S48x4x256x64.Idx → EReal := naRes (ax m c) (am m c) (ag m c) (aw m c) 0

/-- The array of the neighbourhood attention's keys. -/
abbrev res15 : S48x4x256x64.Idx → EReal := naRes (ax m c) (am m c) (ag m c) (aw m c) 1

/-- The array of the neighbourhood attention's values. -/
abbrev res16 : S48x4x256x64.Idx → EReal := naRes (ax m c) (am m c) (ag m c) (aw m c) 2

/-- The array of the latent attention's queries. -/
abbrev res17 : S48x8x256x128.Idx → EReal := queryRes (ax m c) (am m c) (ag m c) (aw m c) (aqg m c) (awq m c)

/-- The array of the latent attention's keys. -/
abbrev res18 : S48x8x256x128.Idx → EReal := keyRes (ax m c) (am m c) (ag m c) (aw m c) (akg m c) (awkv m c)

/-- The array of the latent attention's values. -/
abbrev res19 : S48x8x256x64.Idx → EReal := valueRes (ax m c) (am m c) (ag m c) (aw m c) (akg m c) (awkv m c)

/-- The array of the cache's rows. -/
abbrev res20 : S12288x160.Idx → EReal := cacheRes (ax m c) (am m c) (ag m c) (aw m c) (akg m c)

/-- The tile number of a point. -/
def tn (t : Fin cfg0.N) : Fin 48 := ⟨t.val, t.isLt⟩

/-- The columns of the point, by their name. -/
theorem pb_fold (t : Fin cfg0.N) : k0_pay5 (iblk m c 0 t) (iblk m c 1 t) (iblk m c 2 t) (iblk m c 3 t) = pb m c t := rfl

/-- A lane of the neighbourhood attention's three arrays is a column after `w_in`. -/
theorem na_apply (t : Fin cfg0.N) (h : Fin 4) (r : Fin 256) (d : Fin 64) (o : Fin 3) (j : Fin 1440)
    (hj : j.val = 256 + 256 * o.val + 64 * h.val + d.val) :
    proj (ax m c) (am m c) (ag m c) (aw m c) (tk t r) j
      = naRes (ax m c) (am m c) (ag m c) (aw m c) o (ix4 (tn t) h r d) :=
  congrArg (proj (ax m c) (am m c) (ag m c) (aw m c) (tk t r)) (Fin.ext hj)

/-! ## The neighbourhood attention's queries. -/

/-- Point `t` writes the neighbourhood attention's queries at its tile. -/
theorem index14 : ∀ t : Fin cfg0.N, win0_14.index t = ![t.val, 0, 0, 0] :=
  (by decide +kernel : ∀ t : Fin grid0.N, win0_14.index t = ![t.val, 0, 0, 0])

/-- What the body computes there is the tile of the neighbourhood attention's queries. -/
theorem block14 (t : Fin cfg0.N) (h : Fin 4) (r : Fin 256) (d : Fin 64) :
    out0_14 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix4 0 h r d)
      = res14 m c (ix4 (tn t) h r d) := by
  rw [out14, pb_fold]
  exact (pb_apply m c t r ⟨256 + 64 * h.val + d.val, by omega⟩).trans (na_apply m c t h r d 0 ⟨256 + 64 * h.val + d.val, by omega⟩ rfl)

/-- What is written back there agrees with the neighbourhood attention's queries. -/
theorem flushed14_eq (t : Fin cfg0.N) (_ : (cfg0.win 14).flush t = true) :
    (dats m 0 c).flushed 14 t = ((cfg0.win 14).blk t).view.read (Elt Ideal) (res14 m c) := by
  rw [Value.flushed14]
  exact funext (block4 (e := fun y => ((cfg0.win 14).blk t).view.emb y) (index14 t) (fun _ => rfl) (fun _ => rfl) (fun _ => rfl)
    (fun _ => rfl) (block14 m c t))

/-- After the grid the array holds the neighbourhood attention's queries. -/
theorem final14 : (dats m 0 c).arrAt 14 cfg0.N = res14 m c :=
  (dats m 0 c).arrAt_eq_of_cover 14 (res14 m c) (flushed14_eq m c) fun z => by
    obtain ⟨t, ht⟩ : ∃ t : Fin cfg0.N, t.val = (z 0).val := ⟨⟨(z 0).val, (z 0).isLt⟩, rfl⟩
    refine ⟨t, flush0_14 t, ?_⟩
    show z ∈ ((View.whole main_v92_1).slice (win0_14.rect t)).set
    rw [View.set_slice_whole, Rect.mem_set_unit]
    exact cover4 z (ht ▸ index14 t)

/-! ## Its keys. -/

/-- Point `t` writes the neighbourhood attention's keys at its tile. -/
theorem index15 : ∀ t : Fin cfg0.N, win0_15.index t = ![t.val, 0, 0, 0] :=
  (by decide +kernel : ∀ t : Fin grid0.N, win0_15.index t = ![t.val, 0, 0, 0])

/-- What the body computes there is the tile of the neighbourhood attention's keys. -/
theorem block15 (t : Fin cfg0.N) (h : Fin 4) (r : Fin 256) (d : Fin 64) :
    out0_15 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix4 0 h r d)
      = res15 m c (ix4 (tn t) h r d) := by
  rw [out15, pb_fold]
  exact (pb_apply m c t r ⟨512 + 64 * h.val + d.val, by omega⟩).trans (na_apply m c t h r d 1 ⟨512 + 64 * h.val + d.val, by omega⟩ rfl)

/-- What is written back there agrees with the neighbourhood attention's keys. -/
theorem flushed15_eq (t : Fin cfg0.N) (_ : (cfg0.win 15).flush t = true) :
    (dats m 0 c).flushed 15 t = ((cfg0.win 15).blk t).view.read (Elt Ideal) (res15 m c) := by
  rw [Value.flushed15]
  exact funext (block4 (e := fun y => ((cfg0.win 15).blk t).view.emb y) (index15 t) (fun _ => rfl) (fun _ => rfl) (fun _ => rfl)
    (fun _ => rfl) (block15 m c t))

/-- After the grid the array holds the neighbourhood attention's keys. -/
theorem final15 : (dats m 0 c).arrAt 15 cfg0.N = res15 m c :=
  (dats m 0 c).arrAt_eq_of_cover 15 (res15 m c) (flushed15_eq m c) fun z => by
    obtain ⟨t, ht⟩ : ∃ t : Fin cfg0.N, t.val = (z 0).val := ⟨⟨(z 0).val, (z 0).isLt⟩, rfl⟩
    refine ⟨t, flush0_15 t, ?_⟩
    show z ∈ ((View.whole main_v92_2).slice (win0_15.rect t)).set
    rw [View.set_slice_whole, Rect.mem_set_unit]
    exact cover4 z (ht ▸ index15 t)

/-! ## Its values. -/

/-- Point `t` writes the neighbourhood attention's values at its tile. -/
theorem index16 : ∀ t : Fin cfg0.N, win0_16.index t = ![t.val, 0, 0, 0] :=
  (by decide +kernel : ∀ t : Fin grid0.N, win0_16.index t = ![t.val, 0, 0, 0])

/-- What the body computes there is the tile of the neighbourhood attention's values. -/
theorem block16 (t : Fin cfg0.N) (h : Fin 4) (r : Fin 256) (d : Fin 64) :
    out0_16 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix4 0 h r d)
      = res16 m c (ix4 (tn t) h r d) := by
  rw [out16, pb_fold]
  exact (pb_apply m c t r ⟨768 + 64 * h.val + d.val, by omega⟩).trans (na_apply m c t h r d 2 ⟨768 + 64 * h.val + d.val, by omega⟩ rfl)

/-- What is written back there agrees with the neighbourhood attention's values. -/
theorem flushed16_eq (t : Fin cfg0.N) (_ : (cfg0.win 16).flush t = true) :
    (dats m 0 c).flushed 16 t = ((cfg0.win 16).blk t).view.read (Elt Ideal) (res16 m c) := by
  rw [Value.flushed16]
  exact funext (block4 (e := fun y => ((cfg0.win 16).blk t).view.emb y) (index16 t) (fun _ => rfl) (fun _ => rfl) (fun _ => rfl)
    (fun _ => rfl) (block16 m c t))

/-- After the grid the array holds the neighbourhood attention's values. -/
theorem final16 : (dats m 0 c).arrAt 16 cfg0.N = res16 m c :=
  (dats m 0 c).arrAt_eq_of_cover 16 (res16 m c) (flushed16_eq m c) fun z => by
    obtain ⟨t, ht⟩ : ∃ t : Fin cfg0.N, t.val = (z 0).val := ⟨⟨(z 0).val, (z 0).isLt⟩, rfl⟩
    refine ⟨t, flush0_16 t, ?_⟩
    show z ∈ ((View.whole main_v92_3).slice (win0_16.rect t)).set
    rw [View.set_slice_whole, Rect.mem_set_unit]
    exact cover4 z (ht ▸ index16 t)

/-! ## The latent attention's queries. -/

/-- Point `t` writes the latent attention's queries at its tile. -/
theorem index17 : ∀ t : Fin cfg0.N, win0_17.index t = ![t.val, 0, 0, 0] :=
  (by decide +kernel : ∀ t : Fin grid0.N, win0_17.index t = ![t.val, 0, 0, 0])

/-- What the body computes there is the tile of the latent attention's queries. -/
theorem block17 (t : Fin cfg0.N) (h : Fin 8) (r : Fin 256) (d : Fin 128) :
    out0_17 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix4 0 h r d)
      = res17 m c (ix4 (tn t) h r d) := by
  rw [out17, pb_fold]
  exact query_apply m c t r h d

/-- What is written back there agrees with the latent attention's queries. -/
theorem flushed17_eq (t : Fin cfg0.N) (_ : (cfg0.win 17).flush t = true) :
    (dats m 0 c).flushed 17 t = ((cfg0.win 17).blk t).view.read (Elt Ideal) (res17 m c) := by
  rw [Value.flushed17]
  exact funext (block4 (e := fun y => ((cfg0.win 17).blk t).view.emb y) (index17 t) (fun _ => rfl) (fun _ => rfl) (fun _ => rfl)
    (fun _ => rfl) (block17 m c t))

/-- After the grid the array holds the latent attention's queries. -/
theorem final17 : (dats m 0 c).arrAt 17 cfg0.N = res17 m c :=
  (dats m 0 c).arrAt_eq_of_cover 17 (res17 m c) (flushed17_eq m c) fun z => by
    obtain ⟨t, ht⟩ : ∃ t : Fin cfg0.N, t.val = (z 0).val := ⟨⟨(z 0).val, (z 0).isLt⟩, rfl⟩
    refine ⟨t, flush0_17 t, ?_⟩
    show z ∈ ((View.whole main_v92_4).slice (win0_17.rect t)).set
    rw [View.set_slice_whole, Rect.mem_set_unit]
    exact cover4 z (ht ▸ index17 t)

/-! ## Its keys. -/

/-- Point `t` writes the latent attention's keys at its tile. -/
theorem index18 : ∀ t : Fin cfg0.N, win0_18.index t = ![t.val, 0, 0, 0] :=
  (by decide +kernel : ∀ t : Fin grid0.N, win0_18.index t = ![t.val, 0, 0, 0])

/-- What the body computes there is the tile of the latent attention's keys. -/
theorem block18 (t : Fin cfg0.N) (h : Fin 8) (r : Fin 256) (d : Fin 128) :
    out0_18 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix4 0 h r d)
      = res18 m c (ix4 (tn t) h r d) := by
  rw [out18, pb_fold]
  exact key_apply m c t r h d

/-- What is written back there agrees with the latent attention's keys. -/
theorem flushed18_eq (t : Fin cfg0.N) (_ : (cfg0.win 18).flush t = true) :
    (dats m 0 c).flushed 18 t = ((cfg0.win 18).blk t).view.read (Elt Ideal) (res18 m c) := by
  rw [Value.flushed18]
  exact funext (block4 (e := fun y => ((cfg0.win 18).blk t).view.emb y) (index18 t) (fun _ => rfl) (fun _ => rfl) (fun _ => rfl)
    (fun _ => rfl) (block18 m c t))

/-- After the grid the array holds the latent attention's keys. -/
theorem final18 : (dats m 0 c).arrAt 18 cfg0.N = res18 m c :=
  (dats m 0 c).arrAt_eq_of_cover 18 (res18 m c) (flushed18_eq m c) fun z => by
    obtain ⟨t, ht⟩ : ∃ t : Fin cfg0.N, t.val = (z 0).val := ⟨⟨(z 0).val, (z 0).isLt⟩, rfl⟩
    refine ⟨t, flush0_18 t, ?_⟩
    show z ∈ ((View.whole main_v92_5).slice (win0_18.rect t)).set
    rw [View.set_slice_whole, Rect.mem_set_unit]
    exact cover4 z (ht ▸ index18 t)

/-! ## Its values. -/

/-- Point `t` writes the latent attention's values at its tile. -/
theorem index19 : ∀ t : Fin cfg0.N, win0_19.index t = ![t.val, 0, 0, 0] :=
  (by decide +kernel : ∀ t : Fin grid0.N, win0_19.index t = ![t.val, 0, 0, 0])

/-- What the body computes there is the tile of the latent attention's values. -/
theorem block19 (t : Fin cfg0.N) (h : Fin 8) (r : Fin 256) (d : Fin 64) :
    out0_19 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix4 0 h r d)
      = res19 m c (ix4 (tn t) h r d) := by
  rw [out19, pb_fold]
  exact value_apply m c t r h d

/-- What is written back there agrees with the latent attention's values. -/
theorem flushed19_eq (t : Fin cfg0.N) (_ : (cfg0.win 19).flush t = true) :
    (dats m 0 c).flushed 19 t = ((cfg0.win 19).blk t).view.read (Elt Ideal) (res19 m c) := by
  rw [Value.flushed19]
  exact funext (block4 (e := fun y => ((cfg0.win 19).blk t).view.emb y) (index19 t) (fun _ => rfl) (fun _ => rfl) (fun _ => rfl)
    (fun _ => rfl) (block19 m c t))

/-- After the grid the array holds the latent attention's values. -/
theorem final19 : (dats m 0 c).arrAt 19 cfg0.N = res19 m c :=
  (dats m 0 c).arrAt_eq_of_cover 19 (res19 m c) (flushed19_eq m c) fun z => by
    obtain ⟨t, ht⟩ : ∃ t : Fin cfg0.N, t.val = (z 0).val := ⟨⟨(z 0).val, (z 0).isLt⟩, rfl⟩
    refine ⟨t, flush0_19 t, ?_⟩
    show z ∈ ((View.whole main_v92_6).slice (win0_19.rect t)).set
    rw [View.set_slice_whole, Rect.mem_set_unit]
    exact cover4 z (ht ▸ index19 t)

/-! ## The first columns. -/

/-- Point `t` writes the first 256 columns at its tile. -/
theorem index13 : ∀ t : Fin cfg0.N, win0_13.index t = ![t.val, 0] :=
  (by decide +kernel : ∀ t : Fin grid0.N, win0_13.index t = ![t.val, 0])

/-- What the body computes there is the tile of the first 256 columns. -/
theorem block13 (t : Fin cfg0.N) (r : Fin 256) (j : Fin 256) :
    out0_13 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix2 r j)
      = res13 m c (ix2 (tk t r) j) := by
  rw [out13, pb_fold]
  exact pb_apply m c t r ⟨j.val, by omega⟩

/-- What is written back there agrees with the first 256 columns. -/
theorem flushed13_eq (t : Fin cfg0.N) (_ : (cfg0.win 13).flush t = true) :
    (dats m 0 c).flushed 13 t = ((cfg0.win 13).blk t).view.read (Elt Ideal) (res13 m c) := by
  rw [Value.flushed13]
  exact funext (block2 (e := fun y => ((cfg0.win 13).blk t).view.emb y) (index13 t) (fun r => (tk t r).isLt) (fun _ => rfl)
    (fun _ => rfl) (block13 m c t))

/-- After the grid the array holds the first 256 columns. -/
theorem final13 : (dats m 0 c).arrAt 13 cfg0.N = res13 m c :=
  (dats m 0 c).arrAt_eq_of_cover 13 (res13 m c) (flushed13_eq m c) fun z => by
    obtain ⟨t, ht⟩ : ∃ t : Fin cfg0.N, t.val = (z 0).val / 256 := ⟨⟨(z 0).val / 256, Nat.div_lt_of_lt_mul (z 0).isLt⟩, rfl⟩
    refine ⟨t, flush0_13 t, ?_⟩
    show z ∈ ((View.whole main_v92_0).slice (win0_13.rect t)).set
    rw [View.set_slice_whole, Rect.mem_set_unit]
    exact cover2 z (ht ▸ index13 t)

/-! ## The cache. -/

/-- Point `t` writes the cache's rows at its tile. -/
theorem index20 : ∀ t : Fin cfg0.N, win0_20.index t = ![t.val, 0] :=
  (by decide +kernel : ∀ t : Fin grid0.N, win0_20.index t = ![t.val, 0])

/-- What the body computes there is the tile of the cache's rows. -/
theorem block20 (t : Fin cfg0.N) (r : Fin 256) (j : Fin 160) :
    out0_20 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix2 r j)
      = res20 m c (ix2 (tk t r) j) := by
  rw [out20, pb_fold]
  exact cache_apply m c t r j

/-- What is written back there agrees with the cache's rows. -/
theorem flushed20_eq (t : Fin cfg0.N) (_ : (cfg0.win 20).flush t = true) :
    (dats m 0 c).flushed 20 t = ((cfg0.win 20).blk t).view.read (Elt Ideal) (res20 m c) := by
  rw [Value.flushed20]
  exact funext (block2 (e := fun y => ((cfg0.win 20).blk t).view.emb y) (index20 t) (fun r => (tk t r).isLt) (fun _ => rfl)
    (fun _ => rfl) (block20 m c t))

/-- After the grid the array holds the cache's rows. -/
theorem final20 : (dats m 0 c).arrAt 20 cfg0.N = res20 m c :=
  (dats m 0 c).arrAt_eq_of_cover 20 (res20 m c) (flushed20_eq m c) fun z => by
    obtain ⟨t, ht⟩ : ∃ t : Fin cfg0.N, t.val = (z 0).val / 256 := ⟨⟨(z 0).val / 256, Nat.div_lt_of_lt_mul (z 0).isLt⟩, rfl⟩
    refine ⟨t, flush0_20 t, ?_⟩
    show z ∈ ((View.whole main_v92_7).slice (win0_20.rect t)).set
    rw [View.set_slice_whole, Rect.mem_set_unit]
    exact cover2 z (ht ▸ index20 t)

end Cert.Project
-- ==== Proof.Proj.Ref.lean ====
module

public import proofs.«01_k».proof.Proof.Gen.ProjReferenceIdeal.Read
public import proofs.«01_k».proof.Proof.Proj.Turn
public import Idealize.ShloMosaic.Lib.Pointwise

/-! # What the reference of the projections computes

Each of the eight results at an index. The reference turns the rotary lanes in two runs of sixteen, and each run in two
halves; the context's tokens are not turned. -/

@[expose] public section
set_option maxRecDepth 16384
noncomputable section

namespace Cert.Project
open Idealize.ShloMosaic Idealize.ShloMosaic.TcCoe Idealize.SL.Sem Cert.ProjReferenceIdeal Cert.ProjReferenceIdeal.Read

/-- The row's angle at place `l` and frequency `f`, as the reference makes it; -/
theorem ref_angr (l : Fin 2048) (f : Fin 8) : val_main_v95 (F := Ideal) (ix2 l f) = angle (rowWord l.val) f.val := by
  pointwise [val_main_v95, val_main_v93, val_main_v91, val_main_v77, val_main_v76, val_main_call0_v11, val_main_call0_v6,
    val_main_call0_v3, val_main_v75, val_main_call0_v5, val_main_call0_v4, val_main_call0_v0, val_main_c, val_main_call0_v10,
    val_main_call0_v8, val_main_call0_v7, val_main_call0_v9, val_main_call0_c, val_main_call0_v13, val_main_call0_v2,
    val_main_call0_v1, val_main_call0_v12, val_main_call0_c_0, val_main_v94, val_main_v92, val_main_v89, val_main_v88,
    val_main_cst_13, val_main_v87, val_main_v85, val_main_v84, val_main_v83, val_main_cst_11, val_main_v82, val_main_v81,
    val_main_cst_10, val_main_v80, val_main_v86, val_main_cst_12]
  rfl

/-- and the column's. -/
theorem ref_angc (l : Fin 2048) (f : Fin 8) : val_main_v122 (F := Ideal) (ix2 l f) = angle (colWord l.val) f.val := by
  pointwise [val_main_v122, val_main_v120, val_main_v118, val_main_v79, val_main_v78, val_main_call1_v12, val_main_call1_v11,
    val_main_call1_v8, val_main_call1_v4, val_main_v75, val_main_call1_v3, val_main_call1_v2, val_main_call1_v1,
    val_main_call1_v0, val_main_c_9, val_main_call1_c, val_main_call1_c_0, val_main_call1_v7, val_main_call1_c_2,
    val_main_call1_v10, val_main_call1_v9, val_main_call1_c_3, val_main_call1_v6, val_main_call1_v5, val_main_call1_c_1,
    val_main_call1_v14, val_main_call1_v13, val_main_v121, val_main_v119, val_main_v89, val_main_v88, val_main_cst_13,
    val_main_v87, val_main_v85, val_main_v84, val_main_v83, val_main_cst_11, val_main_v82, val_main_v81, val_main_cst_10,
    val_main_v80, val_main_v86, val_main_cst_12]
  rfl

/-- The reference makes the same row angle again for the queries, -/
theorem ref_angr' : val_main_v187 (F := Ideal) = val_main_v95 (F := Ideal) := rfl

/-- and the same column angle. -/
theorem ref_angc' : val_main_v214 (F := Ideal) = val_main_v122 (F := Ideal) := rfl

variable (x0 : S12288x1024.Idx → EReal) (x1 : S8x6x1024.Idx → EReal) (x2 : S1024.Idx → EReal) (x3 : S1024x1440.Idx → EReal)
  (x4 : S256.Idx → EReal) (x5 : S256x768.Idx → EReal) (x6 : S128.Idx → EReal) (x7 : S128x1024.Idx → EReal)

/-- The shift of a token: entry 0 of its modulation row; -/
theorem ref_shift (t : Fin 12288) (k : Fin 1024) : val_main_v33 (F := Ideal) x1 (ix2 t k) = x1 (ix3 (grp t) 0 k) := by
  pointwise [val_main_v33, val_main_v32, val_main_v31, val_main_v30, val_main_v29, val_main_v28, val_main_v27, val_main_v26, val_main_v25]
  by_cases h : t.val < 8192
  · rw [dif_pos h]
    exact congrArg x1 (congrArg (ix3 · 0 k) (Fin.ext (if_pos h).symm))
  · rw [dif_neg h]
    exact congrArg x1 (congrArg (ix3 · 0 k) (Fin.ext (if_neg h).symm))

/-- and the scale: entry 1. -/
theorem ref_scale (t : Fin 12288) (k : Fin 1024) : val_main_v21 (F := Ideal) x1 (ix2 t k) = x1 (ix3 (grp t) 1 k) := by
  pointwise [val_main_v21, val_main_v20, val_main_v19, val_main_v18, val_main_v17, val_main_v16, val_main_v15, val_main_v14, val_main_v13]
  by_cases h : t.val < 8192
  · rw [dif_pos h]
    exact congrArg x1 (congrArg (ix3 · 1 k) (Fin.ext (if_pos h).symm))
  · rw [dif_neg h]
    exact congrArg x1 (congrArg (ix3 · 1 k) (Fin.ext (if_neg h).symm))

/-- A column of a token after `w_in`. -/
theorem ref_proj (t : Fin 12288) (j : Fin 1440) :
    val_main_v35 (F := Ideal) x0 x1 x2 x3 (ix2 t j) = proj x0 x1 x2 x3 t j := by
  pointwise [val_main_v35, val_main_v34, val_main_v24, val_main_v12, val_main_v9, val_main_v8, val_main_v7, val_main_v6, val_main_v4,
    val_main_v2, val_main_v1, val_main_v0, val_main_cst, val_main_v3, val_main_cst_0, val_main_v5, val_main_cst_1, val_main_v11,
    val_main_v10, val_main_v23, val_main_v22, val_main_cst_2]
  simp only [ref_shift, ref_scale]
  rfl

/-- A column of a token's expanded query. -/
theorem ref_query (t : Fin 12288) (l : Fin 768) :
    val_main_v52 (F := Ideal) x0 x1 x2 x3 x4 x5 (ix2 t l) = query x0 x1 x2 x3 x4 x5 t l := by
  pointwise [val_main_v52, val_main_v51, val_main_v48, val_main_v38, val_main_v47, val_main_v46, val_main_v45, val_main_v43, val_main_v41,
    val_main_v40, val_main_v39, val_main_cst_3, val_main_v42, val_main_cst_4, val_main_v44, val_main_cst_5, val_main_v50,
    val_main_v49]
  simp only [ref_proj]
  rfl

/-- A token's normed latent key and value. -/
theorem ref_latent (t : Fin 12288) (l : Fin 128) :
    val_main_v68 (F := Ideal) x0 x1 x2 x3 x6 (ix2 t l) = latent x0 x1 x2 x3 x6 t l := by
  pointwise [val_main_v68, val_main_v65, val_main_v55, val_main_v54, val_main_v64, val_main_v63, val_main_v62, val_main_v60, val_main_v58,
    val_main_v57, val_main_v56, val_main_cst_6, val_main_v59, val_main_cst_7, val_main_v61, val_main_cst_8, val_main_v67,
    val_main_v66]
  simp only [ref_proj]
  rfl

/-! ### The turned lanes -/

/-- The rotary key of place `l` in sample `n`, before its turn; -/
theorem ref_keyLanes (n : Fin 2) (l : Fin 2048) (c : Fin 32) :
    val_main_v74 (F := Ideal) x0 x1 x2 x3 (ix4 n l 0 c) = rotKey x0 x1 x2 x3 ⟨8192 + (n.val * 2048 + l.val), by omega⟩ c := by
  pointwise [val_main_v74, val_main_v73, val_main_v72, val_main_v69, val_main_v54]
  refine (ref_proj x0 x1 x2 x3 _ _).trans ?_
  exact congrArg (proj x0 x1 x2 x3 _) (Fin.ext (by show 1280 + (128 + c.val) = 1408 + c.val; omega))

/-- and the rotary lanes of its query's head `h`. -/
theorem ref_queryLanes (n : Fin 2) (l : Fin 2048) (h : Fin 8) (c : Fin 32) :
    val_main_v166 (F := Ideal) x0 x1 x2 x3 x4 x5 (ix4 n l h c)
      = query x0 x1 x2 x3 x4 x5 ⟨8192 + (n.val * 2048 + l.val), by omega⟩ ⟨96 * h.val + 64 + c.val, by omega⟩ := by
  pointwise [val_main_v166, val_main_v165, val_main_v164, val_main_v53]
  refine (ref_query x0 x1 x2 x3 x4 x5 _ _).trans ?_
  exact congrArg (query x0 x1 x2 x3 x4 x5 _) (Fin.ext (by show h.val * 96 + (64 + c.val) = 96 * h.val + 64 + c.val; omega))

/-- The key's first sixteen lanes after the reference's turn are those of `turnAt`; -/
theorem ref_keyRow (n : Fin 2) (l : Fin 2048) (u : Fin 16) :
    val_main_v116 (F := Ideal) x0 x1 x2 x3 (ix4 n l 0 u)
      = turnAt (fun c => val_main_v74 (F := Ideal) x0 x1 x2 x3 (ix4 n l 0 c)) l.val ⟨u.val, by omega⟩ := by
  pointwise [val_main_v116, val_main_v108, val_main_v104, val_main_v100, val_main_v90, val_main_v103, val_main_v102, val_main_v97,
    val_main_v96, val_main_v107, val_main_v101, val_main_v106, val_main_v105, val_main_v99, val_main_v98, val_main_v115,
    val_main_v111, val_main_v110, val_main_v109, val_main_v114, val_main_v113, val_main_v112]
  simp only [ref_angr]
  exact turn_row (fun c => val_main_v74 (F := Ideal) x0 x1 x2 x3 (ix4 n l 0 c)) l.val u

/-- so are the last sixteen, -/
theorem ref_keyCol (n : Fin 2) (l : Fin 2048) (u : Fin 16) :
    val_main_v143 (F := Ideal) x0 x1 x2 x3 (ix4 n l 0 u)
      = turnAt (fun c => val_main_v74 (F := Ideal) x0 x1 x2 x3 (ix4 n l 0 c)) l.val ⟨16 + u.val, by omega⟩ := by
  pointwise [val_main_v143, val_main_v135, val_main_v131, val_main_v127, val_main_v117, val_main_v130, val_main_v129, val_main_v124,
    val_main_v123, val_main_v134, val_main_v128, val_main_v133, val_main_v132, val_main_v126, val_main_v125, val_main_v142,
    val_main_v138, val_main_v137, val_main_v136, val_main_v141, val_main_v140, val_main_v139]
  simp only [ref_angc]
  exact turn_col (fun c => val_main_v74 (F := Ideal) x0 x1 x2 x3 (ix4 n l 0 c)) l.val u

/-- the query's first sixteen -/
theorem ref_queryRow (n : Fin 2) (l : Fin 2048) (h : Fin 8) (u : Fin 16) :
    val_main_v208 (F := Ideal) x0 x1 x2 x3 x4 x5 (ix4 n l h u)
      = turnAt (fun c => val_main_v166 (F := Ideal) x0 x1 x2 x3 x4 x5 (ix4 n l h c)) l.val ⟨u.val, by omega⟩ := by
  pointwise [val_main_v208, val_main_v200, val_main_v196, val_main_v192, val_main_v182, val_main_v195, val_main_v194, val_main_v189,
    val_main_v188, val_main_v199, val_main_v193, val_main_v198, val_main_v197, val_main_v191, val_main_v190, val_main_v207,
    val_main_v203, val_main_v202, val_main_v201, val_main_v206, val_main_v205, val_main_v204]
  simp only [ref_angr', ref_angr]
  exact turn_row (fun c => val_main_v166 (F := Ideal) x0 x1 x2 x3 x4 x5 (ix4 n l h c)) l.val u

/-- and the query's last sixteen. -/
theorem ref_queryCol (n : Fin 2) (l : Fin 2048) (h : Fin 8) (u : Fin 16) :
    val_main_v235 (F := Ideal) x0 x1 x2 x3 x4 x5 (ix4 n l h u)
      = turnAt (fun c => val_main_v166 (F := Ideal) x0 x1 x2 x3 x4 x5 (ix4 n l h c)) l.val ⟨16 + u.val, by omega⟩ := by
  pointwise [val_main_v235, val_main_v227, val_main_v223, val_main_v219, val_main_v209, val_main_v222, val_main_v221, val_main_v216,
    val_main_v215, val_main_v226, val_main_v220, val_main_v225, val_main_v224, val_main_v218, val_main_v217, val_main_v234,
    val_main_v230, val_main_v229, val_main_v228, val_main_v233, val_main_v232, val_main_v231]
  simp only [ref_angc', ref_angc]
  exact turn_col (fun c => val_main_v166 (F := Ideal) x0 x1 x2 x3 x4 x5 (ix4 n l h c)) l.val u

/-- The place of a latent token in its sample, and the token of a place. -/
theorem place (t : Fin 12288) (ht : ¬t.val < 8192) :
    (⟨8192 + ((t.val - 8192) / 2048 * 2048 + (t.val - 8192) % 2048), by omega⟩ : Fin 12288) = t := Fin.ext (by
  show 8192 + ((t.val - 8192) / 2048 * 2048 + (t.val - 8192) % 2048) = t.val
  omega)

/-- The turned key of a latent token, all lanes. -/
theorem ref_keyJoin (t : Fin 4096) (c : Fin 32) :
    val_main_v145 (F := Ideal) x0 x1 x2 x3 (ix3 t 0 c) = turnAt (fun c => val_main_v74 (F := Ideal) x0 x1 x2 x3
      (ix4 (⟨t.val / 2048, by omega⟩ : Fin 2) (⟨t.val % 2048, by omega⟩ : Fin 2048) 0 c)) (t.val % 2048) c := by
  obtain ⟨b, hb⟩ : ∃ b, b = turnAt (fun c => val_main_v74 (F := Ideal) x0 x1 x2 x3
      (ix4 (⟨t.val / 2048, by omega⟩ : Fin 2) (⟨t.val % 2048, by omega⟩ : Fin 2048) 0 c)) (t.val % 2048) c := ⟨_, rfl⟩
  rw [← hb]
  pointwise [val_main_v145, val_main_v144]
  rw [hb]
  exact turn_join _ _ c (fun h => ref_keyRow x0 x1 x2 x3 _ _ ⟨c.val, h⟩)
    (fun h => ref_keyCol x0 x1 x2 x3 _ _ ⟨c.val - 16, by omega⟩)

/-- The rotary key of a context token, which is not turned. -/
theorem ref_keyPlain (t : Fin 8192) (c : Fin 32) :
    val_main_v146 (F := Ideal) x0 x1 x2 x3 (ix3 t 0 c) = rotKey x0 x1 x2 x3 ⟨t.val, by omega⟩ c := by
  pointwise [val_main_v146, val_main_v72, val_main_v69, val_main_v54]
  refine (ref_proj x0 x1 x2 x3 _ _).trans ?_
  exact congrArg (proj x0 x1 x2 x3 _) (Fin.ext (by show 1280 + (128 + c.val) = 1408 + c.val; omega))

/-- The turned query lanes of a latent token. -/
theorem ref_queryJoin (t : Fin 4096) (h : Fin 8) (c : Fin 32) :
    val_main_v237 (F := Ideal) x0 x1 x2 x3 x4 x5 (ix3 t h c) = turnAt (fun c => val_main_v166 (F := Ideal) x0 x1 x2 x3 x4 x5
      (ix4 (⟨t.val / 2048, by omega⟩ : Fin 2) (⟨t.val % 2048, by omega⟩ : Fin 2048) h c)) (t.val % 2048) c := by
  obtain ⟨b, hb⟩ : ∃ b, b = turnAt (fun c => val_main_v166 (F := Ideal) x0 x1 x2 x3 x4 x5
      (ix4 (⟨t.val / 2048, by omega⟩ : Fin 2) (⟨t.val % 2048, by omega⟩ : Fin 2048) h c)) (t.val % 2048) c := ⟨_, rfl⟩
  rw [← hb]
  pointwise [val_main_v237, val_main_v236]
  rw [hb]
  exact turn_join _ _ c (fun h' => ref_queryRow x0 x1 x2 x3 x4 x5 _ _ h ⟨c.val, h'⟩)
    (fun h' => ref_queryCol x0 x1 x2 x3 x4 x5 _ _ h ⟨c.val - 16, by omega⟩)

/-- The same lanes of a context token, which are not turned. -/
theorem ref_queryPlain (t : Fin 8192) (h : Fin 8) (c : Fin 32) :
    val_main_v238 (F := Ideal) x0 x1 x2 x3 x4 x5 (ix3 t h c)
      = query x0 x1 x2 x3 x4 x5 ⟨t.val, by omega⟩ ⟨96 * h.val + 64 + c.val, by omega⟩ := by
  pointwise [val_main_v238, val_main_v164, val_main_v53]
  refine (ref_query x0 x1 x2 x3 x4 x5 _ _).trans ?_
  exact congrArg (query x0 x1 x2 x3 x4 x5 _) (Fin.ext (by show h.val * 96 + (64 + c.val) = 96 * h.val + 64 + c.val; omega))

/-- The turned rotary key; -/
theorem ref_turnKey (t : Fin 12288) (c : Fin 32) :
    val_main_v147 (F := Ideal) x0 x1 x2 x3 (ix3 t 0 c) = turn (rotKey x0 x1 x2 x3 t) t.val c := by
  obtain ⟨b, hb⟩ : ∃ b, b = turn (rotKey x0 x1 x2 x3 t) t.val c := ⟨_, rfl⟩
  rw [← hb]
  pointwise [val_main_v147]
  rw [hb]
  unfold turn
  by_cases ht : t.val < 8192
  · rw [dif_pos ht, if_pos ht]
    exact ref_keyPlain x0 x1 x2 x3 _ _
  · rw [dif_neg ht, if_neg ht]
    refine (ref_keyJoin x0 x1 x2 x3 _ _).trans (congrArg (turnAt · _ c) (funext fun c => ?_))
    rw [ref_keyLanes]
    exact congrArg (rotKey x0 x1 x2 x3 · c) (place t ht)

/-- and the turned lanes of a query's head. -/
theorem ref_turnQuery (t : Fin 12288) (h : Fin 8) (c : Fin 32) :
    val_main_v239 (F := Ideal) x0 x1 x2 x3 x4 x5 (ix3 t h c)
      = turn (fun c => query x0 x1 x2 x3 x4 x5 t ⟨96 * h.val + 64 + c.val, by omega⟩) t.val c := by
  obtain ⟨b, hb⟩ : ∃ b, b = turn (fun c : Fin 32 => query x0 x1 x2 x3 x4 x5 t ⟨96 * h.val + 64 + c.val, by omega⟩) t.val c := ⟨_, rfl⟩
  rw [← hb]
  pointwise [val_main_v239]
  rw [hb]
  unfold turn
  by_cases ht : t.val < 8192
  · rw [dif_pos ht, if_pos ht]
    exact ref_queryPlain x0 x1 x2 x3 x4 x5 _ _ _
  · rw [dif_neg ht, if_neg ht]
    refine (ref_queryJoin x0 x1 x2 x3 x4 x5 _ _ _).trans (congrArg (turnAt · _ c) (funext fun c => ?_))
    rw [ref_queryLanes]
    exact congrArg (query x0 x1 x2 x3 x4 x5 · _) (place t ht)

/-! ### The results -/

/-- Token `r` of tile `i`, with the product the other way round. -/
theorem tok_eq (i : Fin 48) (r : Fin 256) : (⟨i.val * 256 + r.val, by omega⟩ : Fin 12288) = tok i r :=
  Fin.ext (by show i.val * 256 + r.val = 256 * i.val + r.val; omega)

/-- The reference's first result: the first 256 columns. -/
theorem ref_u : val_main_v149 (F := Ideal) x0 x1 x2 x3 = uRes x0 x1 x2 x3 := by
  funext z
  obtain ⟨t, j, rfl⟩ : ∃ (t : Fin 12288) (j : Fin 256), z = ix2 t j := ⟨z 0, z 1, eq_ix2 z⟩
  pointwise [val_main_v149]
  exact ref_proj x0 x1 x2 x3 _ _

/-- The second: the neighbourhood attention's queries. -/
theorem ref_naq : val_main_v154 (F := Ideal) x0 x1 x2 x3 = naRes x0 x1 x2 x3 0 := by
  funext z
  obtain ⟨i, h, r, d, rfl⟩ : ∃ (i : Fin 48) (h : Fin 4) (r : Fin 256) (d : Fin 64), z = ix4 i h r d := ⟨z 0, z 1, z 2, z 3, eq_ix4 z⟩
  pointwise [val_main_v154, val_main_v153, val_main_v152, val_main_v151, val_main_v150, val_main_v37, val_main_v36]
  refine (ref_proj x0 x1 x2 x3 _ _).trans (congrArg₂ (proj x0 x1 x2 x3) (tok_eq i r) (Fin.ext ?_))
  show 256 + (h.val * 64 + d.val) = 256 + 256 * 0 + 64 * h.val + d.val
  omega

/-- The third: its keys. -/
theorem ref_nak : val_main_v158 (F := Ideal) x0 x1 x2 x3 = naRes x0 x1 x2 x3 1 := by
  funext z
  obtain ⟨i, h, r, d, rfl⟩ : ∃ (i : Fin 48) (h : Fin 4) (r : Fin 256) (d : Fin 64), z = ix4 i h r d := ⟨z 0, z 1, z 2, z 3, eq_ix4 z⟩
  pointwise [val_main_v158, val_main_v157, val_main_v156, val_main_v155, val_main_v37, val_main_v36]
  refine (ref_proj x0 x1 x2 x3 _ _).trans (congrArg₂ (proj x0 x1 x2 x3) (tok_eq i r) (Fin.ext ?_))
  show 256 + (256 + h.val * 64 + d.val) = 256 + 256 * 1 + 64 * h.val + d.val
  omega

/-- The fourth: its values. -/
theorem ref_nav : val_main_v162 (F := Ideal) x0 x1 x2 x3 = naRes x0 x1 x2 x3 2 := by
  funext z
  obtain ⟨i, h, r, d, rfl⟩ : ∃ (i : Fin 48) (h : Fin 4) (r : Fin 256) (d : Fin 64), z = ix4 i h r d := ⟨z 0, z 1, z 2, z 3, eq_ix4 z⟩
  pointwise [val_main_v162, val_main_v161, val_main_v160, val_main_v159, val_main_v37, val_main_v36]
  refine (ref_proj x0 x1 x2 x3 _ _).trans (congrArg₂ (proj x0 x1 x2 x3) (tok_eq i r) (Fin.ext ?_))
  show 256 + (512 + h.val * 64 + d.val) = 256 + 256 * 2 + 64 * h.val + d.val
  omega

/-- The fifth: the latent attention's queries. -/
theorem ref_mq : val_main_v244 (F := Ideal) x0 x1 x2 x3 x4 x5 = queryRes x0 x1 x2 x3 x4 x5 := by
  funext z
  obtain ⟨i, h, r, d, rfl⟩ : ∃ (i : Fin 48) (h : Fin 8) (r : Fin 256) (d : Fin 128), z = ix4 i h r d := ⟨z 0, z 1, z 2, z 3, eq_ix4 z⟩
  pointwise [val_main_v244, val_main_v243, val_main_v242, val_main_v241, val_main_v163, val_main_v53, val_main_v240, val_main_cst_20]
  show _ = queryAt x0 x1 x2 x3 x4 x5 (tok i r) h d
  unfold queryAt
  by_cases h1 : d.val < 64
  · rw [dif_pos h1, dif_pos h1]
    refine (ref_query x0 x1 x2 x3 x4 x5 _ _).trans (congrArg₂ (query x0 x1 x2 x3 x4 x5) (tok_eq i r) (Fin.ext ?_))
    show h.val * 96 + d.val = 96 * h.val + d.val
    omega
  · rw [dif_neg h1, dif_neg h1]
    by_cases h2 : d.val < 96
    · rw [dif_pos (show d.val - 64 < 32 by omega), dif_pos h2]
      refine (ref_turnQuery x0 x1 x2 x3 x4 x5 _ _ _).trans ?_
      rw [tok_eq]
    · rw [dif_neg (show ¬d.val - 64 < 32 by omega), dif_neg h2]

/-- The sixth: its keys. -/
theorem ref_mk : val_main_v250 (F := Ideal) x0 x1 x2 x3 x6 x7 = keyRes x0 x1 x2 x3 x6 x7 := by
  funext z
  obtain ⟨i, h, r, d, rfl⟩ : ∃ (i : Fin 48) (h : Fin 8) (r : Fin 256) (d : Fin 128), z = ix4 i h r d := ⟨z 0, z 1, z 2, z 3, eq_ix4 z⟩
  pointwise [val_main_v250, val_main_v249, val_main_v248, val_main_v247, val_main_v245, val_main_v71, val_main_v70, val_main_v148,
    val_main_v246, val_main_cst_21]
  show _ = keyAt x0 x1 x2 x3 x6 x7 (tok i r) h d
  unfold keyAt expand
  by_cases h1 : d.val < 64
  · rw [dif_pos h1, dif_pos h1]
    simp only [ref_latent, tok_eq]
    refine Finset.sum_congr rfl fun k _ =>
    congrArg (fun l : Fin 1024 => latent x0 x1 x2 x3 x6 (tok i r) k * x7 (ix2 k l)) (Fin.ext ?_)
    show h.val * 128 + d.val = 128 * h.val + d.val
    omega
  · rw [dif_neg h1, dif_neg h1]
    by_cases h2 : d.val < 96
    · rw [dif_pos (show d.val - 64 < 32 by omega), dif_pos h2]
      refine (ref_turnKey x0 x1 x2 x3 _ _).trans ?_
      rw [tok_eq]
    · rw [dif_neg (show ¬d.val - 64 < 32 by omega), dif_neg h2]

/-- The seventh: its values. -/
theorem ref_mv : val_main_v254 (F := Ideal) x0 x1 x2 x3 x6 x7 = valueRes x0 x1 x2 x3 x6 x7 := by
  funext z
  obtain ⟨i, h, r, d, rfl⟩ : ∃ (i : Fin 48) (h : Fin 8) (r : Fin 256) (d : Fin 64), z = ix4 i h r d := ⟨z 0, z 1, z 2, z 3, eq_ix4 z⟩
  pointwise [val_main_v254, val_main_v253, val_main_v252, val_main_v251, val_main_v71, val_main_v70]
  show _ = valueAt x0 x1 x2 x3 x6 x7 (tok i r) h d
  unfold valueAt expand
  simp only [ref_latent, tok_eq]
  refine Finset.sum_congr rfl fun k _ =>
    congrArg (fun l : Fin 1024 => latent x0 x1 x2 x3 x6 (tok i r) k * x7 (ix2 k l)) (Fin.ext ?_)
  show h.val * 128 + (64 + d.val) = 128 * h.val + 64 + d.val
  omega

/-- The eighth: the cache's rows. -/
theorem ref_ckv : val_main_v255 (F := Ideal) x0 x1 x2 x3 x6 = cacheRes x0 x1 x2 x3 x6 := by
  funext z
  obtain ⟨t, c, rfl⟩ : ∃ (t : Fin 12288) (c : Fin 160), z = ix2 t c := ⟨z 0, z 1, eq_ix2 z⟩
  pointwise [val_main_v255, val_main_v69, val_main_v54]
  show _ = cacheAt x0 x1 x2 x3 x6 t c
  unfold cacheAt
  by_cases h1 : c.val < 128
  · rw [dif_pos h1, dif_pos h1]
    exact ref_latent x0 x1 x2 x3 x6 _ _
  · rw [dif_neg h1, dif_neg h1]
    refine (ref_proj x0 x1 x2 x3 _ _).trans (congrArg (proj x0 x1 x2 x3 _) (Fin.ext ?_))
    show 1280 + (128 + (c.val - 128)) = 1408 + (c.val - 128)
    omega

end Cert.Project
-- ==== Proof.Proj.Claims.lean ====
module

public import proofs.«01_k».proof.Proof.Proj.Array
public import proofs.«01_k».proof.Proof.Proj.Ref
public import proofs.«01_k».proof.Proof.Gen.ProjReferenceIdeal.Run
public import Idealize.ShloMosaic.Lib.Quiescent

/-! # What is claimed of the projections' call

The frame of its reference, and that both leave the same eight arrays. -/

@[expose] public section
set_option maxRecDepth 16384
noncomputable section

namespace Cert.Project
open Idealize.ShloMosaic Idealize.ShloMosaic.TcCoe Idealize.SL.Sem

/-- The reference terminates, keeps its arguments, and has no semaphore that could be left standing. -/
theorem frame_reference : Cert.quiescent_ProjReferenceIdeal := fun m g _ =>
  (θ_run Cert.ProjReferenceIdeal.defs _ _).mono
    (fun r h => ⟨fun c => (h c).2.2.2.2.2.2.2.2, sem_eq_zero_of_no_sems (by decide) r.2⟩)
    (Cert.ProjReferenceIdeal.Value.run (F := Ideal) m g)

/-- The call and its reference leave the same eight arrays, from equal arguments. -/
theorem algebraic : Cert.algebraic_ProjIdeal_ProjReferenceIdeal := by
  intro m g m' g' _ hagree
  refine ⟨fun c => res13 m c, fun c => res14 m c, fun c => res15 m c, fun c => res16 m c, fun c => res17 m c,
    fun c => res18 m c, fun c => res19 m c, fun c => res20 m c, ?_, ?_⟩
  · refine (θ_run Cert.ProjIdeal.defs _ _).mono (fun r h c => ?_) (Cert.ProjIdeal.Value.run_blocks (F := Ideal) m g)
    obtain ⟨h0, h1, h2, h3, h4, h5, h6, h7, hk⟩ := h c
    exact ⟨h0.trans (final13 m c), h1.trans (final14 m c), h2.trans (final15 m c), h3.trans (final16 m c),
      h4.trans (final17 m c), h5.trans (final18 m c), h6.trans (final19 m c), h7.trans (final20 m c), hk⟩
  · refine (θ_run Cert.ProjReferenceIdeal.defs _ _).mono (fun r h c => ?_) (Cert.ProjReferenceIdeal.Value.run (F := Ideal) m' g')
    obtain ⟨h0, h1, h2, h3, h4, h5, h6, h7, hk⟩ := h c
    obtain ⟨a0, a1, a2, a3, a4, a5, a6, a7⟩ := hagree c
    have e0 : StableHlo.launchContents m' c (Proc.devRef .tc Cert.ProjReferenceIdeal.main_arg0) = ax m c := a0
    have e1 : StableHlo.launchContents m' c (Proc.devRef .tc Cert.ProjReferenceIdeal.main_arg1) = am m c := a1
    have e2 : StableHlo.launchContents m' c (Proc.devRef .tc Cert.ProjReferenceIdeal.main_arg2) = ag m c := a2
    have e3 : StableHlo.launchContents m' c (Proc.devRef .tc Cert.ProjReferenceIdeal.main_arg3) = aw m c := a3
    have e4 : StableHlo.launchContents m' c (Proc.devRef .tc Cert.ProjReferenceIdeal.main_arg4) = aqg m c := a4
    have e5 : StableHlo.launchContents m' c (Proc.devRef .tc Cert.ProjReferenceIdeal.main_arg5) = awq m c := a5
    have e6 : StableHlo.launchContents m' c (Proc.devRef .tc Cert.ProjReferenceIdeal.main_arg6) = akg m c := a6
    have e7 : StableHlo.launchContents m' c (Proc.devRef .tc Cert.ProjReferenceIdeal.main_arg7) = awkv m c := a7
    refine ⟨h0.trans ?_, h1.trans ?_, h2.trans ?_, h3.trans ?_, h4.trans ?_, h5.trans ?_, h6.trans ?_, h7.trans ?_, hk⟩
      <;> clear h0 h1 h2 h3 h4 h5 h6 h7 hk
    · rw [Cert.ProjReferenceIdeal.Read.val_main_v149_eq, e0, e1, e2, e3]
      exact ref_u _ _ _ _
    · rw [Cert.ProjReferenceIdeal.Read.val_main_v154_eq, e0, e1, e2, e3]
      exact ref_naq _ _ _ _
    · rw [Cert.ProjReferenceIdeal.Read.val_main_v158_eq, e0, e1, e2, e3]
      exact ref_nak _ _ _ _
    · rw [Cert.ProjReferenceIdeal.Read.val_main_v162_eq, e0, e1, e2, e3]
      exact ref_nav _ _ _ _
    · rw [Cert.ProjReferenceIdeal.Read.val_main_v244_eq, e0, e1, e2, e3, e4, e5]
      exact ref_mq _ _ _ _ _ _
    · rw [Cert.ProjReferenceIdeal.Read.val_main_v250_eq, e0, e1, e2, e3, e6, e7]
      exact ref_mk _ _ _ _ _ _
    · rw [Cert.ProjReferenceIdeal.Read.val_main_v254_eq, e0, e1, e2, e3, e6, e7]
      exact ref_mv _ _ _ _ _ _
    · rw [Cert.ProjReferenceIdeal.Read.val_main_v255_eq, e0, e1, e2, e3, e6]
      exact ref_ckv _ _ _ _ _

end Cert.Project
-- ==== Proof.lean ====
module

public import proofs.«01_k».proof.Defs
public import proofs.«01_k».proof.Proof.Gen.Pre_finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Ref
public import proofs.«01_k».proof.Proof.Gen.Moe
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeReferenceIdeal
public import proofs.«01_k».proof.Proof.Gen.Pre_plan
public import proofs.«01_k».proof.Proof.Gen.MoeReferenceIdeal.Run
public import proofs.«01_k».proof.Proof.Gen.MoeReferenceIdeal.Read
public import proofs.«01_k».proof.Proof.Moe.Claims
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Proj.Claims
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates, keeps its arguments, and has no semaphore that could be left standing. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference leave the same attention: `attn` of the arguments. -/
theorem algebraic : Cert.algebraic_KernelIdeal_ReferenceIdeal_pre_finite := by
  intro m g m' g' hpre hagree
  refine ⟨fun c => Cert.Mla.result m c, ?_, ?_⟩
  · exact (θ_run Cert.KernelIdeal.defs _ _).mono (fun _ h c => ⟨(h c).1.trans (Cert.Mla.final m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    obtain ⟨a0, a1, a2, a3, a4⟩ := hagree c
    obtain ⟨r0, r1, r3⟩ := Cert.Mla.real_of_pre _ _ _ _ _ (hpre c)
    rw [Cert.ReferenceIdeal.Read.val_main_v39_eq, a0, a1, a2, a3, a4]
    exact funext fun y => Cert.Mla.ref_eq _ _ _ _ _ (fun _ _ _ _ => Cert.Mla.score_real (r0 _ _ _ _) (r1 _ _ _ _))
      (fun _ _ _ _ => Cert.Mla.score_real (r0 _ _ _ _) (r3 _ _ _)) y

theorem claim : Cert.Claim :=
  ⟨Cert.Kernel.Gen.facts, Cert.KernelIdeal.Gen.facts, Cert.ReferenceIdeal.Gen.facts, Cert.Moe.Gen.facts, Cert.MoeIdeal.Gen.facts,
    Cert.MoeReferenceIdeal.Gen.facts, Cert.Proj.Gen.facts, Cert.ProjIdeal.Gen.facts, Cert.ProjReferenceIdeal.Gen.facts,
    Cert.Pre_finite.Gen.facts, Cert.Pre_plan.Gen.facts,
    fun m g _ => Cert.Kernel.Gen.frame m g, fun m g _ => Cert.KernelIdeal.Gen.frame m g,
    fun m g _ => Cert.KernelIdeal.Gen.frame m g, frame_reference, fun m g _ => frame_reference m g trivial,
    Cert.Experts.frame_bits, Cert.Experts.frame_ideal, Cert.Experts.frame_reference,
    fun m g _ => Cert.Experts.frame_reference m g trivial,
    fun m g _ => Cert.Proj.Gen.frame m g, fun m g _ => Cert.ProjIdeal.Gen.frame m g, Cert.Project.frame_reference,
    trivial, algebraic, trivial, Cert.Experts.algebraic, trivial, Cert.Project.algebraic⟩

end Cert.Proof

end
